-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_Reference (m : (ℓ : Loc Cert.Reference.nD Cert.Reference.τ Cert.Reference.sig) → Buf (Elt Bits) ℓ) : Prop :=
  True

def Pre_Reference_routed [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2.1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Experts [hPre_counted : Cert.Pre_counted.Facts] (m : (ℓ : Loc Cert.Experts.nD Cert.Experts.τ Cert.Experts.sig) → Buf (Elt Bits) ℓ) : Prop :=
  ∀ c : Dev Cert.Experts.nD,
    (Cert.Pre_counted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_counted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_counted : Cert.Pre_counted.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_counted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_counted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_RefExperts (m : (ℓ : Loc Cert.RefExperts.nD Cert.RefExperts.τ Cert.RefExperts.sig) → Buf (Elt Bits) ℓ) : Prop :=
  True

def Pre_RefExpertsIdeal (m : (ℓ : Loc Cert.RefExpertsIdeal.nD Cert.RefExpertsIdeal.τ Cert.RefExpertsIdeal.sig) → Buf (Elt Ideal) ℓ) : Prop :=
  True

def Pre_RefExpertsIdeal_counted [hPre_counted : Cert.Pre_counted.Facts] (m : (ℓ : Loc Cert.RefExpertsIdeal.nD Cert.RefExpertsIdeal.τ Cert.RefExpertsIdeal.sig) → Buf (Elt Ideal) ℓ) : Prop :=
  ∀ c : Dev Cert.RefExpertsIdeal.nD,
    (Cert.Pre_counted.fn (F := Ideal) (m ((c.tc : Thread Cert.RefExpertsIdeal.nD Cert.RefExpertsIdeal.τ).loc Cert.RefExpertsIdeal.main_arg0)) (m ((c.tc : Thread Cert.RefExpertsIdeal.nD Cert.RefExpertsIdeal.τ).loc Cert.RefExpertsIdeal.main_arg1)) (m ((c.tc : Thread Cert.RefExpertsIdeal.nD Cert.RefExpertsIdeal.τ).loc Cert.RefExpertsIdeal.main_arg2)) (m ((c.tc : Thread Cert.RefExpertsIdeal.nD Cert.RefExpertsIdeal.τ).loc Cert.RefExpertsIdeal.main_arg3)) (m ((c.tc : Thread Cert.RefExpertsIdeal.nD Cert.RefExpertsIdeal.τ).loc Cert.RefExpertsIdeal.main_arg4)) (m ((c.tc : Thread Cert.RefExpertsIdeal.nD Cert.RefExpertsIdeal.τ).loc Cert.RefExpertsIdeal.main_arg5))).1 = (fun _ => 1#1)
    ∧ (Cert.Pre_counted.fn (F := Ideal) (m ((c.tc : Thread Cert.RefExpertsIdeal.nD Cert.RefExpertsIdeal.τ).loc Cert.RefExpertsIdeal.main_arg0)) (m ((c.tc : Thread Cert.RefExpertsIdeal.nD Cert.RefExpertsIdeal.τ).loc Cert.RefExpertsIdeal.main_arg1)) (m ((c.tc : Thread Cert.RefExpertsIdeal.nD Cert.RefExpertsIdeal.τ).loc Cert.RefExpertsIdeal.main_arg2)) (m ((c.tc : Thread Cert.RefExpertsIdeal.nD Cert.RefExpertsIdeal.τ).loc Cert.RefExpertsIdeal.main_arg3)) (m ((c.tc : Thread Cert.RefExpertsIdeal.nD Cert.RefExpertsIdeal.τ).loc Cert.RefExpertsIdeal.main_arg4)) (m ((c.tc : Thread Cert.RefExpertsIdeal.nD Cert.RefExpertsIdeal.τ).loc Cert.RefExpertsIdeal.main_arg5))).2 = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Reference_pre_routed [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference_routed m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_counted : Cert.Pre_counted.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_counted : Cert.Pre_counted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_RefExperts [hRefExperts : Cert.RefExperts.Facts] : Prop :=
  ∀ (m : (ℓ : Loc Cert.RefExperts.nD Cert.RefExperts.τ Cert.RefExperts.sig) → Buf (Elt Bits) ℓ) (g : Dev Cert.RefExperts.nD → PrngReg), Pre_RefExperts m →
    θ_run (Cert.RefExperts.defs (F := Bits)) (onTc (τ := Cert.RefExperts.τ) (Cert.RefExperts.main (F := Bits))) ⟨m, fun _ => 0, g⟩ (fun r => (∀ c : Dev Cert.RefExperts.nD,
      r.2.mem ((c.tc : Thread Cert.RefExperts.nD Cert.RefExperts.τ).loc Cert.RefExperts.main_arg0) = m ((c.tc : Thread Cert.RefExperts.nD Cert.RefExperts.τ).loc Cert.RefExperts.main_arg0)
      ∧ r.2.mem ((c.tc : Thread Cert.RefExperts.nD Cert.RefExperts.τ).loc Cert.RefExperts.main_arg1) = m ((c.tc : Thread Cert.RefExperts.nD Cert.RefExperts.τ).loc Cert.RefExperts.main_arg1)
      ∧ r.2.mem ((c.tc : Thread Cert.RefExperts.nD Cert.RefExperts.τ).loc Cert.RefExperts.main_arg2) = m ((c.tc : Thread Cert.RefExperts.nD Cert.RefExperts.τ).loc Cert.RefExperts.main_arg2)
      ∧ r.2.mem ((c.tc : Thread Cert.RefExperts.nD Cert.RefExperts.τ).loc Cert.RefExperts.main_arg3) = m ((c.tc : Thread Cert.RefExperts.nD Cert.RefExperts.τ).loc Cert.RefExperts.main_arg3)
      ∧ r.2.mem ((c.tc : Thread Cert.RefExperts.nD Cert.RefExperts.τ).loc Cert.RefExperts.main_arg4) = m ((c.tc : Thread Cert.RefExperts.nD Cert.RefExperts.τ).loc Cert.RefExperts.main_arg4)
      ∧ r.2.mem ((c.tc : Thread Cert.RefExperts.nD Cert.RefExperts.τ).loc Cert.RefExperts.main_arg5) = m ((c.tc : Thread Cert.RefExperts.nD Cert.RefExperts.τ).loc Cert.RefExperts.main_arg5))
      ∧ r.2.sem = fun _ => 0)

def quiescent_RefExpertsIdeal [hRefExpertsIdeal : Cert.RefExpertsIdeal.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5))
      ∧ r.2.sem = fun _ => 0)

def quiescent_RefExpertsIdeal_pre_counted [hRefExpertsIdeal : Cert.RefExpertsIdeal.Facts] [hPre_counted : Cert.Pre_counted.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal_counted m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3)
      ∧ r.2.mem ((c.tc : Thread Cert.RefExpertsIdeal.nD Cert.RefExpertsIdeal.τ).loc Cert.RefExpertsIdeal.main_arg4) = m ((c.tc : Thread Cert.RefExpertsIdeal.nD Cert.RefExpertsIdeal.τ).loc Cert.RefExpertsIdeal.main_arg4)
      ∧ r.2.mem ((c.tc : Thread Cert.RefExpertsIdeal.nD Cert.RefExpertsIdeal.τ).loc Cert.RefExpertsIdeal.main_arg5) = m ((c.tc : Thread Cert.RefExpertsIdeal.nD Cert.RefExpertsIdeal.τ).loc Cert.RefExpertsIdeal.main_arg5))
      ∧ r.2.sem = fun _ => 0)

def preserves_Kernel_KernelIdeal : Prop :=
  True

def bitexact_Kernel_Reference_on_in_used_blocks [hKernel : Cert.Kernel.Facts] [hReference : Cert.Reference.Facts] [hPre_routed : Cert.Pre_routed.Facts] [hOn_in_used_blocks : Cert.On_in_used_blocks.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v40)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![143360, 8, 128]⟩ : Shape).Idx, (Cert.On_in_used_blocks.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) i = 1#1 → r.2.mem ((c.tc : Thread Cert.Kernel.nD Cert.Kernel.τ).loc Cert.Kernel.main_v40) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![143360, 8, 128]⟩ : Shape).Idx, (Cert.On_in_used_blocks.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) i = 1#1 → r.2.mem ((c.tc : Thread Cert.Reference.nD Cert.Reference.τ).loc Cert.Reference.main_v75) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def algebraic_KernelIdeal_ReferenceIdeal_on_in_used_blocks [hKernelIdeal : Cert.KernelIdeal.Facts] [hReferenceIdeal : Cert.ReferenceIdeal.Facts] [hPre_routed : Cert.Pre_routed.Facts] [hOn_in_used_blocks : Cert.On_in_used_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![143360, 8, 128]⟩ : Shape).Idx, (Cert.On_in_used_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v40) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![143360, 8, 128]⟩ : Shape).Idx, (Cert.On_in_used_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v75) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_RefExpertsIdeal_on_in_expert_blocks [hExpertsIdeal : Cert.ExpertsIdeal.Facts] [hRefExpertsIdeal : Cert.RefExpertsIdeal.Facts] [hPre_counted : Cert.Pre_counted.Facts] [hOn_in_expert_blocks : Cert.On_in_expert_blocks.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.RefExpertsIdeal.nD Cert.RefExpertsIdeal.τ Cert.RefExpertsIdeal.sig) → Buf (Elt Ideal) ℓ) (g' : Dev Cert.RefExpertsIdeal.nD → PrngReg), Pre_ExpertsIdeal m →
    (∀ c : Dev Cert.ExpertsIdeal.nD,
      m' ((c.tc : Thread Cert.RefExpertsIdeal.nD Cert.RefExpertsIdeal.τ).loc Cert.RefExpertsIdeal.main_arg0) = m ((c.tc : Thread Cert.ExpertsIdeal.nD Cert.ExpertsIdeal.τ).loc Cert.ExpertsIdeal.main_arg0)
      ∧ m' ((c.tc : Thread Cert.RefExpertsIdeal.nD Cert.RefExpertsIdeal.τ).loc Cert.RefExpertsIdeal.main_arg1) = m ((c.tc : Thread Cert.ExpertsIdeal.nD Cert.ExpertsIdeal.τ).loc Cert.ExpertsIdeal.main_arg1)
      ∧ m' ((c.tc : Thread Cert.RefExpertsIdeal.nD Cert.RefExpertsIdeal.τ).loc Cert.RefExpertsIdeal.main_arg2) = m ((c.tc : Thread Cert.ExpertsIdeal.nD Cert.ExpertsIdeal.τ).loc Cert.ExpertsIdeal.main_arg2)
      ∧ m' ((c.tc : Thread Cert.RefExpertsIdeal.nD Cert.RefExpertsIdeal.τ).loc Cert.RefExpertsIdeal.main_arg3) = m ((c.tc : Thread Cert.ExpertsIdeal.nD Cert.ExpertsIdeal.τ).loc Cert.ExpertsIdeal.main_arg3)
      ∧ m' ((c.tc : Thread Cert.RefExpertsIdeal.nD Cert.RefExpertsIdeal.τ).loc Cert.RefExpertsIdeal.main_arg4) = m ((c.tc : Thread Cert.ExpertsIdeal.nD Cert.ExpertsIdeal.τ).loc Cert.ExpertsIdeal.main_arg4)
      ∧ m' ((c.tc : Thread Cert.RefExpertsIdeal.nD Cert.RefExpertsIdeal.τ).loc Cert.RefExpertsIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v31)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨3, ![143360, 8, 128]⟩ : Shape).Idx, (Cert.On_in_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v31) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.RefExpertsIdeal.defs (F := Ideal)) (onTc (τ := Cert.RefExpertsIdeal.τ) (Cert.RefExpertsIdeal.main (F := Ideal))) ⟨m', fun _ => 0, g'⟩ (fun r => ∀ c : Dev Cert.RefExpertsIdeal.nD,
          (∀ i : (⟨3, ![143360, 8, 128]⟩ : Shape).Idx, (Cert.On_in_expert_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.RefExpertsIdeal.nD Cert.RefExpertsIdeal.τ).loc Cert.RefExpertsIdeal.main_v75) i = v0 c i)
          ∧ r.2.mem ((c.tc : Thread Cert.RefExpertsIdeal.nD Cert.RefExpertsIdeal.τ).loc Cert.RefExpertsIdeal.main_arg0) = m' ((c.tc : Thread Cert.RefExpertsIdeal.nD Cert.RefExpertsIdeal.τ).loc Cert.RefExpertsIdeal.main_arg0)
          ∧ r.2.mem ((c.tc : Thread Cert.RefExpertsIdeal.nD Cert.RefExpertsIdeal.τ).loc Cert.RefExpertsIdeal.main_arg1) = m' ((c.tc : Thread Cert.RefExpertsIdeal.nD Cert.RefExpertsIdeal.τ).loc Cert.RefExpertsIdeal.main_arg1)
          ∧ r.2.mem ((c.tc : Thread Cert.RefExpertsIdeal.nD Cert.RefExpertsIdeal.τ).loc Cert.RefExpertsIdeal.main_arg2) = m' ((c.tc : Thread Cert.RefExpertsIdeal.nD Cert.RefExpertsIdeal.τ).loc Cert.RefExpertsIdeal.main_arg2)
          ∧ r.2.mem ((c.tc : Thread Cert.RefExpertsIdeal.nD Cert.RefExpertsIdeal.τ).loc Cert.RefExpertsIdeal.main_arg3) = m' ((c.tc : Thread Cert.RefExpertsIdeal.nD Cert.RefExpertsIdeal.τ).loc Cert.RefExpertsIdeal.main_arg3)
          ∧ r.2.mem ((c.tc : Thread Cert.RefExpertsIdeal.nD Cert.RefExpertsIdeal.τ).loc Cert.RefExpertsIdeal.main_arg4) = m' ((c.tc : Thread Cert.RefExpertsIdeal.nD Cert.RefExpertsIdeal.τ).loc Cert.RefExpertsIdeal.main_arg4)
          ∧ r.2.mem ((c.tc : Thread Cert.RefExpertsIdeal.nD Cert.RefExpertsIdeal.τ).loc Cert.RefExpertsIdeal.main_arg5) = m' ((c.tc : Thread Cert.RefExpertsIdeal.nD Cert.RefExpertsIdeal.τ).loc Cert.RefExpertsIdeal.main_arg5))

def Claim : Prop :=
  ∃ (hKernel : Cert.Kernel.Facts) (hKernelIdeal : Cert.KernelIdeal.Facts) (hReference : Cert.Reference.Facts) (hReferenceIdeal : Cert.ReferenceIdeal.Facts) (hExperts : Cert.Experts.Facts) (hExpertsIdeal : Cert.ExpertsIdeal.Facts) (hRefExperts : Cert.RefExperts.Facts) (hRefExpertsIdeal : Cert.RefExpertsIdeal.Facts) (hPre_routed : Cert.Pre_routed.Facts) (hPre_counted : Cert.Pre_counted.Facts) (hOn_in_used_blocks : Cert.On_in_used_blocks.Facts) (hOn_in_expert_blocks : Cert.On_in_expert_blocks.Facts),
    quiescent_Kernel (hKernel := hKernel) (hPre_routed := hPre_routed)
    ∧ quiescent_KernelIdeal (hKernelIdeal := hKernelIdeal) (hPre_routed := hPre_routed)
    ∧ quiescent_Reference (hReference := hReference)
    ∧ quiescent_Reference_pre_routed (hReference := hReference) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Experts (hExperts := hExperts) (hPre_counted := hPre_counted)
    ∧ quiescent_ExpertsIdeal (hExpertsIdeal := hExpertsIdeal) (hPre_counted := hPre_counted)
    ∧ quiescent_RefExperts (hRefExperts := hRefExperts)
    ∧ quiescent_RefExpertsIdeal (hRefExpertsIdeal := hRefExpertsIdeal)
    ∧ quiescent_RefExpertsIdeal_pre_counted (hRefExpertsIdeal := hRefExpertsIdeal) (hPre_counted := hPre_counted)
    ∧ preserves_Kernel_KernelIdeal
    ∧ bitexact_Kernel_Reference_on_in_used_blocks (hKernel := hKernel) (hReference := hReference) (hPre_routed := hPre_routed) (hOn_in_used_blocks := hOn_in_used_blocks)
    ∧ algebraic_KernelIdeal_ReferenceIdeal_on_in_used_blocks (hKernelIdeal := hKernelIdeal) (hReferenceIdeal := hReferenceIdeal) (hPre_routed := hPre_routed) (hOn_in_used_blocks := hOn_in_used_blocks)
    ∧ preserves_Experts_ExpertsIdeal
    ∧ algebraic_ExpertsIdeal_RefExpertsIdeal_on_in_expert_blocks (hExpertsIdeal := hExpertsIdeal) (hRefExpertsIdeal := hRefExpertsIdeal) (hPre_counted := hPre_counted) (hOn_in_expert_blocks := hOn_in_expert_blocks)
-- ==== On_in_expert_blocks.lean ====
abbrev S1x32 : Shape := ⟨2, ![1, 32]⟩
abbrev S143360x8x128 : Shape := ⟨3, ![143360, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32 : Shape := ⟨1, ![32]⟩
abbrev S_ : Shape := ⟨0, ![]⟩

class Facts : Prop where
  shapeCasts_S1x32_S32 : S1x32.ShapeCasts S32
  bcast_S_S32 : S_.BroadcastsInDim S32 (![] : Fin 0 → Fin S32.rank)
  reducesTo_S32_S_d0 : S32.ReducesTo [0] S_
  h_S_ : 0 < S_.numel
  bcast_S_S143360x8x128 : S_.BroadcastsInDim S143360x8x128 (![] : Fin 0 → Fin S143360x8x128.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn {F : FTy → Type} [FloatOps F] (main_arg0 : FVec F S1x32 .f32) (main_arg1 : FVec F S143360x8x128 .f32) (main_arg2 : FVec F S32x1024x2048 .f32) (main_arg3 : FVec F S32x2048 .f32) (main_arg4 : FVec F S32x1024x1024 .f32) (main_arg5 : FVec F S32x1024 .f32) : IVec S143360x8x128 1 :=
  let main_v0 : FVec F S32 .f32 := shapeCast S32 main_arg0 shapeCasts_S1x32_S32
  let main_v1 : IVec S32 32 := fptosi 32 main_v0
  let main_c : IVec S_ 32 := constantI S_ 32 256#32
  let main_v2 : IVec S32 32 := broadcastInDim S32 ![] bcast_S_S32 main_c
  let main_v3 : IVec S32 32 := addi main_v1 main_v2
  let main_c_0 : IVec S_ 32 := constantI S_ 32 1#32
  let main_v4 : IVec S32 32 := broadcastInDim S32 ![] bcast_S_S32 main_c_0
  let main_v5 : IVec S32 32 := subi main_v3 main_v4
  let main_c_1 : IVec S_ 32 := constantI S_ 32 256#32
  let main_v6 : IVec S32 32 := fn_floor_divide (F := F) main_v5 main_c_1
  let main_c_2 : IVec S_ 32 := constantI S_ 32 256#32
  let main_v7 : IVec S32 32 := broadcastInDim S32 ![] bcast_S_S32 main_c_2
  let main_v8 : IVec S32 32 := muli main_v6 main_v7
  let main_c_3 : IVec S_ 32 := constantI S_ 32 0#32
  let main_v9 : IVec S_ 32 := (fun x v => Host.reduce IntOp.addi x v reducesTo_S32_S_d0 h_S_) main_v8 main_c_3
  let main_v10 : IVec S143360x8x128 32 := iotaInDim S143360x8x128 32 0
  let main_v11 : IVec S143360x8x128 32 := broadcastInDim S143360x8x128 ![] bcast_S_S143360x8x128 main_v9
  let main_v12 : IVec S143360x8x128 1 := cmpi .slt main_v10 main_v11
  main_v12
-- ==== On_in_used_blocks.lean ====
abbrev S1x32 : Shape := ⟨2, ![1, 32]⟩
abbrev S33792x4 : Shape := ⟨2, ![33792, 4]⟩
abbrev S33792x8x128 : Shape := ⟨3, ![33792, 8, 128]⟩
abbrev S32 : Shape := ⟨1, ![32]⟩
abbrev S_ : Shape := ⟨0, ![]⟩
abbrev S143360x8x128 : Shape := ⟨3, ![143360, 8, 128]⟩

class Facts : Prop where
  shapeCasts_S1x32_S32 : S1x32.ShapeCasts S32
  bcast_S_S32 : S_.BroadcastsInDim S32 (![] : Fin 0 → Fin S32.rank)
  reducesTo_S32_S_d0 : S32.ReducesTo [0] S_
  h_S_ : 0 < S_.numel
  bcast_S_S143360x8x128 : S_.BroadcastsInDim S143360x8x128 (![] : Fin 0 → Fin S143360x8x128.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn {F : FTy → Type} [FloatOps F] (main_arg0 : FVec F S1x32 .f32) (main_arg1 : IVec S33792x4 32) (main_arg2 : IVec S33792x4 32) (main_arg3 : FVec F S33792x8x128 .f32) : IVec S143360x8x128 1 :=
  let main_v0 : FVec F S32 .f32 := shapeCast S32 main_arg0 shapeCasts_S1x32_S32
  let main_v1 : IVec S32 32 := fptosi 32 main_v0
  let main_c : IVec S_ 32 := constantI S_ 32 256#32
  let main_v2 : IVec S32 32 := broadcastInDim S32 ![] bcast_S_S32 main_c
  let main_v3 : IVec S32 32 := addi main_v1 main_v2
  let main_c_0 : IVec S_ 32 := constantI S_ 32 1#32
  let main_v4 : IVec S32 32 := broadcastInDim S32 ![] bcast_S_S32 main_c_0
  let main_v5 : IVec S32 32 := subi main_v3 main_v4
  let main_c_1 : IVec S_ 32 := constantI S_ 32 256#32
  let main_v6 : IVec S32 32 := fn_floor_divide (F := F) main_v5 main_c_1
  let main_c_2 : IVec S_ 32 := constantI S_ 32 256#32
  let main_v7 : IVec S32 32 := broadcastInDim S32 ![] bcast_S_S32 main_c_2
  let main_v8 : IVec S32 32 := muli main_v6 main_v7
  let main_c_3 : IVec S_ 32 := constantI S_ 32 0#32
  let main_v9 : IVec S_ 32 := (fun x v => Host.reduce IntOp.addi x v reducesTo_S32_S_d0 h_S_) main_v8 main_c_3
  let main_v10 : IVec S143360x8x128 32 := iotaInDim S143360x8x128 32 0
  let main_v11 : IVec S143360x8x128 32 := broadcastInDim S143360x8x128 ![] bcast_S_S143360x8x128 main_v9
  let main_v12 : IVec S143360x8x128 1 := cmpi .slt main_v10 main_v11
  main_v12
-- ==== Pre_counted.lean ====
abbrev S1x32 : Shape := ⟨2, ![1, 32]⟩
abbrev S143360x8x128 : Shape := ⟨3, ![143360, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32 : Shape := ⟨1, ![32]⟩
abbrev S_ : Shape := ⟨0, ![]⟩

class Facts : Prop where
  shapeCasts_S1x32_S32 : S1x32.ShapeCasts S32
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S1x32 .f32) (main_arg1 : FVec F S143360x8x128 .f32) (main_arg2 : FVec F S32x1024x2048 .f32) (main_arg3 : FVec F S32x2048 .f32) (main_arg4 : FVec F S32x1024x1024 .f32) (main_arg5 : FVec F S32x1024 .f32) : IVec S32 1 × IVec S_ 1 :=
  let main_v0 : FVec F S32 .f32 := shapeCast S32 main_arg0 shapeCasts_S1x32_S32
  let main_v1 : IVec S32 32 := fptosi 32 main_v0
  let main_c : IVec S_ 32 := constantI S_ 32 0#32
  let main_v2 : IVec S32 32 := broadcastInDim S32 ![] bcast_S_S32 main_c
  let main_v3 : IVec S32 1 := cmpi .sge main_v1 main_v2
  let main_c_0 : IVec S_ 32 := constantI S_ 32 135168#32
  let main_v4 : IVec S32 32 := broadcastInDim S32 ![] bcast_S_S32 main_c_0
  let main_v5 : IVec S32 1 := cmpi .sle main_v1 main_v4
  let main_v6 : IVec S32 1 := andi main_v3 main_v5
  let main_c_1 : IVec S_ 32 := constantI S_ 32 0#32
  let main_v7 : IVec S_ 32 := (fun x v => Host.reduce IntOp.addi x v reducesTo_S32_S_d0 h_S_) main_v1 main_c_1
  let main_c_2 : IVec S_ 32 := constantI S_ 32 135168#32
  let main_v8 : IVec S_ 1 := cmpi .eq main_v7 main_c_2
  (main_v6, main_v8)
-- ==== Pre_routed.lean ====
abbrev S1x32 : Shape := ⟨2, ![1, 32]⟩
abbrev S33792x4 : Shape := ⟨2, ![33792, 4]⟩
abbrev S33792x8x128 : Shape := ⟨3, ![33792, 8, 128]⟩
abbrev S135168 : Shape := ⟨1, ![135168]⟩
abbrev S135168x1 : Shape := ⟨2, ![135168, 1]⟩
abbrev S32 : Shape := ⟨1, ![32]⟩
abbrev S135168x32 : Shape := ⟨2, ![135168, 32]⟩
abbrev S_ : Shape := ⟨0, ![]⟩

class Facts : Prop where
  shapeCasts_S33792x4_S135168 : S33792x4.ShapeCasts S135168
  bcast_S135168_S135168x1_0 : S135168.BroadcastsInDim S135168x1 (![0] : Fin 1 → Fin S135168x1.rank)
  bcast_S32_S1x32_1 : S32.BroadcastsInDim S1x32 (![1] : Fin 1 → Fin S1x32.rank)
  bcast_S135168x1_S135168x32_0_1 : S135168x1.BroadcastsInDim S135168x32 (![0, 1] : Fin 2 → Fin S135168x32.rank)
  bcast_S1x32_S135168x32_0_1 : S1x32.BroadcastsInDim S135168x32 (![0, 1] : Fin 2 → Fin S135168x32.rank)
  natLt_1_32 : 1 < 32
  bcast_S_S_ : S_.BroadcastsInDim S_ (![] : Fin 0 → Fin S_.rank)
  reduceWindows_S135168x32_S135168x32_w135168s1p135167_0_w1s1p0_0 : S135168x32.ReduceWindows (![135168, 1] : Fin 2 → Nat) ![1, 1] ![135167, 0] ![0, 0] S135168x32
  h_S_ : 0 < S_.numel
  bcast_S_S135168 : S_.BroadcastsInDim S135168 (![] : Fin 0 → Fin S135168.rank)
  shapeCasts_S1x32_S32 : S1x32.ShapeCasts S32
  reducesTo_S135168x32_S32_d0 : S135168x32.ReducesTo [0] S32
  reducesTo_S135168x32_S135168_d1 : S135168x32.ReducesTo [1] S135168

variable [Facts]

def fn_cumsum_0 {F : FTy → Type} [FloatOps F] (arg0 : IVec S135168x32 32) : IVec S135168x32 32 :=
  let c : IVec S_ 32 := constantI S_ 32 0#32
  let v0 : IVec S_ 32 := broadcastInDim S_ ![] bcast_S_S_ c
  let v1 : IVec S135168x32 32 := (fun x v => Host.reduceWindow IntOp.addi ![135168, 1] ![1, 1] ![135167, 0] ![0, 0] x v reduceWindows_S135168x32_S135168x32_w135168s1p135167_0_w1s1p0_0 h_S_) arg0 v0
  v1

def fn_cumsum {F : FTy → Type} [FloatOps F] (arg0 : IVec S135168x32 32) : IVec S135168x32 32 :=
  let v0 : IVec S135168x32 32 := fn_cumsum_0 (F := F) arg0
  v0

def fn_part1 {F : FTy → Type} [FloatOps F] (main_v14 : IVec S135168 1) (main_v18 : IVec S32 1) (main_v19 : IVec S135168 32) (main_v20 : IVec S135168x32 32) : IVec S135168 1 × IVec S32 1 × IVec S135168 1 :=
  let main_c_2 : IVec S_ 32 := constantI S_ 32 0#32
  let main_v21 : IVec S135168 32 := (fun x v => Host.reduce IntOp.addi x v reducesTo_S135168x32_S135168_d1 h_S_) main_v20 main_c_2
  let main_v22 : IVec S135168 1 := cmpi .eq main_v19 main_v21
  (main_v14, main_v18, main_v22)

def fn {F : FTy → Type} [FloatOps F] (main_arg0 : FVec F S1x32 .f32) (main_arg1 : IVec S33792x4 32) (main_arg2 : IVec S33792x4 32) (main_arg3 : FVec F S33792x8x128 .f32) : IVec S135168 1 × IVec S32 1 × IVec S135168 1 :=
  let main_v0 : IVec S135168 32 := shapeCast S135168 main_arg1 shapeCasts_S33792x4_S135168
  let main_v1 : IVec S135168x1 32 := broadcastInDim S135168x1 ![0] bcast_S135168_S135168x1_0 main_v0
  let main_v2 : IVec S32 32 := iotaInDim S32 32 0
  let main_v3 : IVec S1x32 32 := broadcastInDim S1x32 ![1] bcast_S32_S1x32_1 main_v2
  let main_v4 : IVec S135168x32 32 := broadcastInDim S135168x32 ![0, 1] bcast_S135168x1_S135168x32_0_1 main_v1
  let main_v5 : IVec S135168x32 32 := broadcastInDim S135168x32 ![0, 1] bcast_S1x32_S135168x32_0_1 main_v3
  let main_v6 : IVec S135168x32 1 := cmpi .eq main_v4 main_v5
  let main_v7 : IVec S135168x32 32 := (extui 32 · natLt_1_32) main_v6
  let main_v8 : IVec S135168x32 32 := fn_cumsum (F := F) main_v7
  let main_v9 : IVec S135168x32 32 := subi main_v8 main_v7
  let main_c : IVec S_ 32 := constantI S_ 32 0#32
  let main_v10 : IVec S135168 32 := broadcastInDim S135168 ![] bcast_S_S135168 main_c
  let main_v11 : IVec S135168 1 := cmpi .sge main_v0 main_v10
  let main_c_0 : IVec S_ 32 := constantI S_ 32 32#32
  let main_v12 : IVec S135168 32 := broadcastInDim S135168 ![] bcast_S_S135168 main_c_0
  let main_v13 : IVec S135168 1 := cmpi .slt main_v0 main_v12
  let main_v14 : IVec S135168 1 := andi main_v11 main_v13
  let main_v15 : FVec F S32 .f32 := shapeCast S32 main_arg0 shapeCasts_S1x32_S32
  let main_v16 : IVec S32 32 := fptosi 32 main_v15
  let main_c_1 : IVec S_ 32 := constantI S_ 32 0#32
  let main_v17 : IVec S32 32 := (fun x v => Host.reduce IntOp.addi x v reducesTo_S135168x32_S32_d0 h_S_) main_v7 main_c_1
  let main_v18 : IVec S32 1 := cmpi .eq main_v16 main_v17
  let main_v19 : IVec S135168 32 := shapeCast S135168 main_arg2 shapeCasts_S33792x4_S135168
  let main_v20 : IVec S135168x32 32 := muli main_v7 main_v9
  fn_part1 (F := F) main_v14 main_v18 main_v19 main_v20
-- ==== Kernel.lean ====
abbrev S1x32 : Shape := ⟨2, ![1, 32]⟩
abbrev S33792x4 : Shape := ⟨2, ![33792, 4]⟩
abbrev S33792x8x128 : Shape := ⟨3, ![33792, 8, 128]⟩
abbrev S32 : Shape := ⟨1, ![32]⟩
abbrev S_ : Shape := ⟨0, ![]⟩
abbrev S1 : Shape := ⟨1, ![1]⟩
abbrev S560 : Shape := ⟨1, ![560]⟩
abbrev S560x1 : Shape := ⟨2, ![560, 1]⟩
abbrev S560x32 : Shape := ⟨2, ![560, 32]⟩
abbrev S33792x4x1 : Shape := ⟨3, ![33792, 4, 1]⟩
abbrev S1x1x32 : Shape := ⟨3, ![1, 1, 32]⟩
abbrev S33792x4x32 : Shape := ⟨3, ![33792, 4, 32]⟩
abbrev S135168 : Shape := ⟨1, ![135168]⟩
abbrev S143360x8x128 : Shape := ⟨3, ![143360, 8, 128]⟩
abbrev S2048 : Shape := ⟨1, ![2048]⟩
abbrev S512x8x128 : Shape := ⟨3, ![512, 8, 128]⟩
abbrev S8x128 : Shape := ⟨2, ![8, 128]⟩
abbrev S1x8x128 : Shape := ⟨3, ![1, 8, 128]⟩

abbrev nBuf : Space → Nat
  | .hbm => 73
  | .vmem => 3
  | .smem => 4
  | _ => 0

abbrev bufTy : (tb : Table) → Fin (tcTables nBuf tb) → BufTy
  | .hbm, ⟨0, _⟩ => ⟨S1x32, .f32⟩
  | .hbm, ⟨1, _⟩ => ⟨S33792x4, .i32⟩
  | .hbm, ⟨2, _⟩ => ⟨S33792x4, .i32⟩
  | .hbm, ⟨3, _⟩ => ⟨S33792x8x128, .f32⟩
  | .hbm, ⟨4, _⟩ => ⟨S32, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S1, .i32⟩
  | .hbm, ⟨37, _⟩ => ⟨S_, .i32⟩
  | .hbm, ⟨38, _⟩ => ⟨S560, .i32⟩
  | .hbm, ⟨39, _⟩ => ⟨S_, .i32⟩
  | .hbm, ⟨40, _⟩ => ⟨S_, .i32⟩
  | .hbm, ⟨41, _⟩ => ⟨S560, .i32⟩
  | .hbm, ⟨42, _⟩ => ⟨S560, .i32⟩
  | .hbm, ⟨43, _⟩ => ⟨S560x1, .i32⟩
  | .hbm, ⟨44, _⟩ => ⟨S1x32, .i32⟩
  | .hbm, ⟨45, _⟩ => ⟨S560x32, .i32⟩
  | .hbm, ⟨46, _⟩ => ⟨S560x32, .i32⟩
  | .hbm, ⟨47, _⟩ => ⟨S560x32, .i1⟩
  | .hbm, ⟨48, _⟩ => ⟨S560x32, .i32⟩
  | .hbm, ⟨49, _⟩ => ⟨S_, .i32⟩
  | .hbm, ⟨50, _⟩ => ⟨S560, .i32⟩
  | .hbm, ⟨51, _⟩ => ⟨S_, .i32⟩
  | .hbm, ⟨52, _⟩ => ⟨S560, .i32⟩
  | .hbm, ⟨53, _⟩ => ⟨S560, .i32⟩
  | .hbm, ⟨54, _⟩ => ⟨S1, .i32⟩
  | .hbm, ⟨55, _⟩ => ⟨S33792x4x1, .i32⟩
  | .hbm, ⟨56, _⟩ => ⟨S32, .i32⟩
  | .hbm, ⟨57, _⟩ => ⟨S1x1x32, .i32⟩
  | .hbm, ⟨58, _⟩ => ⟨S33792x4x32, .i32⟩
  | .hbm, ⟨59, _⟩ => ⟨S33792x4x32, .i32⟩
  | .hbm, ⟨60, _⟩ => ⟨S33792x4x32, .i1⟩
  | .hbm, ⟨61, _⟩ => ⟨S1x1x32, .i32⟩
  | .hbm, ⟨62, _⟩ => ⟨S_, .i32⟩
  | .hbm, ⟨63, _⟩ => ⟨S_, .i32⟩
  | .hbm, ⟨64, _⟩ => ⟨S33792x4x32, .i32⟩
  | .hbm, ⟨65, _⟩ => ⟨S33792x4x32, .i32⟩
  | .hbm, ⟨66, _⟩ => ⟨S33792x4x32, .i32⟩
  | .hbm, ⟨67, _⟩ => ⟨S_, .i32⟩
  | .hbm, ⟨68, _⟩ => ⟨S33792x4, .i32⟩
  | .hbm, ⟨69, _⟩ => ⟨S33792x4, .i32⟩
  | .hbm, ⟨70, _⟩ => ⟨S135168, .i32⟩
  | .hbm, ⟨71, _⟩ => ⟨S32, .f32⟩
  | .hbm, ⟨72, _⟩ => ⟨S143360x8x128, .f32⟩
  | .local _ .vmem, ⟨0, _⟩ => ⟨S512x8x128, .f32⟩
  | .local _ .vmem, ⟨1, _⟩ => ⟨S512x8x128, .f32⟩
  | .local _ .vmem, ⟨2, _⟩ => ⟨S8x128, .f32⟩
  | .local _ .smem, ⟨0, _⟩ => ⟨S32, .i32⟩
  | .local _ .smem, ⟨1, _⟩ => ⟨S32, .i32⟩
  | .local _ .smem, ⟨2, _⟩ => ⟨S2048, .i32⟩
  | .local _ .smem, ⟨3, _⟩ => ⟨S2048, .i32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_call1_call0_c : Ref sig .tc := ⟨.hbm, 30, rfl⟩
abbrev main_call1_call0_v0 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v40 : Ref sig .tc := ⟨.hbm, 72, rfl⟩
abbrev main_v39 : Ref sig .tc := ⟨.smem, 0, rfl⟩
abbrev main_v10 : Ref sig .tc := ⟨.smem, 1, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![66], ![false]⟩

abbrev pre0 : Pipeline.Prefetch sig := ⟨2, ![main_v39.idx, main_v10.idx], fun | 0 => main_v39.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c32_i32 : BitVec 32 := 32#32
  let v9 : BitVec 32 := Scalar.addi c0_i32_8 c32_i32
  let c1_i32_9 : BitVec 32 := 1#32
  ⟨c0_i32_8, v9, c1_i32_9⟩
def k0_off1 (k0_t1 : Fin k0_t1_loop.trips) : Fin 1 → Nat :=
  let c0_i32_8 : BitVec 32 := 0#32
  let c1_i32_9 : BitVec 32 := 1#32
  let arg9 : BitVec 32 := Scf.iv c0_i32_8 c1_i32_9 k0_t1
  let v10 : Index := Scalar.indexCast arg9
  ![v10.toNat]
@[reducible] def k0_t2_loop (v11 : BitVec 32) : Scf.Loop 32 :=
  let c0_i32_22 : BitVec 32 := 0#32
  let c256_i32_11 : BitVec 32 := 256#32
  let v15 : BitVec 32 := Scalar.addi v11 c256_i32_11
  let c1_i32_12 : BitVec 32 := 1#32
  let v16 : BitVec 32 := Scalar.subi v15 c1_i32_12
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c256_i32_13 : BitVec 32 := 256#32
  let c0_i32_16 : BitVec 32 := 0#32
  let v23 : BitVec 1 := Scalar.cmpi .sgt c256_i32_13 c0_i32_16
  let v24 : BitVec 32 := Scalar.extui v23
  let c0_i32_17 : BitVec 32 := 0#32
  let v25 : BitVec 1 := Scalar.cmpi .slt c256_i32_13 c0_i32_17
  let v26 : BitVec 32 := Scalar.extui v25
  let v27 : BitVec 32 := Scalar.subi v24 v26
  let v28 : BitVec 1 := Scalar.cmpi .ne v22 v27
  let v29 : BitVec 32 := Scalar.remsi v16 c256_i32_13
  let c0_i32_18 : BitVec 32 := 0#32
  let v30 : BitVec 1 := Scalar.cmpi .ne v29 c0_i32_18
  let v31 : BitVec 1 := Scalar.andi v28 v30
  let v17 : BitVec 32 := Scalar.divsi v16 c256_i32_13
  let c1_i32_19 : BitVec 32 := 1#32
  let v32 : BitVec 32 := Scalar.subi v17 c1_i32_19
  let v33 : BitVec 32 := Scalar.select v31 v32 v17
  let c256_i32_20 : BitVec 32 := 256#32
  let v34 : BitVec 32 := Scalar.muli v33 c256_i32_20
  let v35 : BitVec 32 := Scalar.subi v34 v11
  let v36 : BitVec 32 := Scalar.subi v35 c0_i32_22
  let c1_i32_23 : BitVec 32 := 1#32
  let v38 : BitVec 32 := Scalar.divsi v36 c1_i32_23
  let v39 : BitVec 32 := Scalar.muli v38 c1_i32_23
  let v40 : BitVec 32 := Scalar.addi c0_i32_22 v39
  let c1_i32_24 : BitVec 32 := 1#32
  ⟨c0_i32_22, v40, c1_i32_24⟩

def k0_off2 (v11 : BitVec 32) (v13 : BitVec 32) (k0_t2 : Fin (k0_t2_loop v11).trips) : Fin 3 → Nat :=
  let v14 : BitVec 32 := Scalar.addi v13 v11
  let c0_i32_22 : BitVec 32 := 0#32
  let c1_i32_24 : BitVec 32 := 1#32
  let arg10 : BitVec 32 := Scf.iv c0_i32_22 c1_i32_24 k0_t2
  let v46 : BitVec 32 := Scalar.addi v14 arg10
  let c0_i32_31 : BitVec 32 := 0#32
  let c0_i32_32 : BitVec 32 := 0#32
  ![v46.toNat, 0, 0]

@[reducible] def k0_t3_loop (v11 : BitVec 32) : Scf.Loop 32 :=
  let c0_i32_22 : BitVec 32 := 0#32
  let c256_i32_11 : BitVec 32 := 256#32
  let v15 : BitVec 32 := Scalar.addi v11 c256_i32_11
  let c1_i32_12 : BitVec 32 := 1#32
  let v16 : BitVec 32 := Scalar.subi v15 c1_i32_12
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c256_i32_13 : BitVec 32 := 256#32
  let c0_i32_16 : BitVec 32 := 0#32
  let v23 : BitVec 1 := Scalar.cmpi .sgt c256_i32_13 c0_i32_16
  let v24 : BitVec 32 := Scalar.extui v23
  let c0_i32_17 : BitVec 32 := 0#32
  let v25 : BitVec 1 := Scalar.cmpi .slt c256_i32_13 c0_i32_17
  let v26 : BitVec 32 := Scalar.extui v25
  let v27 : BitVec 32 := Scalar.subi v24 v26
  let v28 : BitVec 1 := Scalar.cmpi .ne v22 v27
  let v29 : BitVec 32 := Scalar.remsi v16 c256_i32_13
  let c0_i32_18 : BitVec 32 := 0#32
  let v30 : BitVec 1 := Scalar.cmpi .ne v29 c0_i32_18
  let v31 : BitVec 1 := Scalar.andi v28 v30
  let v17 : BitVec 32 := Scalar.divsi v16 c256_i32_13
  let c1_i32_19 : BitVec 32 := 1#32
  let v32 : BitVec 32 := Scalar.subi v17 c1_i32_19
  let v33 : BitVec 32 := Scalar.select v31 v32 v17
  let c256_i32_20 : BitVec 32 := 256#32
  let v34 : BitVec 32 := Scalar.muli v33 c256_i32_20
  let v35 : BitVec 32 := Scalar.subi v34 v11
  let v36 : BitVec 32 := Scalar.subi v35 c0_i32_22
  let c1_i32_23 : BitVec 32 := 1#32
  let v38 : BitVec 32 := Scalar.divsi v36 c1_i32_23
  let v39 : BitVec 32 := Scalar.muli v38 c1_i32_23
  let v40 : BitVec 32 := Scalar.addi c0_i32_22 v39
  let v37 : BitVec 32 := Scalar.addi c0_i32_22 v36
  let c1_i32_25 : BitVec 32 := 1#32
  ⟨v40, v37, c1_i32_25⟩
def k0_off3 (v11 : BitVec 32) (v13 : BitVec 32) (k0_t3 : Fin (k0_t3_loop v11).trips) : Fin 3 → Nat :=
  let v14 : BitVec 32 := Scalar.addi v13 v11
  let c0_i32_22 : BitVec 32 := 0#32
  let c256_i32_11 : BitVec 32 := 256#32
  let v15 : BitVec 32 := Scalar.addi v11 c256_i32_11
  let c1_i32_12 : BitVec 32 := 1#32
  let v16 : BitVec 32 := Scalar.subi v15 c1_i32_12
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c256_i32_13 : BitVec 32 := 256#32
  let c0_i32_16 : BitVec 32 := 0#32
  let v23 : BitVec 1 := Scalar.cmpi .sgt c256_i32_13 c0_i32_16
  let v24 : BitVec 32 := Scalar.extui v23
  let c0_i32_17 : BitVec 32 := 0#32
  let v25 : BitVec 1 := Scalar.cmpi .slt c256_i32_13 c0_i32_17
  let v26 : BitVec 32 := Scalar.extui v25
  let v27 : BitVec 32 := Scalar.subi v24 v26
  let v28 : BitVec 1 := Scalar.cmpi .ne v22 v27
  let v29 : BitVec 32 := Scalar.remsi v16 c256_i32_13
  let c0_i32_18 : BitVec 32 := 0#32
  let v30 : BitVec 1 := Scalar.cmpi .ne v29 c0_i32_18
  let v31 : BitVec 1 := Scalar.andi v28 v30
  let v17 : BitVec 32 := Scalar.divsi v16 c256_i32_13
  let c1_i32_19 : BitVec 32 := 1#32
  let v32 : BitVec 32 := Scalar.subi v17 c1_i32_19
  let v33 : BitVec 32 := Scalar.select v31 v32 v17
  let c256_i32_20 : BitVec 32 := 256#32
  let v34 : BitVec 32 := Scalar.muli v33 c256_i32_20
  let v35 : BitVec 32 := Scalar.subi v34 v11
  let v36 : BitVec 32 := Scalar.subi v35 c0_i32_22
  let c1_i32_23 : BitVec 32 := 1#32
  let v38 : BitVec 32 := Scalar.divsi v36 c1_i32_23
  let v39 : BitVec 32 := Scalar.muli v38 c1_i32_23
  let v40 : BitVec 32 := Scalar.addi c0_i32_22 v39
  let c1_i32_25 : BitVec 32 := 1#32
  let arg10 : BitVec 32 := Scf.iv v40 c1_i32_25 k0_t3
  let v46 : BitVec 32 := Scalar.addi v14 arg10
  let c0_i32_31 : BitVec 32 := 0#32
  let c0_i32_32 : BitVec 32 := 0#32
  ![v46.toNat, 0, 0]
@[reducible] def k0_t4_loop (v11 : BitVec 32) : Scf.Loop 32 :=
  let c0_i32_27 : BitVec 32 := 0#32
  let c256_i32_11 : BitVec 32 := 256#32
  let v15 : BitVec 32 := Scalar.addi v11 c256_i32_11
  let c1_i32_12 : BitVec 32 := 1#32
  let v16 : BitVec 32 := Scalar.subi v15 c1_i32_12
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c256_i32_13 : BitVec 32 := 256#32
  let c0_i32_16 : BitVec 32 := 0#32
  let v23 : BitVec 1 := Scalar.cmpi .sgt c256_i32_13 c0_i32_16
  let v24 : BitVec 32 := Scalar.extui v23
  let c0_i32_17 : BitVec 32 := 0#32
  let v25 : BitVec 1 := Scalar.cmpi .slt c256_i32_13 c0_i32_17
  let v26 : BitVec 32 := Scalar.extui v25
  let v27 : BitVec 32 := Scalar.subi v24 v26
  let v28 : BitVec 1 := Scalar.cmpi .ne v22 v27
  let v29 : BitVec 32 := Scalar.remsi v16 c256_i32_13
  let c0_i32_18 : BitVec 32 := 0#32
  let v30 : BitVec 1 := Scalar.cmpi .ne v29 c0_i32_18
  let v31 : BitVec 1 := Scalar.andi v28 v30
  let v17 : BitVec 32 := Scalar.divsi v16 c256_i32_13
  let c1_i32_19 : BitVec 32 := 1#32
  let v32 : BitVec 32 := Scalar.subi v17 c1_i32_19
  let v33 : BitVec 32 := Scalar.select v31 v32 v17
  let c256_i32_20 : BitVec 32 := 256#32
  let v34 : BitVec 32 := Scalar.muli v33 c256_i32_20
  let v35 : BitVec 32 := Scalar.subi v34 v11
  let v41 : BitVec 32 := Scalar.subi v35 c0_i32_27
  let c1_i32_28 : BitVec 32 := 1#32
  let v43 : BitVec 32 := Scalar.divsi v41 c1_i32_28
  let v44 : BitVec 32 := Scalar.muli v43 c1_i32_28
  let v45 : BitVec 32 := Scalar.addi c0_i32_27 v44
  let c1_i32_29 : BitVec 32 := 1#32
  ⟨c0_i32_27, v45, c1_i32_29⟩
def k0_off4 (v11 : BitVec 32) (v13 : BitVec 32) (k0_t4 : Fin (k0_t4_loop v11).trips) : Fin 3 → Nat :=
  let v14 : BitVec 32 := Scalar.addi v13 v11
  let c0_i32_27 : BitVec 32 := 0#32
  let c1_i32_29 : BitVec 32 := 1#32
  let arg10 : BitVec 32 := Scf.iv c0_i32_27 c1_i32_29 k0_t4
  let v46 : BitVec 32 := Scalar.addi v14 arg10
  let c0_i32_31 : BitVec 32 := 0#32
  let c0_i32_32 : BitVec 32 := 0#32
  ![v46.toNat, 0, 0]
@[reducible] def k0_t5_loop (v11 : BitVec 32) : Scf.Loop 32 :=
  let c0_i32_27 : BitVec 32 := 0#32
  let c256_i32_11 : BitVec 32 := 256#32
  let v15 : BitVec 32 := Scalar.addi v11 c256_i32_11
  let c1_i32_12 : BitVec 32 := 1#32
  let v16 : BitVec 32 := Scalar.subi v15 c1_i32_12
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c256_i32_13 : BitVec 32 := 256#32
  let c0_i32_16 : BitVec 32 := 0#32
  let v23 : BitVec 1 := Scalar.cmpi .sgt c256_i32_13 c0_i32_16
  let v24 : BitVec 32 := Scalar.extui v23
  let c0_i32_17 : BitVec 32 := 0#32
  let v25 : BitVec 1 := Scalar.cmpi .slt c256_i32_13 c0_i32_17
  let v26 : BitVec 32 := Scalar.extui v25
  let v27 : BitVec 32 := Scalar.subi v24 v26
  let v28 : BitVec 1 := Scalar.cmpi .ne v22 v27
  let v29 : BitVec 32 := Scalar.remsi v16 c256_i32_13
  let c0_i32_18 : BitVec 32 := 0#32
  let v30 : BitVec 1 := Scalar.cmpi .ne v29 c0_i32_18
  let v31 : BitVec 1 := Scalar.andi v28 v30
  let v17 : BitVec 32 := Scalar.divsi v16 c256_i32_13
  let c1_i32_19 : BitVec 32 := 1#32
  let v32 : BitVec 32 := Scalar.subi v17 c1_i32_19
  let v33 : BitVec 32 := Scalar.select v31 v32 v17
  let c256_i32_20 : BitVec 32 := 256#32
  let v34 : BitVec 32 := Scalar.muli v33 c256_i32_20
  let v35 : BitVec 32 := Scalar.subi v34 v11
  let v41 : BitVec 32 := Scalar.subi v35 c0_i32_27
  let c1_i32_28 : BitVec 32 := 1#32
  let v43 : BitVec 32 := Scalar.divsi v41 c1_i32_28
  let v44 : BitVec 32 := Scalar.muli v43 c1_i32_28
  let v45 : BitVec 32 := Scalar.addi c0_i32_27 v44
  let v42 : BitVec 32 := Scalar.addi c0_i32_27 v41
  let c1_i32_30 : BitVec 32 := 1#32
  ⟨v45, v42, c1_i32_30⟩

def k0_chk1 (i : grid0.Coords) (v11 : BitVec 32) : Prop :=
  (∀ (k0_h1 : k0_cond1 i = 1#1), (k0_t2_loop v11).OK) ∧
  (∀ (k0_h1 : k0_cond1 i = 1#1), (k0_t3_loop v11).OK) ∧
  (∀ (k0_h1 : k0_cond1 i = 1#1), (k0_t4_loop v11).OK) ∧
  (∀ (k0_h1 : k0_cond1 i = 1#1), (k0_t5_loop v11).OK)
theorem k0_t2_ok : ∀ (i : grid0.Coords) (v11 : BitVec 32) (k0_hw1 : k0_chk1 i v11), ∀ (k0_h1 : k0_cond1 i = 1#1), (k0_t2_loop v11).OK := fun i v11 k0_hw1 k0_h1 => k0_hw1.1 k0_h1
theorem k0_t3_ok : ∀ (i : grid0.Coords) (v11 : BitVec 32) (k0_hw1 : k0_chk1 i v11), ∀ (k0_h1 : k0_cond1 i = 1#1), (k0_t3_loop v11).OK := fun i v11 k0_hw1 k0_h1 => k0_hw1.2.1 k0_h1
theorem k0_t4_ok : ∀ (i : grid0.Coords) (v11 : BitVec 32) (k0_hw1 : k0_chk1 i v11), ∀ (k0_h1 : k0_cond1 i = 1#1), (k0_t4_loop v11).OK := fun i v11 k0_hw1 k0_h1 => k0_hw1.2.2.1 k0_h1
theorem k0_t5_ok : ∀ (i : grid0.Coords) (v11 : BitVec 32) (k0_hw1 : k0_chk1 i v11), ∀ (k0_h1 : k0_cond1 i = 1#1), (k0_t5_loop v11).OK := fun i v11 k0_hw1 k0_h1 => k0_hw1.2.2.2 k0_h1

def k0_off5 (v11 : BitVec 32) (v13 : BitVec 32) (k0_t5 : Fin (k0_t5_loop v11).trips) : Fin 3 → Nat :=
  let v14 : BitVec 32 := Scalar.addi v13 v11
  let c0_i32_27 : BitVec 32 := 0#32
  let c256_i32_11 : BitVec 32 := 256#32
  let v15 : BitVec 32 := Scalar.addi v11 c256_i32_11
  let c1_i32_12 : BitVec 32 := 1#32
  let v16 : BitVec 32 := Scalar.subi v15 c1_i32_12
  let c0_i32_14 : BitVec 32 := 0#32
  let v18 : BitVec 1 := Scalar.cmpi .sgt v16 c0_i32_14
  let v19 : BitVec 32 := Scalar.extui v18
  let c0_i32_15 : BitVec 32 := 0#32
  let v20 : BitVec 1 := Scalar.cmpi .slt v16 c0_i32_15
  let v21 : BitVec 32 := Scalar.extui v20
  let v22 : BitVec 32 := Scalar.subi v19 v21
  let c256_i32_13 : BitVec 32 := 256#32
  let c0_i32_16 : BitVec 32 := 0#32
  let v23 : BitVec 1 := Scalar.cmpi .sgt c256_i32_13 c0_i32_16
  let v24 : BitVec 32 := Scalar.extui v23
  let c0_i32_17 : BitVec 32 := 0#32
  let v25 : BitVec 1 := Scalar.cmpi .slt c256_i32_13 c0_i32_17
  let v26 : BitVec 32 := Scalar.extui v25
  let v27 : BitVec 32 := Scalar.subi v24 v26
  let v28 : BitVec 1 := Scalar.cmpi .ne v22 v27
  let v29 : BitVec 32 := Scalar.remsi v16 c256_i32_13
  let c0_i32_18 : BitVec 32 := 0#32
  let v30 : BitVec 1 := Scalar.cmpi .ne v29 c0_i32_18
  let v31 : BitVec 1 := Scalar.andi v28 v30
  let v17 : BitVec 32 := Scalar.divsi v16 c256_i32_13
  let c1_i32_19 : BitVec 32 := 1#32
  let v32 : BitVec 32 := Scalar.subi v17 c1_i32_19
  let v33 : BitVec 32 := Scalar.select v31 v32 v17
  let c256_i32_20 : BitVec 32 := 256#32
  let v34 : BitVec 32 := Scalar.muli v33 c256_i32_20
  let v35 : BitVec 32 := Scalar.subi v34 v11
  let v41 : BitVec 32 := Scalar.subi v35 c0_i32_27
  let c1_i32_28 : BitVec 32 := 1#32
  let v43 : BitVec 32 := Scalar.divsi v41 c1_i32_28
  let v44 : BitVec 32 := Scalar.muli v43 c1_i32_28
  let v45 : BitVec 32 := Scalar.addi c0_i32_27 v44
  let c1_i32_30 : BitVec 32 := 1#32
  let arg10 : BitVec 32 := Scf.iv v45 c1_i32_30 k0_t5
  let v46 : BitVec 32 := Scalar.addi v14 arg10
  let c0_i32_31 : BitVec 32 := 0#32
  let c0_i32_32 : BitVec 32 := 0#32
  ![v46.toNat, 0, 0]

def k0_chk2 (i : grid0.Coords) (v11 : BitVec 32) (v13 : BitVec 32) : Prop :=
  (∀ k0_t2 : Fin (k0_t2_loop v11).trips, ∀ (k0_h1 : k0_cond1 i = 1#1), ∀ a, (k0_off2 v11 v13 k0_t2) a + S1x8x128.size a ≤ S143360x8x128.size a) ∧
  (∀ k0_t3 : Fin (k0_t3_loop v11).trips, ∀ (k0_h1 : k0_cond1 i = 1#1), ∀ a, (k0_off3 v11 v13 k0_t3) a + S1x8x128.size a ≤ S143360x8x128.size a) ∧
  (∀ k0_t4 : Fin (k0_t4_loop v11).trips, ∀ (k0_h1 : k0_cond1 i = 1#1), ∀ a, (k0_off4 v11 v13 k0_t4) a + S1x8x128.size a ≤ S143360x8x128.size a) ∧
  (∀ k0_t5 : Fin (k0_t5_loop v11).trips, ∀ (k0_h1 : k0_cond1 i = 1#1), ∀ a, (k0_off5 v11 v13 k0_t5) a + S1x8x128.size a ≤ S143360x8x128.size a)
theorem k0_off2_inb : ∀ (i : grid0.Coords) (v11 : BitVec 32) (v13 : BitVec 32) (k0_hw2 : k0_chk2 i v11 v13) (k0_t2 : Fin (k0_t2_loop v11).trips), ∀ (k0_h1 : k0_cond1 i = 1#1), ∀ a, (k0_off2 v11 v13 k0_t2) a + S1x8x128.size a ≤ S143360x8x128.size a := fun i v11 v13 k0_hw2 k0_t2 k0_h1 => k0_hw2.1 k0_t2 k0_h1
theorem k0_off3_inb : ∀ (i : grid0.Coords) (v11 : BitVec 32) (v13 : BitVec 32) (k0_hw2 : k0_chk2 i v11 v13) (k0_t3 : Fin (k0_t3_loop v11).trips), ∀ (k0_h1 : k0_cond1 i = 1#1), ∀ a, (k0_off3 v11 v13 k0_t3) a + S1x8x128.size a ≤ S143360x8x128.size a := fun i v11 v13 k0_hw2 k0_t3 k0_h1 => k0_hw2.2.1 k0_t3 k0_h1
theorem k0_off4_inb : ∀ (i : grid0.Coords) (v11 : BitVec 32) (v13 : BitVec 32) (k0_hw2 : k0_chk2 i v11 v13) (k0_t4 : Fin (k0_t4_loop v11).trips), ∀ (k0_h1 : k0_cond1 i = 1#1), ∀ a, (k0_off4 v11 v13 k0_t4) a + S1x8x128.size a ≤ S143360x8x128.size a := fun i v11 v13 k0_hw2 k0_t4 k0_h1 => k0_hw2.2.2.1 k0_t4 k0_h1
theorem k0_off5_inb : ∀ (i : grid0.Coords) (v11 : BitVec 32) (v13 : BitVec 32) (k0_hw2 : k0_chk2 i v11 v13) (k0_t5 : Fin (k0_t5_loop v11).trips), ∀ (k0_h1 : k0_cond1 i = 1#1), ∀ a, (k0_off5 v11 v13 k0_t5) a + S1x8x128.size a ≤ S143360x8x128.size a := fun i v11 v13 k0_hw2 k0_t5 k0_h1 => k0_hw2.2.2.2 k0_t5 k0_h1

@[reducible] def k0_t6_loop : Scf.Loop 32 :=
  let c0_i32_1 : BitVec 32 := 0#32
  let c256_i32 : BitVec 32 := 256#32
  let v3 : BitVec 32 := Scalar.addi c0_i32_1 c256_i32
  let c1_i32 : BitVec 32 := 1#32
  ⟨c0_i32_1, v3, c1_i32⟩
def k0_off6 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32 : BitVec 32 := 8#32
  let v5 : BitVec 32 := Scalar.muli arg9 c8_i32
  let c0_i32_7 : BitVec 32 := 0#32
  let v6 : BitVec 32 := Scalar.addi v5 c0_i32_7
  let v24 : Index := Scalar.indexCast v6
  ![v24.toNat]
def k0_off7 (v25 : BitVec 32) : Fin 3 → Nat :=
  let c0_i32_14 : BitVec 32 := 0#32
  let c0_i32_15 : BitVec 32 := 0#32
  ![v25.toNat, 0, 0]

def k0_chk3 (v25 : BitVec 32) : Prop :=
  (∀ a, (k0_off7 v25) a + S1x8x128.size a ≤ S143360x8x128.size a)
theorem k0_off7_inb : ∀ (v25 : BitVec 32) (k0_hw3 : k0_chk3 v25), ∀ a, (k0_off7 v25) a + S1x8x128.size a ≤ S143360x8x128.size a := fun v25 k0_hw3 => k0_hw3

def k0_off8 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32 : BitVec 32 := 8#32
  let v5 : BitVec 32 := Scalar.muli arg9 c8_i32
  let c0_i32_7 : BitVec 32 := 0#32
  let v6 : BitVec 32 := Scalar.addi v5 c0_i32_7
  let c0_i32_8 : BitVec 32 := 0#32
  let v8 : BitVec 1 := Scalar.cmpi .sgt v6 c0_i32_8
  let v9 : BitVec 32 := Scalar.extui v8
  let c0_i32_9 : BitVec 32 := 0#32
  let v10 : BitVec 1 := Scalar.cmpi .slt v6 c0_i32_9
  let v11 : BitVec 32 := Scalar.extui v10
  let v12 : BitVec 32 := Scalar.subi v9 v11
  let c4_i32 : BitVec 32 := 4#32
  let c0_i32_10 : BitVec 32 := 0#32
  let v13 : BitVec 1 := Scalar.cmpi .sgt c4_i32 c0_i32_10
  let v14 : BitVec 32 := Scalar.extui v13
  let c0_i32_11 : BitVec 32 := 0#32
  let v15 : BitVec 1 := Scalar.cmpi .slt c4_i32 c0_i32_11
  let v16 : BitVec 32 := Scalar.extui v15
  let v17 : BitVec 32 := Scalar.subi v14 v16
  let v18 : BitVec 1 := Scalar.cmpi .ne v12 v17
  let v19 : BitVec 32 := Scalar.remsi v6 c4_i32
  let c0_i32_12 : BitVec 32 := 0#32
  let v20 : BitVec 1 := Scalar.cmpi .ne v19 c0_i32_12
  let v21 : BitVec 1 := Scalar.andi v18 v20
  let v7 : BitVec 32 := Scalar.divsi v6 c4_i32
  let c1_i32_13 : BitVec 32 := 1#32
  let v22 : BitVec 32 := Scalar.subi v7 c1_i32_13
  let v23 : BitVec 32 := Scalar.select v21 v22 v7
  let c0_i32_16 : BitVec 32 := 0#32
  let c0_i32_17 : BitVec 32 := 0#32
  ![v23.toNat, 0, 0]
def k0_off9 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32_18 : BitVec 32 := 8#32
  let v30 : BitVec 32 := Scalar.muli arg9 c8_i32_18
  let c1_i32_19 : BitVec 32 := 1#32
  let v31 : BitVec 32 := Scalar.addi v30 c1_i32_19
  let v49 : Index := Scalar.indexCast v31
  ![v49.toNat]
def k0_off10 (v50 : BitVec 32) : Fin 3 → Nat :=
  let c0_i32_27 : BitVec 32 := 0#32
  let c0_i32_28 : BitVec 32 := 0#32
  ![v50.toNat, 0, 0]

def k0_chk4 (v50 : BitVec 32) : Prop :=
  (∀ a, (k0_off10 v50) a + S1x8x128.size a ≤ S143360x8x128.size a)
theorem k0_off10_inb : ∀ (v50 : BitVec 32) (k0_hw4 : k0_chk4 v50), ∀ a, (k0_off10 v50) a + S1x8x128.size a ≤ S143360x8x128.size a := fun v50 k0_hw4 => k0_hw4

def k0_off11 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32_18 : BitVec 32 := 8#32
  let v30 : BitVec 32 := Scalar.muli arg9 c8_i32_18
  let c1_i32_19 : BitVec 32 := 1#32
  let v31 : BitVec 32 := Scalar.addi v30 c1_i32_19
  let c0_i32_21 : BitVec 32 := 0#32
  let v33 : BitVec 1 := Scalar.cmpi .sgt v31 c0_i32_21
  let v34 : BitVec 32 := Scalar.extui v33
  let c0_i32_22 : BitVec 32 := 0#32
  let v35 : BitVec 1 := Scalar.cmpi .slt v31 c0_i32_22
  let v36 : BitVec 32 := Scalar.extui v35
  let v37 : BitVec 32 := Scalar.subi v34 v36
  let c4_i32_20 : BitVec 32 := 4#32
  let c0_i32_23 : BitVec 32 := 0#32
  let v38 : BitVec 1 := Scalar.cmpi .sgt c4_i32_20 c0_i32_23
  let v39 : BitVec 32 := Scalar.extui v38
  let c0_i32_24 : BitVec 32 := 0#32
  let v40 : BitVec 1 := Scalar.cmpi .slt c4_i32_20 c0_i32_24
  let v41 : BitVec 32 := Scalar.extui v40
  let v42 : BitVec 32 := Scalar.subi v39 v41
  let v43 : BitVec 1 := Scalar.cmpi .ne v37 v42
  let v44 : BitVec 32 := Scalar.remsi v31 c4_i32_20
  let c0_i32_25 : BitVec 32 := 0#32
  let v45 : BitVec 1 := Scalar.cmpi .ne v44 c0_i32_25
  let v46 : BitVec 1 := Scalar.andi v43 v45
  let v32 : BitVec 32 := Scalar.divsi v31 c4_i32_20
  let c1_i32_26 : BitVec 32 := 1#32
  let v47 : BitVec 32 := Scalar.subi v32 c1_i32_26
  let v48 : BitVec 32 := Scalar.select v46 v47 v32
  let c0_i32_29 : BitVec 32 := 0#32
  let c0_i32_30 : BitVec 32 := 0#32
  ![v48.toNat, 0, 0]
def k0_off12 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32_31 : BitVec 32 := 8#32
  let v55 : BitVec 32 := Scalar.muli arg9 c8_i32_31
  let c2_i32 : BitVec 32 := 2#32
  let v56 : BitVec 32 := Scalar.addi v55 c2_i32
  let v74 : Index := Scalar.indexCast v56
  ![v74.toNat]
def k0_off13 (v75 : BitVec 32) : Fin 3 → Nat :=
  let c0_i32_39 : BitVec 32 := 0#32
  let c0_i32_40 : BitVec 32 := 0#32
  ![v75.toNat, 0, 0]

def k0_chk5 (v75 : BitVec 32) : Prop :=
  (∀ a, (k0_off13 v75) a + S1x8x128.size a ≤ S143360x8x128.size a)
theorem k0_off13_inb : ∀ (v75 : BitVec 32) (k0_hw5 : k0_chk5 v75), ∀ a, (k0_off13 v75) a + S1x8x128.size a ≤ S143360x8x128.size a := fun v75 k0_hw5 => k0_hw5

def k0_off14 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32_31 : BitVec 32 := 8#32
  let v55 : BitVec 32 := Scalar.muli arg9 c8_i32_31
  let c2_i32 : BitVec 32 := 2#32
  let v56 : BitVec 32 := Scalar.addi v55 c2_i32
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c4_i32_32 : BitVec 32 := 4#32
  let c0_i32_35 : BitVec 32 := 0#32
  let v63 : BitVec 1 := Scalar.cmpi .sgt c4_i32_32 c0_i32_35
  let v64 : BitVec 32 := Scalar.extui v63
  let c0_i32_36 : BitVec 32 := 0#32
  let v65 : BitVec 1 := Scalar.cmpi .slt c4_i32_32 c0_i32_36
  let v66 : BitVec 32 := Scalar.extui v65
  let v67 : BitVec 32 := Scalar.subi v64 v66
  let v68 : BitVec 1 := Scalar.cmpi .ne v62 v67
  let v69 : BitVec 32 := Scalar.remsi v56 c4_i32_32
  let c0_i32_37 : BitVec 32 := 0#32
  let v70 : BitVec 1 := Scalar.cmpi .ne v69 c0_i32_37
  let v71 : BitVec 1 := Scalar.andi v68 v70
  let v57 : BitVec 32 := Scalar.divsi v56 c4_i32_32
  let c1_i32_38 : BitVec 32 := 1#32
  let v72 : BitVec 32 := Scalar.subi v57 c1_i32_38
  let v73 : BitVec 32 := Scalar.select v71 v72 v57
  let c0_i32_41 : BitVec 32 := 0#32
  let c0_i32_42 : BitVec 32 := 0#32
  ![v73.toNat, 0, 0]
def k0_off15 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32_43 : BitVec 32 := 8#32
  let v80 : BitVec 32 := Scalar.muli arg9 c8_i32_43
  let c3_i32 : BitVec 32 := 3#32
  let v81 : BitVec 32 := Scalar.addi v80 c3_i32
  let v99 : Index := Scalar.indexCast v81
  ![v99.toNat]
def k0_off16 (v100 : BitVec 32) : Fin 3 → Nat :=
  let c0_i32_51 : BitVec 32 := 0#32
  let c0_i32_52 : BitVec 32 := 0#32
  ![v100.toNat, 0, 0]

def k0_chk6 (v100 : BitVec 32) : Prop :=
  (∀ a, (k0_off16 v100) a + S1x8x128.size a ≤ S143360x8x128.size a)
theorem k0_off16_inb : ∀ (v100 : BitVec 32) (k0_hw6 : k0_chk6 v100), ∀ a, (k0_off16 v100) a + S1x8x128.size a ≤ S143360x8x128.size a := fun v100 k0_hw6 => k0_hw6

def k0_off17 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32_43 : BitVec 32 := 8#32
  let v80 : BitVec 32 := Scalar.muli arg9 c8_i32_43
  let c3_i32 : BitVec 32 := 3#32
  let v81 : BitVec 32 := Scalar.addi v80 c3_i32
  let c0_i32_45 : BitVec 32 := 0#32
  let v83 : BitVec 1 := Scalar.cmpi .sgt v81 c0_i32_45
  let v84 : BitVec 32 := Scalar.extui v83
  let c0_i32_46 : BitVec 32 := 0#32
  let v85 : BitVec 1 := Scalar.cmpi .slt v81 c0_i32_46
  let v86 : BitVec 32 := Scalar.extui v85
  let v87 : BitVec 32 := Scalar.subi v84 v86
  let c4_i32_44 : BitVec 32 := 4#32
  let c0_i32_47 : BitVec 32 := 0#32
  let v88 : BitVec 1 := Scalar.cmpi .sgt c4_i32_44 c0_i32_47
  let v89 : BitVec 32 := Scalar.extui v88
  let c0_i32_48 : BitVec 32 := 0#32
  let v90 : BitVec 1 := Scalar.cmpi .slt c4_i32_44 c0_i32_48
  let v91 : BitVec 32 := Scalar.extui v90
  let v92 : BitVec 32 := Scalar.subi v89 v91
  let v93 : BitVec 1 := Scalar.cmpi .ne v87 v92
  let v94 : BitVec 32 := Scalar.remsi v81 c4_i32_44
  let c0_i32_49 : BitVec 32 := 0#32
  let v95 : BitVec 1 := Scalar.cmpi .ne v94 c0_i32_49
  let v96 : BitVec 1 := Scalar.andi v93 v95
  let v82 : BitVec 32 := Scalar.divsi v81 c4_i32_44
  let c1_i32_50 : BitVec 32 := 1#32
  let v97 : BitVec 32 := Scalar.subi v82 c1_i32_50
  let v98 : BitVec 32 := Scalar.select v96 v97 v82
  let c0_i32_53 : BitVec 32 := 0#32
  let c0_i32_54 : BitVec 32 := 0#32
  ![v98.toNat, 0, 0]
def k0_off18 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32_55 : BitVec 32 := 8#32
  let v105 : BitVec 32 := Scalar.muli arg9 c8_i32_55
  let c4_i32_56 : BitVec 32 := 4#32
  let v106 : BitVec 32 := Scalar.addi v105 c4_i32_56
  let v124 : Index := Scalar.indexCast v106
  ![v124.toNat]
def k0_off19 (v125 : BitVec 32) : Fin 3 → Nat :=
  let c0_i32_64 : BitVec 32 := 0#32
  let c0_i32_65 : BitVec 32 := 0#32
  ![v125.toNat, 0, 0]

def k0_chk7 (v125 : BitVec 32) : Prop :=
  (∀ a, (k0_off19 v125) a + S1x8x128.size a ≤ S143360x8x128.size a)
theorem k0_off19_inb : ∀ (v125 : BitVec 32) (k0_hw7 : k0_chk7 v125), ∀ a, (k0_off19 v125) a + S1x8x128.size a ≤ S143360x8x128.size a := fun v125 k0_hw7 => k0_hw7

def k0_off20 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32_55 : BitVec 32 := 8#32
  let v105 : BitVec 32 := Scalar.muli arg9 c8_i32_55
  let c4_i32_56 : BitVec 32 := 4#32
  let v106 : BitVec 32 := Scalar.addi v105 c4_i32_56
  let c0_i32_58 : BitVec 32 := 0#32
  let v108 : BitVec 1 := Scalar.cmpi .sgt v106 c0_i32_58
  let v109 : BitVec 32 := Scalar.extui v108
  let c0_i32_59 : BitVec 32 := 0#32
  let v110 : BitVec 1 := Scalar.cmpi .slt v106 c0_i32_59
  let v111 : BitVec 32 := Scalar.extui v110
  let v112 : BitVec 32 := Scalar.subi v109 v111
  let c4_i32_57 : BitVec 32 := 4#32
  let c0_i32_60 : BitVec 32 := 0#32
  let v113 : BitVec 1 := Scalar.cmpi .sgt c4_i32_57 c0_i32_60
  let v114 : BitVec 32 := Scalar.extui v113
  let c0_i32_61 : BitVec 32 := 0#32
  let v115 : BitVec 1 := Scalar.cmpi .slt c4_i32_57 c0_i32_61
  let v116 : BitVec 32 := Scalar.extui v115
  let v117 : BitVec 32 := Scalar.subi v114 v116
  let v118 : BitVec 1 := Scalar.cmpi .ne v112 v117
  let v119 : BitVec 32 := Scalar.remsi v106 c4_i32_57
  let c0_i32_62 : BitVec 32 := 0#32
  let v120 : BitVec 1 := Scalar.cmpi .ne v119 c0_i32_62
  let v121 : BitVec 1 := Scalar.andi v118 v120
  let v107 : BitVec 32 := Scalar.divsi v106 c4_i32_57
  let c1_i32_63 : BitVec 32 := 1#32
  let v122 : BitVec 32 := Scalar.subi v107 c1_i32_63
  let v123 : BitVec 32 := Scalar.select v121 v122 v107
  let c0_i32_66 : BitVec 32 := 0#32
  let c0_i32_67 : BitVec 32 := 0#32
  ![v123.toNat, 0, 0]
def k0_off21 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32_68 : BitVec 32 := 8#32
  let v130 : BitVec 32 := Scalar.muli arg9 c8_i32_68
  let c5_i32 : BitVec 32 := 5#32
  let v131 : BitVec 32 := Scalar.addi v130 c5_i32
  let v149 : Index := Scalar.indexCast v131
  ![v149.toNat]
def k0_off22 (v150 : BitVec 32) : Fin 3 → Nat :=
  let c0_i32_76 : BitVec 32 := 0#32
  let c0_i32_77 : BitVec 32 := 0#32
  ![v150.toNat, 0, 0]

def k0_chk8 (v150 : BitVec 32) : Prop :=
  (∀ a, (k0_off22 v150) a + S1x8x128.size a ≤ S143360x8x128.size a)
theorem k0_off22_inb : ∀ (v150 : BitVec 32) (k0_hw8 : k0_chk8 v150), ∀ a, (k0_off22 v150) a + S1x8x128.size a ≤ S143360x8x128.size a := fun v150 k0_hw8 => k0_hw8

def k0_off23 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32_68 : BitVec 32 := 8#32
  let v130 : BitVec 32 := Scalar.muli arg9 c8_i32_68
  let c5_i32 : BitVec 32 := 5#32
  let v131 : BitVec 32 := Scalar.addi v130 c5_i32
  let c0_i32_70 : BitVec 32 := 0#32
  let v133 : BitVec 1 := Scalar.cmpi .sgt v131 c0_i32_70
  let v134 : BitVec 32 := Scalar.extui v133
  let c0_i32_71 : BitVec 32 := 0#32
  let v135 : BitVec 1 := Scalar.cmpi .slt v131 c0_i32_71
  let v136 : BitVec 32 := Scalar.extui v135
  let v137 : BitVec 32 := Scalar.subi v134 v136
  let c4_i32_69 : BitVec 32 := 4#32
  let c0_i32_72 : BitVec 32 := 0#32
  let v138 : BitVec 1 := Scalar.cmpi .sgt c4_i32_69 c0_i32_72
  let v139 : BitVec 32 := Scalar.extui v138
  let c0_i32_73 : BitVec 32 := 0#32
  let v140 : BitVec 1 := Scalar.cmpi .slt c4_i32_69 c0_i32_73
  let v141 : BitVec 32 := Scalar.extui v140
  let v142 : BitVec 32 := Scalar.subi v139 v141
  let v143 : BitVec 1 := Scalar.cmpi .ne v137 v142
  let v144 : BitVec 32 := Scalar.remsi v131 c4_i32_69
  let c0_i32_74 : BitVec 32 := 0#32
  let v145 : BitVec 1 := Scalar.cmpi .ne v144 c0_i32_74
  let v146 : BitVec 1 := Scalar.andi v143 v145
  let v132 : BitVec 32 := Scalar.divsi v131 c4_i32_69
  let c1_i32_75 : BitVec 32 := 1#32
  let v147 : BitVec 32 := Scalar.subi v132 c1_i32_75
  let v148 : BitVec 32 := Scalar.select v146 v147 v132
  let c0_i32_78 : BitVec 32 := 0#32
  let c0_i32_79 : BitVec 32 := 0#32
  ![v148.toNat, 0, 0]
def k0_off24 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32_80 : BitVec 32 := 8#32
  let v155 : BitVec 32 := Scalar.muli arg9 c8_i32_80
  let c6_i32 : BitVec 32 := 6#32
  let v156 : BitVec 32 := Scalar.addi v155 c6_i32
  let v174 : Index := Scalar.indexCast v156
  ![v174.toNat]
def k0_off25 (v175 : BitVec 32) : Fin 3 → Nat :=
  let c0_i32_88 : BitVec 32 := 0#32
  let c0_i32_89 : BitVec 32 := 0#32
  ![v175.toNat, 0, 0]

def k0_chk9 (v175 : BitVec 32) : Prop :=
  (∀ a, (k0_off25 v175) a + S1x8x128.size a ≤ S143360x8x128.size a)
theorem k0_off25_inb : ∀ (v175 : BitVec 32) (k0_hw9 : k0_chk9 v175), ∀ a, (k0_off25 v175) a + S1x8x128.size a ≤ S143360x8x128.size a := fun v175 k0_hw9 => k0_hw9

def k0_off26 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32_80 : BitVec 32 := 8#32
  let v155 : BitVec 32 := Scalar.muli arg9 c8_i32_80
  let c6_i32 : BitVec 32 := 6#32
  let v156 : BitVec 32 := Scalar.addi v155 c6_i32
  let c0_i32_82 : BitVec 32 := 0#32
  let v158 : BitVec 1 := Scalar.cmpi .sgt v156 c0_i32_82
  let v159 : BitVec 32 := Scalar.extui v158
  let c0_i32_83 : BitVec 32 := 0#32
  let v160 : BitVec 1 := Scalar.cmpi .slt v156 c0_i32_83
  let v161 : BitVec 32 := Scalar.extui v160
  let v162 : BitVec 32 := Scalar.subi v159 v161
  let c4_i32_81 : BitVec 32 := 4#32
  let c0_i32_84 : BitVec 32 := 0#32
  let v163 : BitVec 1 := Scalar.cmpi .sgt c4_i32_81 c0_i32_84
  let v164 : BitVec 32 := Scalar.extui v163
  let c0_i32_85 : BitVec 32 := 0#32
  let v165 : BitVec 1 := Scalar.cmpi .slt c4_i32_81 c0_i32_85
  let v166 : BitVec 32 := Scalar.extui v165
  let v167 : BitVec 32 := Scalar.subi v164 v166
  let v168 : BitVec 1 := Scalar.cmpi .ne v162 v167
  let v169 : BitVec 32 := Scalar.remsi v156 c4_i32_81
  let c0_i32_86 : BitVec 32 := 0#32
  let v170 : BitVec 1 := Scalar.cmpi .ne v169 c0_i32_86
  let v171 : BitVec 1 := Scalar.andi v168 v170
  let v157 : BitVec 32 := Scalar.divsi v156 c4_i32_81
  let c1_i32_87 : BitVec 32 := 1#32
  let v172 : BitVec 32 := Scalar.subi v157 c1_i32_87
  let v173 : BitVec 32 := Scalar.select v171 v172 v157
  let c0_i32_90 : BitVec 32 := 0#32
  let c0_i32_91 : BitVec 32 := 0#32
  ![v173.toNat, 0, 0]
def k0_off27 (k0_t6 : Fin k0_t6_loop.trips) : Fin 1 → Nat :=
  let c0_i32_1 : BitVec 32 := 0#32
  let c1_i32 : BitVec 32 := 1#32
  let arg9 : BitVec 32 := Scf.iv c0_i32_1 c1_i32 k0_t6
  let c8_i32_92 : BitVec 32 := 8#32
  let v180 : BitVec 32 := Scalar.muli arg9 c8_i32_92
  let c7_i32 : BitVec 32 := 7#32
  let v181 : BitVec 32 := Scalar.addi v180 c7_i32
  let v199 : Index := Scalar.indexCast v181
  ![v199.toNat]
def k0_off28 (v200 : BitVec 32) : Fin 3 → Nat :=
  let c0_i32_100 : BitVec 32 := 0#32
  let c0_i32_101 : BitVec 32 := 0#32
  ![v200.toNat, 0, 0]

def k0_chk10 (v200 : BitVec 32) : Prop :=
  (∀ a, (k0_off28 v200) a + S1x8x128.size a ≤ S143360x8x128.size a)
theorem k0_off28_inb : ∀ (v200 : BitVec 32) (k0_hw10 : k0_chk10 v200), ∀ a, (k0_off28 v200) a + S1x8x128.size a ≤ S143360x8x128.size a := fun v200 k0_hw10 => k0_hw10

def k0_off29 (k0_t6 : Fin k0_t6_loop.trips) : Fin 3 → Nat :=
  let c0_i32_1 : BitVec 32 := 0#32
  let c1_i32 : BitVec 32 := 1#32
  let arg9 : BitVec 32 := Scf.iv c0_i32_1 c1_i32 k0_t6
  let c8_i32_92 : BitVec 32 := 8#32
  let v180 : BitVec 32 := Scalar.muli arg9 c8_i32_92
  let c7_i32 : BitVec 32 := 7#32
  let v181 : BitVec 32 := Scalar.addi v180 c7_i32
  let c0_i32_94 : BitVec 32 := 0#32
  let v183 : BitVec 1 := Scalar.cmpi .sgt v181 c0_i32_94
  let v184 : BitVec 32 := Scalar.extui v183
  let c0_i32_95 : BitVec 32 := 0#32
  let v185 : BitVec 1 := Scalar.cmpi .slt v181 c0_i32_95
  let v186 : BitVec 32 := Scalar.extui v185
  let v187 : BitVec 32 := Scalar.subi v184 v186
  let c4_i32_93 : BitVec 32 := 4#32
  let c0_i32_96 : BitVec 32 := 0#32
  let v188 : BitVec 1 := Scalar.cmpi .sgt c4_i32_93 c0_i32_96
  let v189 : BitVec 32 := Scalar.extui v188
  let c0_i32_97 : BitVec 32 := 0#32
  let v190 : BitVec 1 := Scalar.cmpi .slt c4_i32_93 c0_i32_97
  let v191 : BitVec 32 := Scalar.extui v190
  let v192 : BitVec 32 := Scalar.subi v189 v191
  let v193 : BitVec 1 := Scalar.cmpi .ne v187 v192
  let v194 : BitVec 32 := Scalar.remsi v181 c4_i32_93
  let c0_i32_98 : BitVec 32 := 0#32
  let v195 : BitVec 1 := Scalar.cmpi .ne v194 c0_i32_98
  let v196 : BitVec 1 := Scalar.andi v193 v195
  let v182 : BitVec 32 := Scalar.divsi v181 c4_i32_93
  let c1_i32_99 : BitVec 32 := 1#32
  let v197 : BitVec 32 := Scalar.subi v182 c1_i32_99
  let v198 : BitVec 32 := Scalar.select v196 v197 v182
  let c0_i32_102 : BitVec 32 := 0#32
  let c0_i32_103 : BitVec 32 := 0#32
  ![v198.toNat, 0, 0]
@[reducible] def k0_t7_loop : Scf.Loop 32 :=
  let c0_i32_3 : BitVec 32 := 0#32
  let c256_i32_4 : BitVec 32 := 256#32
  let v4 : BitVec 32 := Scalar.addi c0_i32_3 c256_i32_4
  let c1_i32_5 : BitVec 32 := 1#32
  ⟨c0_i32_3, v4, c1_i32_5⟩
def k0_off30 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32 : BitVec 32 := 8#32
  let v5 : BitVec 32 := Scalar.muli arg9 c8_i32
  let c0_i32_7 : BitVec 32 := 0#32
  let v6 : BitVec 32 := Scalar.addi v5 c0_i32_7
  let v24 : Index := Scalar.indexCast v6
  ![v24.toNat]
def k0_off31 (v25 : BitVec 32) : Fin 3 → Nat :=
  let c0_i32_14 : BitVec 32 := 0#32
  let c0_i32_15 : BitVec 32 := 0#32
  ![v25.toNat, 0, 0]

def k0_chk11 (v25 : BitVec 32) : Prop :=
  (∀ a, (k0_off31 v25) a + S1x8x128.size a ≤ S143360x8x128.size a)
theorem k0_off31_inb : ∀ (v25 : BitVec 32) (k0_hw11 : k0_chk11 v25), ∀ a, (k0_off31 v25) a + S1x8x128.size a ≤ S143360x8x128.size a := fun v25 k0_hw11 => k0_hw11

def k0_off32 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32 : BitVec 32 := 8#32
  let v5 : BitVec 32 := Scalar.muli arg9 c8_i32
  let c0_i32_7 : BitVec 32 := 0#32
  let v6 : BitVec 32 := Scalar.addi v5 c0_i32_7
  let c0_i32_8 : BitVec 32 := 0#32
  let v8 : BitVec 1 := Scalar.cmpi .sgt v6 c0_i32_8
  let v9 : BitVec 32 := Scalar.extui v8
  let c0_i32_9 : BitVec 32 := 0#32
  let v10 : BitVec 1 := Scalar.cmpi .slt v6 c0_i32_9
  let v11 : BitVec 32 := Scalar.extui v10
  let v12 : BitVec 32 := Scalar.subi v9 v11
  let c4_i32 : BitVec 32 := 4#32
  let c0_i32_10 : BitVec 32 := 0#32
  let v13 : BitVec 1 := Scalar.cmpi .sgt c4_i32 c0_i32_10
  let v14 : BitVec 32 := Scalar.extui v13
  let c0_i32_11 : BitVec 32 := 0#32
  let v15 : BitVec 1 := Scalar.cmpi .slt c4_i32 c0_i32_11
  let v16 : BitVec 32 := Scalar.extui v15
  let v17 : BitVec 32 := Scalar.subi v14 v16
  let v18 : BitVec 1 := Scalar.cmpi .ne v12 v17
  let v19 : BitVec 32 := Scalar.remsi v6 c4_i32
  let c0_i32_12 : BitVec 32 := 0#32
  let v20 : BitVec 1 := Scalar.cmpi .ne v19 c0_i32_12
  let v21 : BitVec 1 := Scalar.andi v18 v20
  let v7 : BitVec 32 := Scalar.divsi v6 c4_i32
  let c1_i32_13 : BitVec 32 := 1#32
  let v22 : BitVec 32 := Scalar.subi v7 c1_i32_13
  let v23 : BitVec 32 := Scalar.select v21 v22 v7
  let c0_i32_16 : BitVec 32 := 0#32
  let c0_i32_17 : BitVec 32 := 0#32
  ![v23.toNat, 0, 0]
def k0_off33 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32_18 : BitVec 32 := 8#32
  let v30 : BitVec 32 := Scalar.muli arg9 c8_i32_18
  let c1_i32_19 : BitVec 32 := 1#32
  let v31 : BitVec 32 := Scalar.addi v30 c1_i32_19
  let v49 : Index := Scalar.indexCast v31
  ![v49.toNat]
def k0_off34 (v50 : BitVec 32) : Fin 3 → Nat :=
  let c0_i32_27 : BitVec 32 := 0#32
  let c0_i32_28 : BitVec 32 := 0#32
  ![v50.toNat, 0, 0]

def k0_chk12 (v50 : BitVec 32) : Prop :=
  (∀ a, (k0_off34 v50) a + S1x8x128.size a ≤ S143360x8x128.size a)
theorem k0_off34_inb : ∀ (v50 : BitVec 32) (k0_hw12 : k0_chk12 v50), ∀ a, (k0_off34 v50) a + S1x8x128.size a ≤ S143360x8x128.size a := fun v50 k0_hw12 => k0_hw12

def k0_off35 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32_18 : BitVec 32 := 8#32
  let v30 : BitVec 32 := Scalar.muli arg9 c8_i32_18
  let c1_i32_19 : BitVec 32 := 1#32
  let v31 : BitVec 32 := Scalar.addi v30 c1_i32_19
  let c0_i32_21 : BitVec 32 := 0#32
  let v33 : BitVec 1 := Scalar.cmpi .sgt v31 c0_i32_21
  let v34 : BitVec 32 := Scalar.extui v33
  let c0_i32_22 : BitVec 32 := 0#32
  let v35 : BitVec 1 := Scalar.cmpi .slt v31 c0_i32_22
  let v36 : BitVec 32 := Scalar.extui v35
  let v37 : BitVec 32 := Scalar.subi v34 v36
  let c4_i32_20 : BitVec 32 := 4#32
  let c0_i32_23 : BitVec 32 := 0#32
  let v38 : BitVec 1 := Scalar.cmpi .sgt c4_i32_20 c0_i32_23
  let v39 : BitVec 32 := Scalar.extui v38
  let c0_i32_24 : BitVec 32 := 0#32
  let v40 : BitVec 1 := Scalar.cmpi .slt c4_i32_20 c0_i32_24
  let v41 : BitVec 32 := Scalar.extui v40
  let v42 : BitVec 32 := Scalar.subi v39 v41
  let v43 : BitVec 1 := Scalar.cmpi .ne v37 v42
  let v44 : BitVec 32 := Scalar.remsi v31 c4_i32_20
  let c0_i32_25 : BitVec 32 := 0#32
  let v45 : BitVec 1 := Scalar.cmpi .ne v44 c0_i32_25
  let v46 : BitVec 1 := Scalar.andi v43 v45
  let v32 : BitVec 32 := Scalar.divsi v31 c4_i32_20
  let c1_i32_26 : BitVec 32 := 1#32
  let v47 : BitVec 32 := Scalar.subi v32 c1_i32_26
  let v48 : BitVec 32 := Scalar.select v46 v47 v32
  let c0_i32_29 : BitVec 32 := 0#32
  let c0_i32_30 : BitVec 32 := 0#32
  ![v48.toNat, 0, 0]
def k0_off36 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32_31 : BitVec 32 := 8#32
  let v55 : BitVec 32 := Scalar.muli arg9 c8_i32_31
  let c2_i32 : BitVec 32 := 2#32
  let v56 : BitVec 32 := Scalar.addi v55 c2_i32
  let v74 : Index := Scalar.indexCast v56
  ![v74.toNat]
def k0_off37 (v75 : BitVec 32) : Fin 3 → Nat :=
  let c0_i32_39 : BitVec 32 := 0#32
  let c0_i32_40 : BitVec 32 := 0#32
  ![v75.toNat, 0, 0]

def k0_chk13 (v75 : BitVec 32) : Prop :=
  (∀ a, (k0_off37 v75) a + S1x8x128.size a ≤ S143360x8x128.size a)
theorem k0_off37_inb : ∀ (v75 : BitVec 32) (k0_hw13 : k0_chk13 v75), ∀ a, (k0_off37 v75) a + S1x8x128.size a ≤ S143360x8x128.size a := fun v75 k0_hw13 => k0_hw13

def k0_off38 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32_31 : BitVec 32 := 8#32
  let v55 : BitVec 32 := Scalar.muli arg9 c8_i32_31
  let c2_i32 : BitVec 32 := 2#32
  let v56 : BitVec 32 := Scalar.addi v55 c2_i32
  let c0_i32_33 : BitVec 32 := 0#32
  let v58 : BitVec 1 := Scalar.cmpi .sgt v56 c0_i32_33
  let v59 : BitVec 32 := Scalar.extui v58
  let c0_i32_34 : BitVec 32 := 0#32
  let v60 : BitVec 1 := Scalar.cmpi .slt v56 c0_i32_34
  let v61 : BitVec 32 := Scalar.extui v60
  let v62 : BitVec 32 := Scalar.subi v59 v61
  let c4_i32_32 : BitVec 32 := 4#32
  let c0_i32_35 : BitVec 32 := 0#32
  let v63 : BitVec 1 := Scalar.cmpi .sgt c4_i32_32 c0_i32_35
  let v64 : BitVec 32 := Scalar.extui v63
  let c0_i32_36 : BitVec 32 := 0#32
  let v65 : BitVec 1 := Scalar.cmpi .slt c4_i32_32 c0_i32_36
  let v66 : BitVec 32 := Scalar.extui v65
  let v67 : BitVec 32 := Scalar.subi v64 v66
  let v68 : BitVec 1 := Scalar.cmpi .ne v62 v67
  let v69 : BitVec 32 := Scalar.remsi v56 c4_i32_32
  let c0_i32_37 : BitVec 32 := 0#32
  let v70 : BitVec 1 := Scalar.cmpi .ne v69 c0_i32_37
  let v71 : BitVec 1 := Scalar.andi v68 v70
  let v57 : BitVec 32 := Scalar.divsi v56 c4_i32_32
  let c1_i32_38 : BitVec 32 := 1#32
  let v72 : BitVec 32 := Scalar.subi v57 c1_i32_38
  let v73 : BitVec 32 := Scalar.select v71 v72 v57
  let c0_i32_41 : BitVec 32 := 0#32
  let c0_i32_42 : BitVec 32 := 0#32
  ![v73.toNat, 0, 0]
def k0_off39 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32_43 : BitVec 32 := 8#32
  let v80 : BitVec 32 := Scalar.muli arg9 c8_i32_43
  let c3_i32 : BitVec 32 := 3#32
  let v81 : BitVec 32 := Scalar.addi v80 c3_i32
  let v99 : Index := Scalar.indexCast v81
  ![v99.toNat]
def k0_off40 (v100 : BitVec 32) : Fin 3 → Nat :=
  let c0_i32_51 : BitVec 32 := 0#32
  let c0_i32_52 : BitVec 32 := 0#32
  ![v100.toNat, 0, 0]

def k0_chk14 (v100 : BitVec 32) : Prop :=
  (∀ a, (k0_off40 v100) a + S1x8x128.size a ≤ S143360x8x128.size a)
theorem k0_off40_inb : ∀ (v100 : BitVec 32) (k0_hw14 : k0_chk14 v100), ∀ a, (k0_off40 v100) a + S1x8x128.size a ≤ S143360x8x128.size a := fun v100 k0_hw14 => k0_hw14

def k0_off41 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32_43 : BitVec 32 := 8#32
  let v80 : BitVec 32 := Scalar.muli arg9 c8_i32_43
  let c3_i32 : BitVec 32 := 3#32
  let v81 : BitVec 32 := Scalar.addi v80 c3_i32
  let c0_i32_45 : BitVec 32 := 0#32
  let v83 : BitVec 1 := Scalar.cmpi .sgt v81 c0_i32_45
  let v84 : BitVec 32 := Scalar.extui v83
  let c0_i32_46 : BitVec 32 := 0#32
  let v85 : BitVec 1 := Scalar.cmpi .slt v81 c0_i32_46
  let v86 : BitVec 32 := Scalar.extui v85
  let v87 : BitVec 32 := Scalar.subi v84 v86
  let c4_i32_44 : BitVec 32 := 4#32
  let c0_i32_47 : BitVec 32 := 0#32
  let v88 : BitVec 1 := Scalar.cmpi .sgt c4_i32_44 c0_i32_47
  let v89 : BitVec 32 := Scalar.extui v88
  let c0_i32_48 : BitVec 32 := 0#32
  let v90 : BitVec 1 := Scalar.cmpi .slt c4_i32_44 c0_i32_48
  let v91 : BitVec 32 := Scalar.extui v90
  let v92 : BitVec 32 := Scalar.subi v89 v91
  let v93 : BitVec 1 := Scalar.cmpi .ne v87 v92
  let v94 : BitVec 32 := Scalar.remsi v81 c4_i32_44
  let c0_i32_49 : BitVec 32 := 0#32
  let v95 : BitVec 1 := Scalar.cmpi .ne v94 c0_i32_49
  let v96 : BitVec 1 := Scalar.andi v93 v95
  let v82 : BitVec 32 := Scalar.divsi v81 c4_i32_44
  let c1_i32_50 : BitVec 32 := 1#32
  let v97 : BitVec 32 := Scalar.subi v82 c1_i32_50
  let v98 : BitVec 32 := Scalar.select v96 v97 v82
  let c0_i32_53 : BitVec 32 := 0#32
  let c0_i32_54 : BitVec 32 := 0#32
  ![v98.toNat, 0, 0]
def k0_off42 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32_55 : BitVec 32 := 8#32
  let v105 : BitVec 32 := Scalar.muli arg9 c8_i32_55
  let c4_i32_56 : BitVec 32 := 4#32
  let v106 : BitVec 32 := Scalar.addi v105 c4_i32_56
  let v124 : Index := Scalar.indexCast v106
  ![v124.toNat]
def k0_off43 (v125 : BitVec 32) : Fin 3 → Nat :=
  let c0_i32_64 : BitVec 32 := 0#32
  let c0_i32_65 : BitVec 32 := 0#32
  ![v125.toNat, 0, 0]

def k0_chk15 (v125 : BitVec 32) : Prop :=
  (∀ a, (k0_off43 v125) a + S1x8x128.size a ≤ S143360x8x128.size a)
theorem k0_off43_inb : ∀ (v125 : BitVec 32) (k0_hw15 : k0_chk15 v125), ∀ a, (k0_off43 v125) a + S1x8x128.size a ≤ S143360x8x128.size a := fun v125 k0_hw15 => k0_hw15

def k0_off44 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32_55 : BitVec 32 := 8#32
  let v105 : BitVec 32 := Scalar.muli arg9 c8_i32_55
  let c4_i32_56 : BitVec 32 := 4#32
  let v106 : BitVec 32 := Scalar.addi v105 c4_i32_56
  let c0_i32_58 : BitVec 32 := 0#32
  let v108 : BitVec 1 := Scalar.cmpi .sgt v106 c0_i32_58
  let v109 : BitVec 32 := Scalar.extui v108
  let c0_i32_59 : BitVec 32 := 0#32
  let v110 : BitVec 1 := Scalar.cmpi .slt v106 c0_i32_59
  let v111 : BitVec 32 := Scalar.extui v110
  let v112 : BitVec 32 := Scalar.subi v109 v111
  let c4_i32_57 : BitVec 32 := 4#32
  let c0_i32_60 : BitVec 32 := 0#32
  let v113 : BitVec 1 := Scalar.cmpi .sgt c4_i32_57 c0_i32_60
  let v114 : BitVec 32 := Scalar.extui v113
  let c0_i32_61 : BitVec 32 := 0#32
  let v115 : BitVec 1 := Scalar.cmpi .slt c4_i32_57 c0_i32_61
  let v116 : BitVec 32 := Scalar.extui v115
  let v117 : BitVec 32 := Scalar.subi v114 v116
  let v118 : BitVec 1 := Scalar.cmpi .ne v112 v117
  let v119 : BitVec 32 := Scalar.remsi v106 c4_i32_57
  let c0_i32_62 : BitVec 32 := 0#32
  let v120 : BitVec 1 := Scalar.cmpi .ne v119 c0_i32_62
  let v121 : BitVec 1 := Scalar.andi v118 v120
  let v107 : BitVec 32 := Scalar.divsi v106 c4_i32_57
  let c1_i32_63 : BitVec 32 := 1#32
  let v122 : BitVec 32 := Scalar.subi v107 c1_i32_63
  let v123 : BitVec 32 := Scalar.select v121 v122 v107
  let c0_i32_66 : BitVec 32 := 0#32
  let c0_i32_67 : BitVec 32 := 0#32
  ![v123.toNat, 0, 0]
def k0_off45 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32_68 : BitVec 32 := 8#32
  let v130 : BitVec 32 := Scalar.muli arg9 c8_i32_68
  let c5_i32 : BitVec 32 := 5#32
  let v131 : BitVec 32 := Scalar.addi v130 c5_i32
  let v149 : Index := Scalar.indexCast v131
  ![v149.toNat]
def k0_off46 (v150 : BitVec 32) : Fin 3 → Nat :=
  let c0_i32_76 : BitVec 32 := 0#32
  let c0_i32_77 : BitVec 32 := 0#32
  ![v150.toNat, 0, 0]

def k0_chk16 (v150 : BitVec 32) : Prop :=
  (∀ a, (k0_off46 v150) a + S1x8x128.size a ≤ S143360x8x128.size a)
theorem k0_off46_inb : ∀ (v150 : BitVec 32) (k0_hw16 : k0_chk16 v150), ∀ a, (k0_off46 v150) a + S1x8x128.size a ≤ S143360x8x128.size a := fun v150 k0_hw16 => k0_hw16

def k0_off47 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32_68 : BitVec 32 := 8#32
  let v130 : BitVec 32 := Scalar.muli arg9 c8_i32_68
  let c5_i32 : BitVec 32 := 5#32
  let v131 : BitVec 32 := Scalar.addi v130 c5_i32
  let c0_i32_70 : BitVec 32 := 0#32
  let v133 : BitVec 1 := Scalar.cmpi .sgt v131 c0_i32_70
  let v134 : BitVec 32 := Scalar.extui v133
  let c0_i32_71 : BitVec 32 := 0#32
  let v135 : BitVec 1 := Scalar.cmpi .slt v131 c0_i32_71
  let v136 : BitVec 32 := Scalar.extui v135
  let v137 : BitVec 32 := Scalar.subi v134 v136
  let c4_i32_69 : BitVec 32 := 4#32
  let c0_i32_72 : BitVec 32 := 0#32
  let v138 : BitVec 1 := Scalar.cmpi .sgt c4_i32_69 c0_i32_72
  let v139 : BitVec 32 := Scalar.extui v138
  let c0_i32_73 : BitVec 32 := 0#32
  let v140 : BitVec 1 := Scalar.cmpi .slt c4_i32_69 c0_i32_73
  let v141 : BitVec 32 := Scalar.extui v140
  let v142 : BitVec 32 := Scalar.subi v139 v141
  let v143 : BitVec 1 := Scalar.cmpi .ne v137 v142
  let v144 : BitVec 32 := Scalar.remsi v131 c4_i32_69
  let c0_i32_74 : BitVec 32 := 0#32
  let v145 : BitVec 1 := Scalar.cmpi .ne v144 c0_i32_74
  let v146 : BitVec 1 := Scalar.andi v143 v145
  let v132 : BitVec 32 := Scalar.divsi v131 c4_i32_69
  let c1_i32_75 : BitVec 32 := 1#32
  let v147 : BitVec 32 := Scalar.subi v132 c1_i32_75
  let v148 : BitVec 32 := Scalar.select v146 v147 v132
  let c0_i32_78 : BitVec 32 := 0#32
  let c0_i32_79 : BitVec 32 := 0#32
  ![v148.toNat, 0, 0]
def k0_off48 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32_80 : BitVec 32 := 8#32
  let v155 : BitVec 32 := Scalar.muli arg9 c8_i32_80
  let c6_i32 : BitVec 32 := 6#32
  let v156 : BitVec 32 := Scalar.addi v155 c6_i32
  let v174 : Index := Scalar.indexCast v156
  ![v174.toNat]
def k0_off49 (v175 : BitVec 32) : Fin 3 → Nat :=
  let c0_i32_88 : BitVec 32 := 0#32
  let c0_i32_89 : BitVec 32 := 0#32
  ![v175.toNat, 0, 0]

def k0_chk17 (v175 : BitVec 32) : Prop :=
  (∀ a, (k0_off49 v175) a + S1x8x128.size a ≤ S143360x8x128.size a)
theorem k0_off49_inb : ∀ (v175 : BitVec 32) (k0_hw17 : k0_chk17 v175), ∀ a, (k0_off49 v175) a + S1x8x128.size a ≤ S143360x8x128.size a := fun v175 k0_hw17 => k0_hw17

def k0_off50 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32_80 : BitVec 32 := 8#32
  let v155 : BitVec 32 := Scalar.muli arg9 c8_i32_80
  let c6_i32 : BitVec 32 := 6#32
  let v156 : BitVec 32 := Scalar.addi v155 c6_i32
  let c0_i32_82 : BitVec 32 := 0#32
  let v158 : BitVec 1 := Scalar.cmpi .sgt v156 c0_i32_82
  let v159 : BitVec 32 := Scalar.extui v158
  let c0_i32_83 : BitVec 32 := 0#32
  let v160 : BitVec 1 := Scalar.cmpi .slt v156 c0_i32_83
  let v161 : BitVec 32 := Scalar.extui v160
  let v162 : BitVec 32 := Scalar.subi v159 v161
  let c4_i32_81 : BitVec 32 := 4#32
  let c0_i32_84 : BitVec 32 := 0#32
  let v163 : BitVec 1 := Scalar.cmpi .sgt c4_i32_81 c0_i32_84
  let v164 : BitVec 32 := Scalar.extui v163
  let c0_i32_85 : BitVec 32 := 0#32
  let v165 : BitVec 1 := Scalar.cmpi .slt c4_i32_81 c0_i32_85
  let v166 : BitVec 32 := Scalar.extui v165
  let v167 : BitVec 32 := Scalar.subi v164 v166
  let v168 : BitVec 1 := Scalar.cmpi .ne v162 v167
  let v169 : BitVec 32 := Scalar.remsi v156 c4_i32_81
  let c0_i32_86 : BitVec 32 := 0#32
  let v170 : BitVec 1 := Scalar.cmpi .ne v169 c0_i32_86
  let v171 : BitVec 1 := Scalar.andi v168 v170
  let v157 : BitVec 32 := Scalar.divsi v156 c4_i32_81
  let c1_i32_87 : BitVec 32 := 1#32
  let v172 : BitVec 32 := Scalar.subi v157 c1_i32_87
  let v173 : BitVec 32 := Scalar.select v171 v172 v157
  let c0_i32_90 : BitVec 32 := 0#32
  let c0_i32_91 : BitVec 32 := 0#32
  ![v173.toNat, 0, 0]
def k0_off51 (k0_t7 : Fin k0_t7_loop.trips) : Fin 1 → Nat :=
  let c0_i32_3 : BitVec 32 := 0#32
  let c1_i32_5 : BitVec 32 := 1#32
  let arg9 : BitVec 32 := Scf.iv c0_i32_3 c1_i32_5 k0_t7
  let c8_i32_92 : BitVec 32 := 8#32
  let v180 : BitVec 32 := Scalar.muli arg9 c8_i32_92
  let c7_i32 : BitVec 32 := 7#32
  let v181 : BitVec 32 := Scalar.addi v180 c7_i32
  let v199 : Index := Scalar.indexCast v181
  ![v199.toNat]
def k0_off52 (v200 : BitVec 32) : Fin 3 → Nat :=
  let c0_i32_100 : BitVec 32 := 0#32
  let c0_i32_101 : BitVec 32 := 0#32
  ![v200.toNat, 0, 0]

def k0_chk18 (v200 : BitVec 32) : Prop :=
  (∀ a, (k0_off52 v200) a + S1x8x128.size a ≤ S143360x8x128.size a)
theorem k0_off52_inb : ∀ (v200 : BitVec 32) (k0_hw18 : k0_chk18 v200), ∀ a, (k0_off52 v200) a + S1x8x128.size a ≤ S143360x8x128.size a := fun v200 k0_hw18 => k0_hw18

def k0_off53 (k0_t7 : Fin k0_t7_loop.trips) : Fin 3 → Nat :=
  let c0_i32_3 : BitVec 32 := 0#32
  let c1_i32_5 : BitVec 32 := 1#32
  let arg9 : BitVec 32 := Scf.iv c0_i32_3 c1_i32_5 k0_t7
  let c8_i32_92 : BitVec 32 := 8#32
  let v180 : BitVec 32 := Scalar.muli arg9 c8_i32_92
  let c7_i32 : BitVec 32 := 7#32
  let v181 : BitVec 32 := Scalar.addi v180 c7_i32
  let c0_i32_94 : BitVec 32 := 0#32
  let v183 : BitVec 1 := Scalar.cmpi .sgt v181 c0_i32_94
  let v184 : BitVec 32 := Scalar.extui v183
  let c0_i32_95 : BitVec 32 := 0#32
  let v185 : BitVec 1 := Scalar.cmpi .slt v181 c0_i32_95
  let v186 : BitVec 32 := Scalar.extui v185
  let v187 : BitVec 32 := Scalar.subi v184 v186
  let c4_i32_93 : BitVec 32 := 4#32
  let c0_i32_96 : BitVec 32 := 0#32
  let v188 : BitVec 1 := Scalar.cmpi .sgt c4_i32_93 c0_i32_96
  let v189 : BitVec 32 := Scalar.extui v188
  let c0_i32_97 : BitVec 32 := 0#32
  let v190 : BitVec 1 := Scalar.cmpi .slt c4_i32_93 c0_i32_97
  let v191 : BitVec 32 := Scalar.extui v190
  let v192 : BitVec 32 := Scalar.subi v189 v191
  let v193 : BitVec 1 := Scalar.cmpi .ne v187 v192
  let v194 : BitVec 32 := Scalar.remsi v181 c4_i32_93
  let c0_i32_98 : BitVec 32 := 0#32
  let v195 : BitVec 1 := Scalar.cmpi .ne v194 c0_i32_98
  let v196 : BitVec 1 := Scalar.andi v193 v195
  let v182 : BitVec 32 := Scalar.divsi v181 c4_i32_93
  let c1_i32_99 : BitVec 32 := 1#32
  let v197 : BitVec 32 := Scalar.subi v182 c1_i32_99
  let v198 : BitVec 32 := Scalar.select v196 v197 v182
  let c0_i32_102 : BitVec 32 := 0#32
  let c0_i32_103 : BitVec 32 := 0#32
  ![v198.toNat, 0, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1x32 : Shape := ⟨2, ![1, 32]⟩
abbrev S33792x4 : Shape := ⟨2, ![33792, 4]⟩
abbrev S33792x8x128 : Shape := ⟨3, ![33792, 8, 128]⟩
abbrev S33792x1024 : Shape := ⟨2, ![33792, 1024]⟩
abbrev S135168 : Shape := ⟨1, ![135168]⟩
abbrev S33792 : Shape := ⟨1, ![33792]⟩
abbrev S_ : Shape := ⟨0, ![]⟩
abbrev S135168x1 : Shape := ⟨2, ![135168, 1]⟩
abbrev S32 : Shape := ⟨1, ![32]⟩
abbrev S143360 : Shape := ⟨1, ![143360]⟩
abbrev S1x1024 : Shape := ⟨2, ![1, 1024]⟩
abbrev S33793x1024 : Shape := ⟨2, ![33793, 1024]⟩
abbrev S143360x1 : Shape := ⟨2, ![143360, 1]⟩
abbrev S143360x1024 : Shape := ⟨2, ![143360, 1024]⟩
abbrev S143360x8x128 : Shape := ⟨3, ![143360, 8, 128]⟩

abbrev nBuf : Space → Nat
  | .hbm => 127
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S33792x4, .i32⟩
  | .hbm, ⟨2, _⟩ => ⟨S33792x4, .i32⟩
  | .hbm, ⟨3, _⟩ => ⟨S33792x8x128, .f32⟩
  | .hbm, ⟨4, _⟩ => ⟨S33792x1024, .f32⟩
  | .hbm, ⟨5, _⟩ => ⟨S135168, .i32⟩
  | .hbm, ⟨6, _⟩ => ⟨S33792, .i32⟩
  | .hbm, ⟨7, _⟩ => ⟨S33792x4, .i32⟩
  | .hbm, ⟨8, _⟩ => ⟨S135168, .i32⟩
  | .hbm, ⟨9, _⟩ => ⟨S135168, .i32⟩
  | .hbm, ⟨10, _⟩ => ⟨S135168, .i32⟩
  | .hbm, ⟨11, _⟩ => ⟨S135168, .i32⟩
  | .hbm, ⟨12, _⟩ => ⟨S_, .i32⟩
  | .hbm, ⟨13, _⟩ => ⟨S135168, .i32⟩
  | .hbm, ⟨14, _⟩ => ⟨S135168, .i1⟩
  | .hbm, ⟨15, _⟩ => ⟨S_, .i32⟩
  | .hbm, ⟨16, _⟩ => ⟨S135168, .i32⟩
  | .hbm, ⟨17, _⟩ => ⟨S135168, .i32⟩
  | .hbm, ⟨18, _⟩ => ⟨S135168, .i32⟩
  | .hbm, ⟨19, _⟩ => ⟨S135168x1, .i32⟩
  | .hbm, ⟨20, _⟩ => ⟨S135168, .i32⟩
  | .hbm, ⟨21, _⟩ => ⟨S_, .i32⟩
  | .hbm, ⟨22, _⟩ => ⟨S135168, .i32⟩
  | .hbm, ⟨23, _⟩ => ⟨S135168, .i1⟩
  | .hbm, ⟨24, _⟩ => ⟨S_, .i32⟩
  | .hbm, ⟨25, _⟩ => ⟨S135168, .i32⟩
  | .hbm, ⟨26, _⟩ => ⟨S135168, .i32⟩
  | .hbm, ⟨27, _⟩ => ⟨S135168, .i32⟩
  | .hbm, ⟨28, _⟩ => ⟨S135168x1, .i32⟩
  | .hbm, ⟨29, _⟩ => ⟨S135168, .i32⟩
  | .hbm, ⟨30, _⟩ => ⟨S_, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S135168, .i32⟩
  | .hbm, ⟨35, _⟩ => ⟨S135168, .i32⟩
  | .hbm, ⟨36, _⟩ => ⟨S_, .i32⟩
  | .hbm, ⟨37, _⟩ => ⟨S135168, .i32⟩
  | .hbm, ⟨38, _⟩ => ⟨S135168, .i1⟩
  | .hbm, ⟨39, _⟩ => ⟨S_, .i32⟩
  | .hbm, ⟨40, _⟩ => ⟨S135168, .i32⟩
  | .hbm, ⟨41, _⟩ => ⟨S135168, .i32⟩
  | .hbm, ⟨42, _⟩ => ⟨S135168, .i32⟩
  | .hbm, ⟨43, _⟩ => ⟨S135168x1, .i32⟩
  | .hbm, ⟨44, _⟩ => ⟨S_, .i32⟩
  | .hbm, ⟨45, _⟩ => ⟨S135168, .i32⟩
  | .hbm, ⟨46, _⟩ => ⟨S32, .i32⟩
  | .hbm, ⟨47, _⟩ => ⟨S_, .i32⟩
  | .hbm, ⟨48, _⟩ => ⟨S_, .i32⟩
  | .hbm, ⟨49, _⟩ => ⟨S32, .i32⟩
  | .hbm, ⟨50, _⟩ => ⟨S32, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S_, .i32⟩
  | .hbm, ⟨58, _⟩ => ⟨S_, .i32⟩
  | .hbm, ⟨59, _⟩ => ⟨S32, .i32⟩
  | .hbm, ⟨60, _⟩ => ⟨S32, .i32⟩
  | .hbm, ⟨61, _⟩ => ⟨S32, .i32⟩
  | .hbm, ⟨62, _⟩ => ⟨S_, .i32⟩
  | .hbm, ⟨63, _⟩ => ⟨S32, .i32⟩
  | .hbm, ⟨64, _⟩ => ⟨S32, .i1⟩
  | .hbm, ⟨65, _⟩ => ⟨S32, .i32⟩
  | .hbm, ⟨66, _⟩ => ⟨S32, .i32⟩
  | .hbm, ⟨67, _⟩ => ⟨S_, .i32⟩
  | .hbm, ⟨68, _⟩ => ⟨S32, .i32⟩
  | .hbm, ⟨69, _⟩ => ⟨S32, .i1⟩
  | .hbm, ⟨70, _⟩ => ⟨S32, .i1⟩
  | .hbm, ⟨71, _⟩ => ⟨S_, .i32⟩
  | .hbm, ⟨72, _⟩ => ⟨S32, .i32⟩
  | .hbm, ⟨73, _⟩ => ⟨S32, .i32⟩
  | .hbm, ⟨74, _⟩ => ⟨S32, .i32⟩
  | .hbm, ⟨75, _⟩ => ⟨S_, .i32⟩
  | .hbm, ⟨76, _⟩ => ⟨S32, .i32⟩
  | .hbm, ⟨77, _⟩ => ⟨S32, .i32⟩
  | .hbm, ⟨78, _⟩ => ⟨S_, .i32⟩
  | .hbm, ⟨79, _⟩ => ⟨S_, .i32⟩
  | .hbm, ⟨80, _⟩ => ⟨S32, .i32⟩
  | .hbm, ⟨81, _⟩ => ⟨S32, .i32⟩
  | .hbm, ⟨82, _⟩ => ⟨S_, .i32⟩
  | .hbm, ⟨83, _⟩ => ⟨S135168, .i32⟩
  | .hbm, ⟨84, _⟩ => ⟨S135168, .i1⟩
  | .hbm, ⟨85, _⟩ => ⟨S_, .i32⟩
  | .hbm, ⟨86, _⟩ => ⟨S135168, .i32⟩
  | .hbm, ⟨87, _⟩ => ⟨S135168, .i32⟩
  | .hbm, ⟨88, _⟩ => ⟨S135168, .i32⟩
  | .hbm, ⟨89, _⟩ => ⟨S135168x1, .i32⟩
  | .hbm, ⟨90, _⟩ => ⟨S135168, .i32⟩
  | .hbm, ⟨91, _⟩ => ⟨S135168, .i32⟩
  | .hbm, ⟨92, _⟩ => ⟨S_, .i32⟩
  | .hbm, ⟨93, _⟩ => ⟨S135168, .i32⟩
  | .hbm, ⟨94, _⟩ => ⟨S135168, .i1⟩
  | .hbm, ⟨95, _⟩ => ⟨S_, .i32⟩
  | .hbm, ⟨96, _⟩ => ⟨S135168, .i32⟩
  | .hbm, ⟨97, _⟩ => ⟨S135168, .i32⟩
  | .hbm, ⟨98, _⟩ => ⟨S135168, .i32⟩
  | .hbm, ⟨99, _⟩ => ⟨S135168x1, .i32⟩
  | .hbm, ⟨100, _⟩ => ⟨S135168, .i32⟩
  | .hbm, ⟨101, _⟩ => ⟨S135168, .i32⟩
  | .hbm, ⟨102, _⟩ => ⟨S135168, .i32⟩
  | .hbm, ⟨103, _⟩ => ⟨S_, .i32⟩
  | .hbm, ⟨104, _⟩ => ⟨S143360, .i32⟩
  | .hbm, ⟨105, _⟩ => ⟨S_, .i32⟩
  | .hbm, ⟨106, _⟩ => ⟨S135168, .i32⟩
  | .hbm, ⟨107, _⟩ => ⟨S135168, .i1⟩
  | .hbm, ⟨108, _⟩ => ⟨S_, .i32⟩
  | .hbm, ⟨109, _⟩ => ⟨S135168, .i32⟩
  | .hbm, ⟨110, _⟩ => ⟨S135168, .i32⟩
  | .hbm, ⟨111, _⟩ => ⟨S135168, .i32⟩
  | .hbm, ⟨112, _⟩ => ⟨S135168x1, .i32⟩
  | .hbm, ⟨113, _⟩ => ⟨S143360, .i32⟩
  | .hbm, ⟨114, _⟩ => ⟨S_, .f32⟩
  | .hbm, ⟨115, _⟩ => ⟨S1x1024, .f32⟩
  | .hbm, ⟨116, _⟩ => ⟨S33793x1024, .f32⟩
  | .hbm, ⟨117, _⟩ => ⟨S_, .i32⟩
  | .hbm, ⟨118, _⟩ => ⟨S143360, .i32⟩
  | .hbm, ⟨119, _⟩ => ⟨S143360, .i1⟩
  | .hbm, ⟨120, _⟩ => ⟨S_, .i32⟩
  | .hbm, ⟨121, _⟩ => ⟨S143360, .i32⟩
  | .hbm, ⟨122, _⟩ => ⟨S143360, .i32⟩
  | .hbm, ⟨123, _⟩ => ⟨S143360, .i32⟩
  | .hbm, ⟨124, _⟩ => ⟨S143360x1, .i32⟩
  | .hbm, ⟨125, _⟩ => ⟨S143360x1024, .f32⟩
  | .hbm, ⟨126, _⟩ => ⟨S143360x8x128, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1_0 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_call2_call0_c : Ref sig .tc := ⟨.hbm, 47, rfl⟩
abbrev main_call2_call0_v0 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_c : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_0 : Ref sig .tc := ⟨.hbm, 71, rfl⟩
abbrev main_call3_v12 : Ref sig .tc := ⟨.hbm, 72, rfl⟩
abbrev main_call3_v13 : Ref sig .tc := ⟨.hbm, 73, rfl⟩
abbrev main_v36 : Ref sig .tc := ⟨.hbm, 74, rfl⟩
abbrev main_c_11 : Ref sig .tc := ⟨.hbm, 75, rfl⟩
abbrev main_v37 : Ref sig .tc := ⟨.hbm, 76, rfl⟩
abbrev main_v38 : Ref sig .tc := ⟨.hbm, 77, rfl⟩
abbrev main_call4_call0_c : Ref sig .tc := ⟨.hbm, 78, rfl⟩
abbrev main_call4_call0_v0 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_c_13 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_14 : Ref sig .tc := ⟨.hbm, 92, rfl⟩
abbrev main_v49 : Ref sig .tc := ⟨.hbm, 93, rfl⟩
abbrev main_v50 : Ref sig .tc := ⟨.hbm, 94, rfl⟩
abbrev main_c_15 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_16 : Ref sig .tc := ⟨.hbm, 103, rfl⟩
abbrev main_v58 : Ref sig .tc := ⟨.hbm, 104, rfl⟩
abbrev main_c_17 : Ref sig .tc := ⟨.hbm, 105, rfl⟩
abbrev main_v59 : Ref sig .tc := ⟨.hbm, 106, rfl⟩
abbrev main_v60 : Ref sig .tc := ⟨.hbm, 107, rfl⟩
abbrev main_c_18 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst : Ref sig .tc := ⟨.hbm, 114, rfl⟩
abbrev main_v66 : Ref sig .tc := ⟨.hbm, 115, rfl⟩
abbrev main_v67 : Ref sig .tc := ⟨.hbm, 116, rfl⟩
abbrev main_c_19 : Ref sig .tc := ⟨.hbm, 117, rfl⟩
abbrev main_v68 : Ref sig .tc := ⟨.hbm, 118, rfl⟩
abbrev main_v69 : Ref sig .tc := ⟨.hbm, 119, rfl⟩
abbrev main_c_20 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩

abbrev nD : Nat := 1
abbrev τ : Topo := Topo.v7x

variable {F : FTy → Type} [FloatOps F]
-- ==== Experts.lean ====
abbrev S1x32 : Shape := ⟨2, ![1, 32]⟩
abbrev S143360x8x128 : Shape := ⟨3, ![143360, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32 : Shape := ⟨1, ![32]⟩
abbrev S_ : Shape := ⟨0, ![]⟩
abbrev S1 : Shape := ⟨1, ![1]⟩
abbrev S560 : Shape := ⟨1, ![560]⟩
abbrev S560x1 : Shape := ⟨2, ![560, 1]⟩
abbrev S560x32 : Shape := ⟨2, ![560, 32]⟩
abbrev S32x1x2048 : Shape := ⟨3, ![32, 1, 2048]⟩
abbrev S32x1x1024 : Shape := ⟨3, ![32, 1, 1024]⟩
abbrev S256x8x128 : Shape := ⟨3, ![256, 8, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x1x128 : Shape := ⟨3, ![256, 1, 128]⟩
abbrev S256x128 : Shape := ⟨2, ![256, 128]⟩
abbrev S256x1024 : Shape := ⟨2, ![256, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 61
  | .vmem => 12
  | .smem => 2
  | _ => 0

abbrev bufTy : (tb : Table) → Fin (tcTables nBuf tb) → BufTy
  | .hbm, ⟨0, _⟩ => ⟨S1x32, .f32⟩
  | .hbm, ⟨1, _⟩ => ⟨S143360x8x128, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x1024x2048, .bf16⟩
  | .hbm, ⟨7, _⟩ => ⟨S32x1024x1024, .bf16⟩
  | .hbm, ⟨8, _⟩ => ⟨S32, .f32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S1, .i32⟩
  | .hbm, ⟨42, _⟩ => ⟨S_, .i32⟩
  | .hbm, ⟨43, _⟩ => ⟨S560, .i32⟩
  | .hbm, ⟨44, _⟩ => ⟨S_, .i32⟩
  | .hbm, ⟨45, _⟩ => ⟨S_, .i32⟩
  | .hbm, ⟨46, _⟩ => ⟨S560, .i32⟩
  | .hbm, ⟨47, _⟩ => ⟨S560, .i32⟩
  | .hbm, ⟨48, _⟩ => ⟨S560x1, .i32⟩
  | .hbm, ⟨49, _⟩ => ⟨S1x32, .i32⟩
  | .hbm, ⟨50, _⟩ => ⟨S560x32, .i32⟩
  | .hbm, ⟨51, _⟩ => ⟨S560x32, .i32⟩
  | .hbm, ⟨52, _⟩ => ⟨S560x32, .i1⟩
  | .hbm, ⟨53, _⟩ => ⟨S560x32, .i32⟩
  | .hbm, ⟨54, _⟩ => ⟨S_, .i32⟩
  | .hbm, ⟨55, _⟩ => ⟨S560, .i32⟩
  | .hbm, ⟨56, _⟩ => ⟨S_, .i32⟩
  | .hbm, ⟨57, _⟩ => ⟨S560, .i32⟩
  | .hbm, ⟨58, _⟩ => ⟨S32x1x2048, .f32⟩
  | .hbm, ⟨59, _⟩ => ⟨S32x1x1024, .f32⟩
  | .hbm, ⟨60, _⟩ => ⟨S143360x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x8x128, .f32⟩
  | .local _ .vmem, ⟨11, _⟩ => ⟨S256x8x128, .f32⟩
  | .local _ .smem, ⟨0, _⟩ => ⟨S560, .i32⟩
  | .local _ .smem, ⟨1, _⟩ => ⟨S1, .i32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v8 : Ref sig .tc := ⟨.hbm, 33, rfl⟩
abbrev main_call1_call0_c : Ref sig .tc := ⟨.hbm, 34, rfl⟩
abbrev main_call1_call0_v0 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_4 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v27 : Ref sig .tc := ⟨.smem, 0, rfl⟩
abbrev main_v28 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![560], ![false]⟩

abbrev pre0 : Pipeline.Prefetch sig := ⟨2, ![main_v27.idx, main_v28.idx], fun | 0 => main_v27.names | 1 => main_v28.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefExperts.lean ====
abbrev S1x32 : Shape := ⟨2, ![1, 32]⟩
abbrev S143360x8x128 : Shape := ⟨3, ![143360, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32 : Shape := ⟨1, ![32]⟩
abbrev S_ : Shape := ⟨0, ![]⟩
abbrev S560 : Shape := ⟨1, ![560]⟩
abbrev S560x1 : Shape := ⟨2, ![560, 1]⟩
abbrev S560x32 : Shape := ⟨2, ![560, 32]⟩
abbrev S560x256x1024 : Shape := ⟨3, ![560, 256, 1024]⟩
abbrev S560x1024x2048 : Shape := ⟨3, ![560, 1024, 2048]⟩
abbrev S560x256x2048 : Shape := ⟨3, ![560, 256, 2048]⟩
abbrev S560x2048 : Shape := ⟨2, ![560, 2048]⟩
abbrev S560x1x2048 : Shape := ⟨3, ![560, 1, 2048]⟩
abbrev S560x1024x1024 : Shape := ⟨3, ![560, 1024, 1024]⟩
abbrev S560x1024 : Shape := ⟨2, ![560, 1024]⟩
abbrev S560x1x1024 : Shape := ⟨3, ![560, 1, 1024]⟩

abbrev nBuf : Space → Nat
  | .hbm => 133
  | .vmem => 0
  | .smem => 0
  | _ => 0

abbrev hbmTy0_0 (i : Nat) : BufTy := match i % 128 with
  | 0 => ⟨S1x32, .f32⟩
  | 1 => ⟨S143360x8x128, .f32⟩
  | 2 => ⟨S32x1024x2048, .f32⟩
  | 3 => ⟨S32x2048, .f32⟩
  | 4 => ⟨S32x1024x1024, .f32⟩
  | 5 => ⟨S32x1024, .f32⟩
  | 6 => ⟨S32, .f32⟩
  | 7 => ⟨S32, .i32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S_, .i32⟩
  | 16 => ⟨S32, .i32⟩
  | 17 => ⟨S32, .i32⟩
  | 18 => ⟨S32, .i32⟩
  | 19 => ⟨S_, .i32⟩
  | 20 => ⟨S32, .i32⟩
  | 21 => ⟨S32, .i1⟩
  | 22 => ⟨S32, .i32⟩
  | 23 => ⟨S32, .i32⟩
  | 24 => ⟨S_, .i32⟩
  | 25 => ⟨S32, .i32⟩
  | 26 => ⟨S32, .i1⟩
  | 27 => ⟨S32, .i1⟩
  | 28 => ⟨S_, .i32⟩
  | 29 => ⟨S32, .i32⟩
  | 30 => ⟨S32, .i32⟩
  | 31 => ⟨S32, .i32⟩
  | 32 => ⟨S_, .i32⟩
  | 33 => ⟨S32, .i32⟩
  | 34 => ⟨S32, .i32⟩
  | 35 => ⟨S_, .i32⟩
  | 36 => ⟨S_, .i32⟩
  | 37 => ⟨S32, .i32⟩
  | 38 => ⟨S560, .i32⟩
  | 39 => ⟨S_, .i32⟩
  | 40 => ⟨S560, .i32⟩
  | 41 => ⟨S560, .i32⟩
  | 42 => ⟨S1x32, .i32⟩
  | 43 => ⟨S560x1, .i32⟩
  | 44 => ⟨S560x32, .i32⟩
  | 45 => ⟨S560x32, .i32⟩
  | 46 => ⟨S560x32, .i1⟩
  | 47 => ⟨S560x32, .i32⟩
  | 48 => ⟨S_, .i32⟩
  | 49 => ⟨S560, .i32⟩
  | 50 => ⟨S_, .i32⟩
  | 51 => ⟨S_, .i32⟩
  | 52 => ⟨S_, .i32⟩
  | 53 => ⟨S560, .i32⟩
  | 54 => ⟨S560, .i32⟩
  | 55 => ⟨S_, .i32⟩
  | 56 => ⟨S560, .i32⟩
  | 57 => ⟨S560, .i32⟩
  | 58 => ⟨S560x256x1024, .f32⟩
  | 59 => ⟨S_, .i32⟩
  | 60 => ⟨S560, .i32⟩
  | 61 => ⟨S560, .i1⟩
  | 62 => ⟨S_, .i32⟩
  | 63 => ⟨S560, .i32⟩
  | 64 => ⟨S560, .i32⟩
  | 65 => ⟨S560, .i32⟩
  | 66 => ⟨S560x1, .i32⟩
  | 67 => ⟨S560x1024x2048, .f32⟩
  | 68 => ⟨S560x256x2048, .f32⟩
  | 69 => ⟨S_, .i32⟩
  | 70 => ⟨S560, .i32⟩
  | 71 => ⟨S560, .i1⟩
  | 72 => ⟨S_, .i32⟩
  | 73 => ⟨S560, .i32⟩
  | 74 => ⟨S560, .i32⟩
  | 75 => ⟨S560, .i32⟩
  | 76 => ⟨S560x1, .i32⟩
  | 77 => ⟨S560x2048, .f32⟩
  | 78 => ⟨S560x1x2048, .f32⟩
  | 79 => ⟨S560x256x2048, .f32⟩
  | 80 => ⟨S560x256x2048, .f32⟩
  | 81 => ⟨S560x256x1024, .f32⟩
  | 82 => ⟨S_, .f32⟩
  | 83 => ⟨S560x256x1024, .f32⟩
  | 84 => ⟨S560x256x1024, .f32⟩
  | 85 => ⟨S560x256x1024, .f32⟩
  | 86 => ⟨S_, .f32⟩
  | 87 => ⟨S_, .f32⟩
  | 88 => ⟨S_, .f32⟩
  | 89 => ⟨S560x256x1024, .f32⟩
  | 90 => ⟨S560x256x1024, .f32⟩
  | 91 => ⟨S_, .f32⟩
  | 92 => ⟨S560x256x1024, .f32⟩
  | 93 => ⟨S560x256x1024, .f32⟩
  | 94 => ⟨S_, .f32⟩
  | 95 => ⟨S560x256x1024, .f32⟩
  | 96 => ⟨S560x256x1024, .f32⟩
  | 97 => ⟨S560x256x1024, .f32⟩
  | 98 => ⟨S560x256x1024, .f32⟩
  | 99 => ⟨S_, .f32⟩
  | 100 => ⟨S560x256x1024, .f32⟩
  | 101 => ⟨S560x256x1024, .f32⟩
  | 102 => ⟨S_, .f32⟩
  | 103 => ⟨S560x256x1024, .f32⟩
  | 104 => ⟨S560x256x1024, .f32⟩
  | 105 => ⟨S560x256x1024, .f32⟩
  | 106 => ⟨S_, .f32⟩
  | 107 => ⟨S560x256x1024, .f32⟩
  | 108 => ⟨S560x256x1024, .f32⟩
  | 109 => ⟨S560x256x1024, .f32⟩
  | 110 => ⟨S_, .i32⟩
  | 111 => ⟨S560, .i32⟩
  | 112 => ⟨S560, .i1⟩
  | 113 => ⟨S_, .i32⟩
  | 114 => ⟨S560, .i32⟩
  | 115 => ⟨S560, .i32⟩
  | 116 => ⟨S560, .i32⟩
  | 117 => ⟨S560x1, .i32⟩
  | 118 => ⟨S560x1024x1024, .f32⟩
  | 119 => ⟨S560x256x1024, .f32⟩
  | 120 => ⟨S_, .i32⟩
  | 121 => ⟨S560, .i32⟩
  | 122 => ⟨S560, .i1⟩
  | 123 => ⟨S_, .i32⟩
  | 124 => ⟨S560, .i32⟩
  | 125 => ⟨S560, .i32⟩
  | 126 => ⟨S560, .i32⟩
  | 127 => ⟨S560x1, .i32⟩
  | _ => ⟨S1x32, .f32⟩

abbrev hbmTy0_1 (i : Nat) : BufTy := match i % 128 with
  | 0 => ⟨S560x1024, .f32⟩
  | 1 => ⟨S560x1x1024, .f32⟩
  | 2 => ⟨S560x256x1024, .f32⟩
  | 3 => ⟨S560x256x1024, .f32⟩
  | 4 => ⟨S143360x8x128, .f32⟩
  | _ => ⟨S1x32, .f32⟩

abbrev hbmTy (i : Nat) : BufTy := match i / 128 with
  | 0 => hbmTy0_0 i
  | 1 => hbmTy0_1 i
  | _ => ⟨S1x32, .f32⟩

abbrev bufTy : (tb : Table) → Fin (tcTables nBuf tb) → BufTy
  | .hbm, ⟨i, _⟩ => hbmTy i
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_call1_call0_c : Ref sig .tc := ⟨.hbm, 35, rfl⟩
abbrev main_call1_call0_v0 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_c_5 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v20 : Ref sig .tc := ⟨.hbm, 57, rfl⟩
abbrev main_v21 : Ref sig .tc := ⟨.hbm, 58, rfl⟩
abbrev main_c_7 : Ref sig .tc := ⟨.hbm, 59, rfl⟩
abbrev main_v22 : Ref sig .tc := ⟨.hbm, 60, rfl⟩
abbrev main_v23 : Ref sig .tc := ⟨.hbm, 61, rfl⟩
abbrev main_c_8 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_9 : Ref sig .tc := ⟨.hbm, 69, rfl⟩
abbrev main_v30 : Ref sig .tc := ⟨.hbm, 70, rfl⟩
abbrev main_v31 : Ref sig .tc := ⟨.hbm, 71, rfl⟩
abbrev main_c_10 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_11 : Ref sig .tc := ⟨.hbm, 86, rfl⟩
abbrev main_cst_12 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v44 : Ref sig .tc := ⟨.hbm, 93, rfl⟩
abbrev main_cst_13 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_14 : Ref sig .tc := ⟨.hbm, 99, rfl⟩
abbrev main_v49 : Ref sig .tc := ⟨.hbm, 100, rfl⟩
abbrev main_v50 : Ref sig .tc := ⟨.hbm, 101, rfl⟩
abbrev main_cst_15 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_16 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_c_17 : Ref sig .tc := ⟨.hbm, 110, rfl⟩
abbrev main_v57 : Ref sig .tc := ⟨.hbm, 111, rfl⟩
abbrev main_v58 : Ref sig .tc := ⟨.hbm, 112, rfl⟩
abbrev main_c_18 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_19 : Ref sig .tc := ⟨.hbm, 120, rfl⟩
abbrev main_v65 : Ref sig .tc := ⟨.hbm, 121, rfl⟩
abbrev main_v66 : Ref sig .tc := ⟨.hbm, 122, rfl⟩
abbrev main_c_20 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩

abbrev nD : Nat := 1
abbrev τ : Topo := Topo.v7x

variable {F : FTy → Type} [FloatOps F]
-- ==== Proof.Rows.lean ====
/-
  Hand-written, untrusted. One copy of the dispatch: a row of the result, a token of the staged block, and the step of one
  issue of the batch of copies at a chosen number.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem row_inb (r : ℕ) (h : r < 143360) : ∀ a, (![r, 0, 0] : Fin 3 → Nat) a + S1x8x128.size a ≤ S143360x8x128.size a := by
  intro a; fin_cases a
  · show r + 1 ≤ 143360; omega
  · show 0 + 8 ≤ 8; omega
  · show 0 + 128 ≤ 128; omega

theorem tok_inb (r : ℕ) (h : r < 512) : ∀ a, (![r, 0, 0] : Fin 3 → Nat) a + S1x8x128.size a ≤ S512x8x128.size a := by
  intro a; fin_cases a
  · show r + 1 ≤ 512; omega
  · show 0 + 8 ≤ 8; omega
  · show 0 + 128 ≤ 128; omega

/-- Row `r` of the result, as the body names a copy's destination. -/
def rowM (r : ℕ) (h : r < 143360) : Memref sig .tc .hbm S8x128 .f32 :=
  ((Memref.whole main_v40).slice (Rect.unit (s := S143360x8x128) ![r, 0, 0] S1x8x128.size (row_inb r h)) (fun _ => rfl)).squeeze
    S8x128 squeezes_S1x8x128_S8x128

/-- Token `r` of the staged block, as the body names a copy's source. -/
def tokM (arg4 : Memref sig .tc .vmem S512x8x128 .f32) (r : ℕ) (h : r < 512) : Memref sig .tc .vmem S8x128 .f32 :=
  (arg4.slice (Rect.unit (s := S512x8x128) ![r, 0, 0] S1x8x128.size (tok_inb r h)) (fun _ => rfl)).squeeze
    S8x128 squeezes_S1x8x128_S8x128

theorem row_set (r : ℕ) (h : r < 143360) : (rowM r h).view.set = (Rect.unit (s := S143360x8x128) ![r, 0, 0] S1x8x128.size (row_inb r h)).set := by
  unfold rowM; exact (View.set_reshape _ _).trans (View.set_slice_whole _ _)

theorem mem_row (r : ℕ) (h : r < 143360) (y : S143360x8x128.Idx) : y ∈ (rowM r h).view.set ↔ (y 0).val = r := by
  have e : (y ∈ (rowM r h).view.set) ↔ y ∈ (Rect.unit (s := S143360x8x128) ![r, 0, 0] S1x8x128.size (row_inb r h)).set :=
    Eq.to_iff (congrArg (fun S : Finset S143360x8x128.Idx => y ∈ S) (row_set r h))
  rw [e, Rect.mem_set_unit]
  have h1 : (y 1).val < 8 := (y 1).isLt
  have h2 : (y 2).val < 128 := (y 2).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 8; omega
    · show 0 ≤ (y 2).val ∧ (y 2).val < 0 + 128; omega

/-- One copy's credit. -/
theorem tile_credit : RefSig.tileCredit S8x128 .f32 = 128 := by decide +kernel
theorem row_credit (r : ℕ) (h : r < 143360) : (rowM r h).view.dmaCredit = 128 := tile_credit
theorem row_amount (r : ℕ) (h : r < 143360) (d : DmaSem sig) : (rowM r h).view.amount (.dma d) = 128 := tile_credit

/-- An index of three axes. -/
abbrev at3 {a b c : ℕ} (x : Fin a) (y : Fin b) (z : Fin c) : (⟨3, ![a, b, c]⟩ : Shape).Idx := fun
  | ⟨0, _⟩ => x
  | ⟨1, _⟩ => y
  | ⟨2, _⟩ => z

theorem emb_eq {n : ℕ} (r : ℕ) (h : r < n) (inb : ∀ a, (![r, 0, 0] : Fin 3 → Nat) a + S1x8x128.size a ≤ (⟨3, ![n, 8, 128]⟩ : Shape).size a)
    (hn : S8x128.numel = S1x8x128.numel) (x : S8x128.Idx) :
    (Rect.unit (s := ⟨3, ![n, 8, 128]⟩) ![r, 0, 0] S1x8x128.size inb).emb (Shape.reshapeEquiv hn x) = at3 (⟨r, h⟩ : Fin n) (x 0) (x 1) := by
  have e : Shape.reshapeEquiv hn x = (at3 (⟨0, Nat.one_pos⟩ : Fin 1) (x 0) (x 1) : S1x8x128.Idx) := by
    refine Shape.reshapeEquiv_eq_of_rowMajor hn ?_
    rw [Shape.rowMajor_val_three, Shape.rowMajor_val_two]
    show (0 * 8 + (x 0).val) * 128 + (x 1).val = (x 0).val * 128 + (x 1).val
    omega
  rw [e]
  funext a; fin_cases a
  · exact Fin.ext (show r + 1 * 0 = r by omega)
  · exact Fin.ext (show 0 + 1 * (x 0).val = (x 0).val by omega)
  · exact Fin.ext (show 0 + 1 * (x 1).val = (x 1).val by omega)

theorem row_read (r : ℕ) (h : r < 143360) (f : S143360x8x128.Idx → Elt F .f32) (x : S8x128.Idx) :
    (rowM r h).view.read (Elt F) f x = f (at3 (⟨r, h⟩ : Fin 143360) (x 0) (x 1)) :=
  congrArg f (emb_eq r h (row_inb r h) squeezes_S1x8x128_S8x128.numel_eq x)

theorem tok_read (arg4 : Memref sig .tc .vmem S512x8x128 .f32) (harg4 : arg4.IsWhole) (r : ℕ) (h : r < 512)
    (X : S512x8x128.Idx → Elt F .f32) (x : S8x128.Idx) :
    (tokM arg4 r h).view.read (Elt F) (harg4.unread X) x = X (at3 (⟨r, h⟩ : Fin 512) (x 0) (x 1)) :=
  (congrFun (harg4.read_unread X) _).trans (congrArg X (emb_eq r h (tok_inb r h) squeezes_S1x8x128_S8x128.numel_eq x))

/-- What a copy into row `r` writes there. -/
theorem row_write (r : ℕ) (h : r < 143360) (f : S143360x8x128.Idx → Elt F .f32) (w : S8x128.Idx → Elt F .f32)
    (y : S143360x8x128.Idx) (hy : (y 0).val = r) :
    (rowM r h).view.write (Elt F) f w Finset.univ y = w (fun | ⟨0, _⟩ => y 1 | ⟨1, _⟩ => y 2) := by
  have e := congrFun (View.read_write_univ (v := (rowM r h).view) (Val := Elt F) f w) (fun | ⟨0, _⟩ => y 1 | ⟨1, _⟩ => y 2)
  rw [← e]
  refine Eq.trans ?_ (row_read r h _ _).symm
  congr 1
  funext a; fin_cases a
  · exact Fin.ext hy
  · rfl
  · rfl

/-! ## The batch of copies of one grid point -/

section Flight

variable (c : Dev nD) (arg4 : Memref sig .tc .vmem S512x8x128 .f32) (harg4 : arg4.IsWhole)
  (X : S512x8x128.Idx → Elt F .f32) (dw : Fin 2048 → ℕ) (hdw : ∀ a, dw a < 143360)

theorem quarter (a : Fin 2048) : a.val / 4 < 512 := by have := a.isLt; omega

/-- What copy `a` borrows and hands back: its row of the result, at the contents `f`, and its token, at a share of its own. -/
def held (f : S143360x8x128.Idx → Elt F .f32) (a : Fin 2048) : sProp 𝕄 :=
  iprop(((rowM (dw a) (hdw a)).view.loc (c : Thread nD τ) ↦[(rowM (dw a) (hdw a)).view.set]{fullShare} f)
    ∗ ((tokM arg4 (a.val / 4) (quarter a)).view.loc (c : Thread nD τ) ↦[(tokM arg4 (a.val / 4) (quarter a)).view.set]{Transfers.shareTokN fullShare a.val} (harg4.unread X)))

set_option backward.isDefEq.respectTransparency.types false in
instance held_storable (f : S143360x8x128.Idx → Elt F .f32) (a : Fin 2048) : BI.Storable (upEmb : UEmb _ 𝕄) (held c arg4 harg4 X dw hdw f a) := by
  unfold held; infer_instance

abbrev tokSem : DmaSem sig := cc0_scratch1.sem
abbrev padSem : DmaSem sig := cc0_scratch2.sem

/-- Before issue `j`: the batch with `j` issued, and what the later ones borrow. -/
def flight (f f' : S143360x8x128.Idx → Elt F .f32) (j : ℕ) : sProp 𝕄 :=
  iprop(Transfers.Batch (countersEmb (U := Pipeline.UD sig nD τ)) (c : Thread nD τ) (.dma tokSem) () 128 (held c arg4 harg4 X dw hdw f') j 0
    ∗ bigSep (Transfers.pending j) (held c arg4 harg4 X dw hdw f))

theorem wp_copy {f f' : S143360x8x128.Idx → Elt F .f32}
    (hcopy : ∀ (a : Fin 2048) (y : S143360x8x128.Idx), (y 0).val = dw a → f' y = X (at3 (⟨a.val / 4, quarter a⟩ : Fin 512) (y 1) (y 2)))
    (j : ℕ) (hj : j < 2048) {off : Fin 3 → ℕ} (ho : off = ![dw ⟨j, hj⟩, 0, 0]) {off4 : Fin 3 → ℕ} (ho4 : off4 = ![j / 4, 0, 0])
    {inb : ∀ a, off a + S1x8x128.size a ≤ S143360x8x128.size a} {inb4 : ∀ a, off4 a + S1x8x128.size a ≤ S512x8x128.size a}
    {hs hs4 hsrc hdst hsem} {α : Type} {k : PUnit → Prog (TpuEff nD τ sig (Elt F) Λ₀ .tc) α} {Q : α → sProp 𝕄} :
    flight c arg4 harg4 X dw hdw f f' j
      ⊢ iprop((flight c arg4 harg4 X dw hdw f f' (j + 1) -∗ wp frame (wpE (defs₀ (F := F)) Variants.none (c : Thread nD τ) none) Set.univ (k ⟨⟩) Q)
        -∗ wp frame (wpE (defs₀ (F := F)) Variants.none (c : Thread nD τ) none) Set.univ
          (.op (.enqueueDma ((arg4.slice (Rect.unit (s := S512x8x128) off4 S1x8x128.size inb4) hs4).squeeze S8x128 squeezes_S1x8x128_S8x128)
            (.here (((Memref.whole main_v40).slice (Rect.unit (s := S143360x8x128) off S1x8x128.size inb) hs).squeeze S8x128 squeezes_S1x8x128_S8x128))
            (.dma tokSem) hsrc hdst hsem) k) Q) := by
  subst ho ho4
  unfold flight
  rw [Transfers.bigSep_pending_step _ j hj]
  iintro ⟨HB, Hh, Hr⟩ Hk
  ihave Hh := (show held c arg4 harg4 X dw hdw f ⟨j, hj⟩ ⊢ _ by unfold held; exact .rfl) $$ Hh
  icases Hh with ⟨Hd, Hs⟩
  iapply (Transfers.wp_dmaBatch (countersEmb (U := Pipeline.UD sig nD τ)) Variants.none (c : Thread nD τ) none
    (src := tokM arg4 (j / 4) (quarter ⟨j, hj⟩)) (dst := rowM (dw ⟨j, hj⟩) (hdw _)) (Sd := (rowM (dw ⟨j, hj⟩) (hdw _)).view.set)
    (q := Transfers.shareTokN fullShare j) (fs := harg4.unread X) (fd := f) (D := held c arg4 harg4 X dw hdw f')
    () 128 (row_amount _ _ _) (Finset.Subset.refl _) hj (Nat.zero_le _) ?hD) $$ [Hs Hd HB] [Hk Hr]
  case hD =>
    unfold held
    iintro ⟨Hd, Hs⟩
    isplitl [Hd]
    on_goal 2 => iexact Hs
    iapply (Entails.of_eq (pointsTo_congr fun y hy => ?_)) $$ Hd
    have hy' := (mem_row _ _ y).mp hy
    rw [hcopy ⟨j, hj⟩ y hy']
    refine (row_write _ _ _ _ y hy').trans ?_
    exact tok_read arg4 harg4 _ _ X _
  · isplitl [Hs]; · iexact Hs
    isplitl [Hd]; · iexact Hd
    iexact HB
  · iintro HB
    iapply Hk
    isplitl [HB]; · iexact HB
    iexact Hr

/-- Before wait `j`: every copy issued, `j` of them waited for; after the last the cell at zero and every copy's row and token back. -/
def drain {n : ℕ} (sem : DmaSem sig) (D : Fin n → sProp 𝕄) (j : ℕ) : sProp 𝕄 :=
  iprop((∃ W, owes (c : Thread nD τ) 0 W)
    ∗ (if j < n then Transfers.Batch (countersEmb (U := Pipeline.UD sig nD τ)) (c : Thread nD τ) (.dma sem) () 128 D n (j * 128)
       else iprop(semVal ((c : Thread nD τ), SemLoc.dma sem) 0 ∗ bigSep Finset.univ D)))

theorem wp_drain {n : ℕ} {sem : DmaSem sig} {D : Fin n → sProp 𝕄} (j : ℕ) (hj : j < n)
    {srcw : Memref sig .tc .vmem S8x128 .f32} {dstw : Memref sig .tc .hbm S8x128 .f32} (hN : dstw.view.dmaCredit = 128)
    {hsrc hdst} {α : Type} {k : PUnit → Prog (TpuEff nD τ sig (Elt F) Λ₀ .tc) α} {Q : α → sProp 𝕄} :
    drain c sem D j
      ⊢ iprop((drain c sem D (j + 1) -∗ wp frame (wpE (defs₀ (F := F)) Variants.none (c : Thread nD τ) none) Set.univ (k ⟨⟩) Q)
        -∗ wp frame (wpE (defs₀ (F := F)) Variants.none (c : Thread nD τ) none) Set.univ
          (.op (.waitDma2 sem srcw dstw hsrc hdst) k) Q) := by
  unfold drain
  rw [if_pos hj]
  iintro ⟨⟨%W, HO⟩, HB⟩ Hk
  rcases Nat.lt_or_ge (j + 1) n with h1 | h1
  · rw [if_pos h1]
    iapply (Transfers.wp_waitBatch (countersEmb (U := Pipeline.UD sig nD τ)) Variants.none (c : Thread nD τ) none () hN
      (D := D) (u := j * 128) (W := W) (by omega)) $$ [HB HO] [Hk]
    · isplitl [HB]; · iexact HB
      iexact HO
    · iintro ⟨HB, HO⟩
      iapply Hk
      isplitl [HO]; · iexists _; iexact HO
      rw [show (j + 1) * 128 = j * 128 + 128 by omega]
      iexact HB
  · rw [if_neg (by omega)]
    iapply (Transfers.wp_waitBatchLast (countersEmb (U := Pipeline.UD sig nD τ)) Variants.none (c : Thread nD τ) none () hN (by decide)
      (D := D) (u := j * 128) (W := W) (by omega)) $$ [HB HO] [Hk]
    · isplitl [HB]; · iexact HB
      iexact HO
    · iintro ⟨HD, HV, HO⟩
      iapply Hk
      isplitl [HO]; · iexists _; iexact HO
      isplitl [HV]; · iexact HV
      iexact HD

end Flight

end Cert.Dispatch
-- ==== Proof.PadWords.lean ====
/-
  Hand-written, untrusted. The words of the padding loops: how many rows of zeros an expert takes, and where they go.
-/
module

public import proofs.«01_k».proof.Proof.Rows
public import Idealize.ShloMosaic.Lib.Routing.Words
public import Idealize.ShloMosaic.Lib.Routing.BitFacts
public import Idealize.ShloMosaic.Lib.LoopRemainder

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows of padding behind `n` rows. -/
def padN (n : ℕ) : ℕ := (n + 255) / 256 * 256 - n

theorem padN_le (n : ℕ) : padN n ≤ 255 := by unfold padN; omega
theorem add_padN (n : ℕ) : n + padN n = (n + 255) / 256 * 256 := by unfold padN; omega

/-- The step count of the padding loops, as the kernel computes it from the count. -/
def padWord (v11 : BitVec 32) : BitVec 32 :=
  let v16 : BitVec 32 := Scalar.subi (Scalar.addi v11 256#32) 1#32
  let v22 := Scalar.subi (Scalar.extui (Scalar.cmpi .sgt v16 0#32) : BitVec 32) (Scalar.extui (Scalar.cmpi .slt v16 0#32))
  let v27 := Scalar.subi (Scalar.extui (Scalar.cmpi .sgt 256#32 0#32) : BitVec 32) (Scalar.extui (Scalar.cmpi .slt 256#32 0#32))
  let v31 := Scalar.andi (Scalar.cmpi .ne v22 v27) (Scalar.cmpi .ne (Scalar.remsi v16 256#32) 0#32)
  let v17 := Scalar.divsi v16 256#32
  Scalar.subi (Scalar.subi (Scalar.muli (Scalar.select v31 (Scalar.subi v17 1#32) v17) 256#32) v11) 0#32

theorem t2_eq (v : BitVec 32) : k0_t2_loop v = ⟨0#32, Scalar.addi 0#32 (Scalar.muli (Scalar.divsi (padWord v) 1#32) 1#32), 1#32⟩ := rfl
theorem t3_eq (v : BitVec 32) : k0_t3_loop v = ⟨Scalar.addi 0#32 (Scalar.muli (Scalar.divsi (padWord v) 1#32) 1#32), Scalar.addi 0#32 (padWord v), 1#32⟩ := rfl
theorem t4_eq (v : BitVec 32) : k0_t4_loop v = ⟨0#32, Scalar.addi 0#32 (Scalar.muli (Scalar.divsi (padWord v) 1#32) 1#32), 1#32⟩ := rfl
theorem t5_eq (v : BitVec 32) : k0_t5_loop v = ⟨Scalar.addi 0#32 (Scalar.muli (Scalar.divsi (padWord v) 1#32) 1#32), Scalar.addi 0#32 (padWord v), 1#32⟩ := rfl

theorem padWord_eq {n : ℕ} (hn : n ≤ 135168) : padWord (BitVec.ofNat 32 n) = BitVec.ofNat 32 (padN n) := by
  have e16 : Scalar.subi (Scalar.addi (BitVec.ofNat 32 n) 256#32) 1#32 = BitVec.ofNat 32 (n + 255) := by
    unfold Scalar.subi Scalar.addi IntOp.subi IntOp.addi
    apply BitVec.eq_of_toNat_eq
    simp only [BitVec.toNat_sub, BitVec.toNat_add, BitVec.toNat_ofNat]
    omega
  have hs : (0#32 : BitVec 32).slt (BitVec.ofNat 32 (n + 255)) = true := by
    rw [Routing.slt_ofNat32 (a := 0) (by omega) (by omega)]; simp
  have hs' : (BitVec.ofNat 32 (n + 255)).slt 0#32 = false := by
    rw [Routing.slt_ofNat32 (b := 0) (by omega) (by omega)]; simp
  have e22 : Scalar.subi (Scalar.extui (Scalar.cmpi .sgt (BitVec.ofNat 32 (n + 255)) 0#32) : BitVec 32) (Scalar.extui (Scalar.cmpi .slt (BitVec.ofNat 32 (n + 255)) 0#32)) = 1#32 := by
    unfold Scalar.cmpi IntOp.cmpi
    simp only [hs, hs']
    decide
  have ed : Scalar.divsi (BitVec.ofNat 32 (n + 255)) 256#32 = BitVec.ofNat 32 ((n + 255) / 256) := Routing.divsi_word _ (by omega) (by omega) (by omega)
  unfold padWord
  dsimp only
  rw [e16, e22, ed]
  have e31 : ∀ b : BitVec 1, Scalar.andi (Scalar.cmpi .ne (1#32) (Scalar.subi (Scalar.extui (Scalar.cmpi .sgt 256#32 0#32) : BitVec 32) (Scalar.extui (Scalar.cmpi .slt 256#32 0#32)))) b = 0#1 := by decide
  rw [e31]
  have esel : ∀ x y : BitVec 32, Scalar.select (0#1) x y = y := fun _ _ => rfl
  rw [esel]
  unfold Scalar.subi Scalar.muli IntOp.subi IntOp.muli padN
  apply BitVec.eq_of_toNat_eq
  simp only [BitVec.toNat_sub, BitVec.toNat_mul, BitVec.toNat_ofNat]
  omega

theorem up_eq {n : ℕ} (hn : n ≤ 135168) :
    Scalar.addi 0#32 (Scalar.muli (Scalar.divsi (padWord (BitVec.ofNat 32 n)) 1#32) 1#32) = BitVec.ofNat 32 (padN n) := by
  rw [Scalar.muli_divsi_one, padWord_eq hn]
  unfold Scalar.addi IntOp.addi; exact BitVec.zero_add _

theorem trips_pad {m : ℕ} (hm : m ≤ 255) : Scf.trips 0#32 (BitVec.ofNat 32 m) 1#32 = m := by
  have e : (BitVec.ofNat 32 m).toInt = m := by
    rw [BitVec.toInt_eq_toNat_of_lt (by rw [BitVec.toNat_ofNat]; omega), BitVec.toNat_ofNat]; omega
  have h0 : (0#32 : BitVec 32).toInt = 0 := by decide
  have h1 : (1#32 : BitVec 32).toInt = 1 := by decide
  unfold Scf.trips
  rw [e, h0, h1]; omega

theorem ok_pad {m : ℕ} (hm : m ≤ 255) : Scf.OK 0#32 (BitVec.ofNat 32 m) 1#32 := by
  have h0 : (0#32 : BitVec 32).toInt = 0 := by decide
  have h1 : (1#32 : BitVec 32).toInt = 1 := by decide
  unfold Scf.OK
  rw [trips_pad hm, h0, h1]
  refine ⟨by decide, ?_⟩
  omega

theorem t2_trips {n : ℕ} (hn : n ≤ 135168) : (k0_t2_loop (BitVec.ofNat 32 n)).trips = padN n := by
  have : (k0_t2_loop (BitVec.ofNat 32 n)).trips = Scf.trips 0#32 (BitVec.ofNat 32 (padN n)) 1#32 := by rw [← up_eq hn]; rfl
  rw [this, trips_pad (padN_le n)]
theorem t4_trips {n : ℕ} (hn : n ≤ 135168) : (k0_t4_loop (BitVec.ofNat 32 n)).trips = padN n := t2_trips hn
theorem t3_trips (v : BitVec 32) : (k0_t3_loop v).trips = 0 := Scf.rem_trips _ _
theorem t5_trips (v : BitVec 32) : (k0_t5_loop v).trips = 0 := Scf.rem_trips _ _

theorem chk1 (i : grid0.Coords) {n : ℕ} (hn : n ≤ 135168) : k0_chk1 i (BitVec.ofNat 32 n) := by
  have h2 : (k0_t2_loop (BitVec.ofNat 32 n)).OK := by
    have := ok_pad (padN_le n)
    rw [← up_eq hn] at this; exact this
  exact ⟨fun _ => h2, fun _ => Scf.rem_ok _ _, fun _ => h2, fun _ => Scf.rem_ok _ _⟩

theorem off2_eq {n s : ℕ} (hn : n ≤ 135168) (hs : s + n + padN n ≤ 143360) (k : Fin (k0_t2_loop (BitVec.ofNat 32 n)).trips) :
    k0_off2 (BitVec.ofNat 32 n) (BitVec.ofNat 32 s) k = ![s + n + k.val, 0, 0] := by
  have hk : k.val < padN n := lt_of_lt_of_eq k.isLt (t2_trips hn)
  have e : (Scalar.addi (Scalar.addi (BitVec.ofNat 32 s) (BitVec.ofNat 32 n)) (Scf.iv 0#32 1#32 k.val)).toNat = s + n + k.val := by
    unfold Scalar.addi IntOp.addi Scf.iv
    simp only [BitVec.toNat_add, BitVec.toNat_mul, BitVec.toNat_ofNat]
    omega
  unfold k0_off2
  dsimp only
  rw [e]

theorem off4_eq {n s : ℕ} (hn : n ≤ 135168) (hs : s + n + padN n ≤ 143360) (k : Fin (k0_t4_loop (BitVec.ofNat 32 n)).trips) :
    k0_off4 (BitVec.ofNat 32 n) (BitVec.ofNat 32 s) k = ![s + n + k.val, 0, 0] := off2_eq hn hs k

theorem chk2 (i : grid0.Coords) {n s : ℕ} (hn : n ≤ 135168) (hs : s + n + padN n ≤ 143360) : k0_chk2 i (BitVec.ofNat 32 n) (BitVec.ofNat 32 s) := by
  have h2 : ∀ k : Fin (k0_t2_loop (BitVec.ofNat 32 n)).trips, ∀ a, k0_off2 (BitVec.ofNat 32 n) (BitVec.ofNat 32 s) k a + S1x8x128.size a ≤ S143360x8x128.size a := by
    intro k
    have hk : k.val < padN n := lt_of_lt_of_eq k.isLt (t2_trips hn)
    rw [off2_eq hn hs k]
    exact row_inb _ (by omega)
  refine ⟨fun k _ => h2 k, fun k => absurd (lt_of_lt_of_eq k.isLt (t3_trips _)) (Nat.not_lt_zero _), fun k _ => h2 k, fun k => absurd (lt_of_lt_of_eq k.isLt (t5_trips _)) (Nat.not_lt_zero _)⟩

end Cert.Dispatch
-- ==== Proof.Counting.lean ====
/-
  Hand-written, untrusted. The routing in plain naturals: how many assignments each expert takes, where its block of rows begins, and which row each assignment lands in.
-/
module

public import proofs.«01_k».proof.Proof.PadWords

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Finset in
/-- Assignments of `k` among the first `N`. -/
def cnt (N : ℕ) (e : ℕ → ℕ) (k : ℕ) : ℕ := Nat.count (fun i => e i = k) N
/-- A count rounded up to whole blocks of 256 rows. -/
def blk (n : ℕ) : ℕ := (n + 255) / 256 * 256
/-- The first row of expert `k`'s block. -/
def start (N : ℕ) (e : ℕ → ℕ) (k : ℕ) : ℕ := ∑ i ∈ Finset.range k, blk (cnt N e i)
/-- The place of assignment `a` among those of its expert. -/
def rnk (e : ℕ → ℕ) (a : ℕ) : ℕ := Nat.count (fun i => e i = e a) a
/-- The row of assignment `a`. -/
def dst (N : ℕ) (e : ℕ → ℕ) (a : ℕ) : ℕ := start N e (e a) + rnk e a

variable {N : ℕ} {e : ℕ → ℕ}

theorem le_blk (n : ℕ) : n ≤ blk n := by unfold blk; omega
theorem blk_le (n : ℕ) : blk n ≤ n + 255 := by unfold blk; omega
theorem blk_eq (n : ℕ) : n + padN n = blk n := add_padN n

theorem cnt_le (k : ℕ) : cnt N e k ≤ N := Nat.count_le _

theorem count_lt_succ (k n : ℕ) :
    Nat.count (fun i => e i < k + 1) n = Nat.count (fun i => e i < k) n + Nat.count (fun i => e i = k) n := by
  induction n with
  | zero => rfl
  | succ n ih =>
    simp only [Nat.count_succ, ih]
    split_ifs <;> omega

theorem count_lt_eq (k n : ℕ) : Nat.count (fun i => e i < k) n = ∑ i ∈ Finset.range k, cnt n e i := by
  induction k with
  | zero =>
    rw [Finset.sum_range_zero]
    exact (count_congr_zero n)
  | succ k ih => rw [count_lt_succ, ih, Finset.sum_range_succ]; rfl
where
  count_congr_zero (n : ℕ) : Nat.count (fun i => e i < 0) n = 0 := by
    induction n with
    | zero => rfl
    | succ n ih => simp only [Nat.count_succ, ih]; simp

theorem sum_cnt_le (k : ℕ) : ∑ i ∈ Finset.range k, cnt N e i ≤ N := by
  rw [← count_lt_eq]; exact Nat.count_le _

theorem start_succ (k : ℕ) : start N e (k + 1) = start N e k + blk (cnt N e k) := Finset.sum_range_succ _ _

theorem start_le (k : ℕ) : start N e k ≤ N + k * 255 := by
  have h : start N e k ≤ ∑ i ∈ Finset.range k, (cnt N e i + 255) := Finset.sum_le_sum fun i _ => blk_le _
  rw [Finset.sum_add_distrib, Finset.sum_const, Finset.card_range, smul_eq_mul] at h
  exact h.trans (Nat.add_le_add_right (sum_cnt_le k) _)

theorem start_mono {j k : ℕ} (h : j ≤ k) : start N e j ≤ start N e k :=
  Finset.sum_le_sum_of_subset (Finset.range_subset_range.mpr h)

theorem rnk_lt {a : ℕ} (ha : a < N) : rnk e a < cnt N e (e a) := Nat.count_strict_mono rfl ha

theorem dst_lt_next {a : ℕ} (ha : a < N) : dst N e a < start N e (e a) + cnt N e (e a) :=
  Nat.add_lt_add_left (rnk_lt ha) _

theorem dst_lt_succ {a : ℕ} (ha : a < N) : dst N e a < start N e (e a + 1) := by
  rw [start_succ]
  exact lt_of_lt_of_le (dst_lt_next ha) (Nat.add_le_add_left (le_blk _) _)

theorem dst_lt {a K : ℕ} (ha : a < N) (hk : e a < K) : dst N e a < start N e K :=
  lt_of_lt_of_le (dst_lt_succ ha) (start_mono hk)

/-- Two blocks that share a row are one. -/
theorem block_unique {j k y : ℕ} (hj : start N e j ≤ y) (hj' : y < start N e (j + 1)) (hk : start N e k ≤ y) (hk' : y < start N e (k + 1)) : j = k := by
  rcases lt_trichotomy j k with h | h | h
  · have := start_mono (N := N) (e := e) (show j + 1 ≤ k from h); omega
  · exact h
  · have := start_mono (N := N) (e := e) (show k + 1 ≤ j from h); omega

theorem dst_ge (a : ℕ) : start N e (e a) ≤ dst N e a := Nat.le_add_right _ _

theorem dst_inj {a b : ℕ} (ha : a < N) (hb : b < N) (h : dst N e a = dst N e b) : a = b := by
  have he : e a = e b := block_unique (dst_ge a) (dst_lt_succ ha) (h ▸ dst_ge b) (h ▸ dst_lt_succ hb)
  have hr : rnk e a = rnk e b := by
    unfold dst at h; rw [he] at h; omega
  unfold rnk at hr
  rw [he] at hr
  exact Nat.count_injective (p := fun i => e i = e b) he rfl hr

theorem locate {y K : ℕ} (h : y < start N e K) : ∃ k, k < K ∧ start N e k ≤ y ∧ y < start N e (k + 1) := by
  induction K with
  | zero => exact absurd h (Nat.not_lt_zero _)
  | succ K ih =>
    by_cases hy : y < start N e K
    · obtain ⟨k, hk, h1, h2⟩ := ih hy
      exact ⟨k, by omega, h1, h2⟩
    · exact ⟨K, by omega, by omega, h⟩

theorem count_hit (p : ℕ → Prop) [DecidablePred p] {r n : ℕ} (h : r < Nat.count p n) : ∃ a, a < n ∧ p a ∧ Nat.count p a = r := by
  induction n with
  | zero => exact absurd h (Nat.not_lt_zero _)
  | succ n ih =>
    by_cases hr : r < Nat.count p n
    · obtain ⟨a, h1, h2, h3⟩ := ih hr
      exact ⟨a, by omega, h2, h3⟩
    · rw [Nat.count_succ] at h
      split_ifs at h with hp
      · exact ⟨n, by omega, hp, by omega⟩
      · omega

theorem hit {k y : ℕ} (h1 : start N e k ≤ y) (h2 : y < start N e k + cnt N e k) : ∃ a, a < N ∧ e a = k ∧ dst N e a = y := by
  obtain ⟨a, ha, he, hc⟩ := count_hit (fun i => e i = k) (r := y - start N e k) (n := N) (by unfold cnt at h2; omega)
  refine ⟨a, ha, he, ?_⟩
  unfold dst rnk
  rw [he, hc]
  omega

theorem miss {k y a : ℕ} (h1 : start N e k + cnt N e k ≤ y) (h2 : y < start N e (k + 1)) (ha : a < N) : dst N e a ≠ y := by
  intro h
  have he : e a = k := block_unique (dst_ge a) (dst_lt_succ ha) (h ▸ by omega) (h ▸ h2)
  have := dst_lt_next (e := e) ha
  rw [he] at this
  omega

/-- Where assignment `a` stands among all of them sorted by expert, ties in order. -/
theorem sorted_place {a : ℕ} (ha : a < N) :
    Nat.count (fun b => e b * N + b < e a * N + a) N = (∑ i ∈ Finset.range (e a), cnt N e i) + rnk e a := by
  rw [← count_lt_eq]
  unfold rnk
  have key : ∀ n, n ≤ N → Nat.count (fun b => e b * N + b < e a * N + a) n
      = Nat.count (fun i => e i < e a) n + Nat.count (fun i => e i = e a) (min a n) := by
    intro n hn
    induction n with
    | zero => simp
    | succ n ih =>
      have hcmp : (e n * N + n < e a * N + a) ↔ (e n < e a ∨ (e n = e a ∧ n < a)) := by
        rcases lt_trichotomy (e n) (e a) with h | h | h
        · have h1 : (e n + 1) * N ≤ e a * N := Nat.mul_le_mul_right _ h
          rw [Nat.add_mul] at h1
          constructor
          · intro _; exact Or.inl h
          · intro _; omega
        · rw [h]; constructor
          · intro _; exact Or.inr ⟨rfl, by omega⟩
          · rintro (_ | ⟨_, h2⟩) <;> omega
        · have h1 : (e a + 1) * N ≤ e n * N := Nat.mul_le_mul_right _ h
          rw [Nat.add_mul] at h1
          constructor
          · intro _; omega
          · rintro (_ | ⟨_, h2⟩) <;> omega
      rw [Nat.count_succ, Nat.count_succ, ih (by omega)]
      by_cases hna : n < a
      · have e1 : min a (n + 1) = n + 1 := by omega
        have e2 : min a n = n := by omega
        rw [e1, e2, Nat.count_succ]
        rcases lt_trichotomy (e n) (e a) with h | h | h
        · rw [if_pos (hcmp.mpr (Or.inl h)), if_pos h, if_neg (by omega)]; omega
        · rw [if_pos (hcmp.mpr (Or.inr ⟨h, hna⟩)), if_neg (by omega), if_pos h]; omega
        · rw [if_neg (fun hc => by rcases hcmp.mp hc with h' | h' <;> omega), if_neg (by omega), if_neg (by omega)]; omega
      · have e1 : min a (n + 1) = a := by omega
        have e2 : min a n = a := by omega
        rw [e1, e2]
        by_cases h : e n < e a
        · rw [if_pos (hcmp.mpr (Or.inl h)), if_pos h]; omega
        · rw [if_neg (fun hc => by rcases hcmp.mp hc with h' | h' <;> omega), if_neg h]; omega
  rw [key N le_rfl, Nat.min_eq_left ha.le]

end Cert.Dispatch
-- ==== Proof.Decode.lean ====
/-
  Hand-written, untrusted. The precondition read: the experts are in range, the counts are the histogram, the ranks are the places within an expert.
-/
module

public import proofs.«01_k».proof.Proof.Counting
public import proofs.«01_k».proof.Proof.Gen.Pre_routed
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.Routing.Words
public import Idealize.ShloMosaic.Lib.ShapeFacts
public import Mathlib.Data.BitVec

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Routing Idealize.ShloMosaic.ValueIdx Idealize.ShloMosaic.WordCmp

/-! ## Sums of words -/

theorem fold_addi {n : ℕ} (g : Fin n → BitVec 32) : (Finset.univ : Finset (Fin n)).fold IntOp.addi 0#32 g = ∑ k, g k := by
  rfl

/-- A host sum over one axis is a sum of words. -/
theorem host_sum {s t u : Shape} {a : Fin s.rank} (x : IVec s 32) (init : IVec u 32) (h' : s.ReducesTo [a] t) (h : s.Reduces [a] t)
    (hu : 0 < u.numel) (hinit : ∀ i, init i = 0#32) (j : t.Idx) :
    Host.reduce IntOp.addi x init h' hu j = ∑ k : Fin (s.size a), x (h.lift j k) := by
  rw [Host.reduce_eq_fold_single IntOp.addi x init h' h hu, hinit]
  exact fold_addi _

theorem sum_count (P : ℕ → Prop) [DecidablePred P] (n : ℕ) :
    (∑ k : Fin n, BitVec.ofNat 32 (if P k.val then 1 else 0)) = BitVec.ofNat 32 (Nat.count P n) := by
  induction n with
  | zero => rfl
  | succ n ih =>
    rw [Fin.sum_univ_castSucc, Nat.count_succ]
    simp only [Fin.val_castSucc, Fin.val_last]
    rw [ih, BitVec.ofNat_add]

theorem word_eq_iff (x : BitVec 32) (k : ℕ) (hk : k < 2 ^ 32) : x = BitVec.ofNat 32 k ↔ x.toNat = k := by
  constructor
  · rintro rfl; rw [BitVec.toNat_ofNat, Nat.mod_eq_of_lt hk]
  · rintro rfl; exact (BitVec.ofNat_toNat_self x).symm
where
  BitVec.ofNat_toNat_self (x : BitVec 32) : BitVec.ofNat 32 x.toNat = x := by
    apply BitVec.eq_of_toNat_eq; rw [BitVec.toNat_ofNat, Nat.mod_eq_of_lt x.isLt]

theorem eq_word (x : BitVec 32) : x = BitVec.ofNat 32 x.toNat := (word_eq_iff x _ x.isLt).mpr rfl

/-- The bit of an equality, widened. -/
theorem eq_bit (x : BitVec 32) (k : ℕ) (hk : k < 2 ^ 32) :
    (IntOp.cmpi .eq x (BitVec.ofNat 32 k)).setWidth 32 = BitVec.ofNat 32 (if x.toNat = k then 1 else 0) := by
  by_cases h : x.toNat = k
  · rw [if_pos h, StableHlo.Predicate.cmpi_eq_iff.mpr ((word_eq_iff x k hk).mpr h)]; rfl
  · rw [if_neg h]
    have : IntOp.cmpi .eq x (BitVec.ofNat 32 k) = 0#1 := by
      rcases BitVec.eq_zero_or_eq_one (IntOp.cmpi .eq x (BitVec.ofNat 32 k)) with h0 | h1
      · exact h0
      · exact absurd ((word_eq_iff x k hk).mp (StableHlo.Predicate.cmpi_eq_iff.mp h1)) h
    rw [this]; rfl

/-! ## The experts -/

/-- The expert of assignment `p`, token by token, four to a token. -/
def expert (a1 : IVec S33792x4 32) (p : ℕ) : ℕ :=
  if h : p < 135168 then (a1 (ix2 (⟨p / 4, by omega⟩ : Fin 33792) (⟨p % 4, by omega⟩ : Fin 4))).toNat else 0

theorem flat_ap {α : Type} (x : S33792x4.Idx → α) (h : S33792x4.ShapeCasts (shape1 135168)) (p : Fin 135168) :
    shapeCast (shape1 135168) x h (ix1 p) = x (ix2 (⟨p.val / 4, by omega⟩ : Fin 33792) (⟨p.val % 4, by omega⟩ : Fin 4)) :=
  cast21 x h _ _ p (by show p.val = p.val / 4 * 4 + p.val % 4; omega)

theorem expert_word (a1 : IVec S33792x4 32) (h : S33792x4.ShapeCasts (shape1 135168)) (p : Fin 135168) :
    (shapeCast (shape1 135168) a1 h (ix1 p)).toNat = expert a1 p.val := by
  rw [flat_ap]
  unfold expert
  rw [dif_pos p.isLt]

/-- The one-hot table of the experts. -/
theorem hot_ap (a1 : IVec S33792x4 32) (h : S33792x4.ShapeCasts (shape1 135168))
    (h1 : (shape1 135168).BroadcastsInDim (shape2 135168 1) (![0] : Fin 1 → Fin (shape2 135168 1).rank))
    (h2 : (shape2 135168 1).BroadcastsInDim (shape2 135168 32) (![0, 1] : Fin 2 → Fin (shape2 135168 32).rank))
    (h3 : (shape1 32).BroadcastsInDim (shape2 1 32) (![1] : Fin 1 → Fin (shape2 1 32).rank))
    (h4 : (shape2 1 32).BroadcastsInDim (shape2 135168 32) (![0, 1] : Fin 2 → Fin (shape2 135168 32).rank)) (hw : 1 < 32)
    (p : Fin 135168) (k : Fin 32) :
    extui 32 (cmpi .eq (broadcastInDim (shape2 135168 32) ![0, 1] h2 (broadcastInDim (shape2 135168 1) ![0] h1 (shapeCast (shape1 135168) a1 h)))
      (broadcastInDim (shape2 135168 32) ![0, 1] h4 (broadcastInDim (shape2 1 32) ![1] h3 (iotaInDim (shape1 32) 32 0)))) hw (ix2 p k)
      = BitVec.ofNat 32 (if expert a1 p.val = k.val then 1 else 0) := by
  rw [extui_at, cmpi_at, bcRows, bcCols, iota1_ap, eq_bit _ _ (by have := k.isLt; omega), expert_word]

theorem lift_rows (h : (shape2 135168 32).Reduces [0] (shape1 32)) (k : Fin 32) (p : Fin 135168) : h.lift (ix1 k) p = ix2 p k := by
  funext c; apply Fin.ext
  fin_cases c <;> rfl

theorem lift_cols (h : (shape2 135168 32).Reduces [1] (shape1 135168)) (p : Fin 135168) (k : Fin 32) : h.lift (ix1 p) k = ix2 p k := by
  funext c; apply Fin.ext
  fin_cases c <;> rfl

theorem rows_reduce : (shape2 135168 32).Reduces [0] (shape1 32) := by decide
theorem cols_reduce : (shape2 135168 32).Reduces [1] (shape1 135168) := by decide

/-- The column sums of the one-hot table are the counts. -/
theorem col_sums (e : ℕ → ℕ) (x : IVec (shape2 135168 32) 32) (hx : ∀ p k, x (ix2 p k) = BitVec.ofNat 32 (if e p.val = k.val then 1 else 0))
    (h : (shape2 135168 32).ReducesTo [0] (shape1 32)) (hu : 0 < shape0.numel) (k : Fin 32) :
    Host.reduce IntOp.addi x (constantI shape0 32 0#32) h hu (ix1 k) = BitVec.ofNat 32 (cnt 135168 e k.val) := by
  rw [host_sum x (constantI shape0 32 0#32) h rows_reduce hu (by intro; rfl)]
  refine (Finset.sum_congr rfl fun p _ => ?_).trans (sum_count (fun p => e p = k.val) 135168)
  exact (congrArg x (lift_rows _ k p)).trans (hx p k)

/-- The running sums of the one-hot table, less the table, counted along an assignment's own expert: its rank. -/
theorem row_ranks (e : ℕ → ℕ) (he : ∀ p, p < 135168 → e p < 32) (x : IVec (shape2 135168 32) 32)
    (hx : ∀ p k, x (ix2 p k) = BitVec.ofNat 32 (if e p.val = k.val then 1 else 0)) (init : IVec shape0 32) (hinit : init ix0 = 0#32)
    (hc : (shape2 135168 32).ReduceWindows (![135168, 1] : Fin 2 → ℕ) ![1, 1] ![135167, 0] ![0, 0] (shape2 135168 32))
    (h : (shape2 135168 32).ReducesTo [1] (shape1 135168)) (hu : 0 < shape0.numel) (p : Fin 135168) :
    Host.reduce IntOp.addi (muli x (subi (Host.reduceWindow IntOp.addi ![135168, 1] ![1, 1] ![135167, 0] ![0, 0] x init hc hu) x))
      (constantI shape0 32 0#32) h hu (ix1 p) = BitVec.ofNat 32 (rnk e p.val) := by
  rw [host_sum _ (constantI shape0 32 0#32) h cols_reduce hu (by intro; rfl)]
  have hval : ∀ k : Fin 32, (muli x (subi (Host.reduceWindow IntOp.addi ![135168, 1] ![1, 1] ![135167, 0] ![0, 0] x init hc hu) x)) (ix2 p k)
      = if k = ⟨e p.val, he _ p.isLt⟩ then BitVec.ofNat 32 (rnk e p.val) else 0 := by
    intro k
    rw [muli_ap, subi_ap, cumsum_rows (R := 135168) (by norm_num) x (fun i c => if e i = c then 1 else 0) hx init hinit hc hu p k,
      sum_map_ite (fun i => e i = k.val), hx, Nat.count_succ]
    by_cases hk : e p.val = k.val
    · rw [if_pos hk, if_pos (Fin.ext hk.symm), BitVec.ofNat_add, BitVec.add_sub_cancel]
      unfold rnk
      rw [hk]
      exact BitVec.one_mul _
    · rw [if_neg hk, if_neg (fun h => hk (congrArg Fin.val h).symm)]
      exact BitVec.zero_mul
  refine (Finset.sum_congr rfl fun k _ => (congrArg _ (lift_cols _ p k)).trans (hval k)).trans ?_
  exact (Finset.sum_ite_eq' Finset.univ _ _).trans (if_pos (Finset.mem_univ _))

/-! ## The precondition -/

theorem range_check (w : BitVec 32) : IntOp.andi (IntOp.cmpi .sge w 0#32) (IntOp.cmpi .slt w 32#32) = 1#1 ↔ w.toNat < 32 := by word_cmp

/-- What the precondition says of the arguments. -/
structure Decoded (a0 : FVec F S1x32 .f32) (a1 a2 : IVec S33792x4 32) : Prop where
  lt : ∀ p, p < 135168 → expert a1 p < 32
  count : ∀ (h : S1x32.ShapeCasts S32) (k : Fin 32), (fptosi 32 (shapeCast S32 a0 h) : IVec S32 32) (ix1 k) = BitVec.ofNat 32 (cnt 135168 (expert a1) k.val)
  rank : ∀ p : Fin 135168, a2 (ix2 (⟨p.val / 4, by omega⟩ : Fin 33792) (⟨p.val % 4, by omega⟩ : Fin 4)) = BitVec.ofNat 32 (rnk (expert a1) p.val)

theorem decoded (a0 : FVec F S1x32 .f32) (a1 a2 : IVec S33792x4 32) (a3 : FVec F S33792x8x128 .f32)
    (h : (Cert.Pre_routed.fn (F := F) a0 a1 a2 a3).1 = (fun _ => 1#1) ∧ (Cert.Pre_routed.fn (F := F) a0 a1 a2 a3).2.1 = (fun _ => 1#1)
      ∧ (Cert.Pre_routed.fn (F := F) a0 a1 a2 a3).2.2 = (fun _ => 1#1)) : Decoded a0 a1 a2 := by
  obtain ⟨h1, h2, h3⟩ := h
  simp only [Cert.Pre_routed.fn, Cert.Pre_routed.fn_part1, Cert.Pre_routed.fn_cumsum, Cert.Pre_routed.fn_cumsum_0] at h1 h2 h3
  have hlt : ∀ p, p < 135168 → expert a1 p < 32 := by
    intro p hp
    have e := congrFun h1 (ix1 (⟨p, hp⟩ : Fin 135168))
    rw [andi_at, cmpi_at, cmpi_at, bc0, bc0, constantI_at, constantI_at, flat_ap] at e
    unfold expert
    rw [dif_pos hp]
    revert e
    generalize a1 _ = w
    intro e
    exact (range_check w).mp e
  refine ⟨hlt, fun hc k => ?_, fun p => ?_⟩
  · have e := congrFun h2 (ix1 k)
    rw [cmpi_at] at e
    exact (StableHlo.Predicate.cmpi_eq_iff.mp e).trans (col_sums (expert a1) _ (fun p k => hot_ap a1 _ _ _ _ _ _ p k) _ _ k)
  · have e := congrFun h3 (ix1 p)
    rw [cmpi_at] at e
    refine ((flat_ap a2 _ p).symm.trans (StableHlo.Predicate.cmpi_eq_iff.mp e)).trans ?_
    exact row_ranks (expert a1) hlt _ (fun p k => hot_ap a1 _ _ _ _ _ _ p k) _ (bc0 _ _ _) _ _ _ p

end Cert.Dispatch
-- ==== Proof.Starts.lean ====
/-
  Hand-written, untrusted. Blocks and starts as words: a count rounded up to whole blocks, and the running sums of the blocks.
-/
module

public import proofs.«01_k».proof.Proof.Decode

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Routing Idealize.ShloMosaic.ValueIdx Idealize.ShloMosaic.WordCmp

/-- The blocks of a count. -/
abbrev blocks (e : ℕ → ℕ) (k : ℕ) : ℕ := (cnt 135168 e k + 255) / 256

theorem blocks_le (e : ℕ → ℕ) (k : ℕ) : blocks e k ≤ 529 := by
  have h : cnt 135168 e k ≤ 135168 := cnt_le _
  unfold blocks; omega

theorem sum_range_map (f : ℕ → ℕ) (n : ℕ) : ((List.range n).map f).sum = ∑ i ∈ Finset.range n, f i := by
  induction n with
  | zero => rfl
  | succ n ih => rw [List.range_succ, List.map_append, List.sum_append, ih, Finset.sum_range_succ]; simp

theorem sum_blocks (e : ℕ → ℕ) (n : ℕ) : (∑ i ∈ Finset.range n, blocks e i) * 256 = start 135168 e n := by
  rw [Finset.sum_mul]; rfl

variable {e : ℕ → ℕ} (hb : shape0.BroadcastsInDim (shape1 32) (![] : Fin 0 → Fin (shape1 32).rank))

/-- The count, rounded up and divided. -/
theorem blocks_ap (x : IVec (shape1 32) 32) (hx : ∀ k : Fin 32, x (ix1 k) = BitVec.ofNat 32 (cnt 135168 e k.val)) (k : Fin 32) :
    pyDiv hb (subi (addi x (broadcastInDim (shape1 32) ![] hb (constantI shape0 32 256#32))) (broadcastInDim (shape1 32) ![] hb (constantI shape0 32 1#32)))
      (constantI shape0 32 256#32) (ix1 k) = BitVec.ofNat 32 (blocks e k.val) := by
  have hc : cnt 135168 e k.val ≤ 135168 := cnt_le _
  refine pyDiv_ap hb _ _ _ (a := cnt 135168 e k.val + 255) (b := 256) ?_ rfl (by omega) (by omega) (by omega)
  rw [subi_ap, addi_ap, bc0, bc0, constantI_at, constantI_at, hx]
  apply BitVec.eq_of_toNat_eq
  rw [BitVec.toNat_sub, BitVec.toNat_add]
  simp only [BitVec.toNat_ofNat]
  omega

/-- The blocks, running sums less themselves, times 256: the starts. -/
theorem starts_mul (x : IVec (shape1 32) 32) (hx : ∀ k : Fin 32, x (ix1 k) = BitVec.ofNat 32 (blocks e k.val)) (init : IVec shape0 32) (hinit : init ix0 = 0#32)
    (h : (shape1 32).ReduceWindows (![32] : Fin 1 → ℕ) ![1] ![31] ![0] (shape1 32)) (hu : 0 < shape0.numel) (k : Fin 32) :
    muli (subi (Host.reduceWindow IntOp.addi ![32] ![1] ![31] ![0] x init h hu) x) (broadcastInDim (shape1 32) ![] hb (constantI shape0 32 256#32)) (ix1 k)
      = BitVec.ofNat 32 (start 135168 e k.val) := by
  rw [muli_ap, subi_ap, bc0, constantI_at, cumsum1 (N := 32) (by norm_num) x (blocks e) hx init hinit h hu, hx, sum_range_map, Finset.sum_range_succ,
    BitVec.ofNat_add, BitVec.add_sub_cancel, ← sum_blocks, BitVec.ofNat_mul]

/-- The rounded counts. -/
theorem blks_ap (x : IVec (shape1 32) 32) (hx : ∀ k : Fin 32, x (ix1 k) = BitVec.ofNat 32 (blocks e k.val)) (k : Fin 32) :
    muli x (broadcastInDim (shape1 32) ![] hb (constantI shape0 32 256#32)) (ix1 k) = BitVec.ofNat 32 (blk (cnt 135168 e k.val)) := by
  rw [muli_ap, bc0, constantI_at, hx, ← BitVec.ofNat_mul]; rfl

/-- Running sums less themselves: the sums before. -/
theorem sums_before (x : IVec (shape1 32) 32) (f : ℕ → ℕ) (hx : ∀ k : Fin 32, x (ix1 k) = BitVec.ofNat 32 (f k.val)) (init : IVec shape0 32) (hinit : init ix0 = 0#32)
    (h : (shape1 32).ReduceWindows (![32] : Fin 1 → ℕ) ![1] ![31] ![0] (shape1 32)) (hu : 0 < shape0.numel) (k : Fin 32) :
    subi (Host.reduceWindow IntOp.addi ![32] ![1] ![31] ![0] x init h hu) x (ix1 k) = BitVec.ofNat 32 (∑ i ∈ Finset.range k.val, f i) := by
  rw [subi_ap, cumsum1 (N := 32) (by norm_num) x f hx init hinit h hu, hx, sum_range_map, Finset.sum_range_succ, BitVec.ofNat_add, BitVec.add_sub_cancel]

theorem sums_all (x : IVec (shape1 32) 32) (f : ℕ → ℕ) (hx : ∀ k : Fin 32, x (ix1 k) = BitVec.ofNat 32 (f k.val))
    (h : (shape1 32).ReducesTo [0] shape0) (hu : 0 < shape0.numel) :
    Host.reduce IntOp.addi x (constantI shape0 32 0#32) h hu ix0 = BitVec.ofNat 32 (∑ i ∈ Finset.range 32, f i) := by
  rw [reduce_sum x f hx, sum_range_map]

end Cert.Dispatch
-- ==== Proof.Issue.lean ====
/-
  Hand-written, untrusted. The two loops of one grid point of the dispatch: the issue of the 2048 copies, the waits for them.
-/
module

public import proofs.«01_k».proof.Proof.Rows
public import Idealize.ShloMosaic.Lib.WholeRead

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- An index of one axis of 2048. -/
abbrev at1 (a : Fin 2048) : S2048.Idx := fun | ⟨0, _⟩ => a

/-- The destination of copy `a`, from the staged words. -/
abbrev dwOf (W : S2048.Idx → BitVec 32) (a : Fin 2048) : ℕ := (W (at1 a)).toNat

variable (c : Dev nD) (i : grid0.Coords)
  (arg3 : Memref sig .tc .smem S2048 .i32) (harg3 : arg3.IsWhole) (arg4 : Memref sig .tc .vmem S512x8x128 .f32) (harg4 : arg4.IsWhole)
  (W : S2048.Idx → BitVec 32) (X : S512x8x128.Idx → Elt F .f32) (hdw : ∀ a, dwOf W a < 143360)

/-- The issue loop's body at the launch's operands. -/
abbrev issueBody (k : Fin k0_t6_loop.trips) : Prog (TpuEff nD τ sig (Elt F) Λ₀ .tc) Unit :=
  k0_t6_body (F := F) i (Memref.whole main_v39) (Memref.isWhole_whole _) (Memref.whole main_v10) (Memref.isWhole_whole _) arg3 harg3 arg4 harg4
    (Memref.whole main_v40) (Memref.isWhole_whole _) (Memref.whole cc0_scratch0) (Memref.isWhole_whole _) cc0_scratch1 cc0_scratch2 k ⟨⟩

/-- A destination word read out of the staged block. -/
theorem word_read {off : Fin 1 → ℕ} (n : ℕ) (hn : n < 2048) (ho : off = ![n]) (inb : ∀ a, off a + S1.size a ≤ S2048.size a) (y : (Rect.unit (s := S2048) off S1.size inb).toLoadRect.shape.Idx) :
    View.readAt (Elt F) arg3.view (Rect.unit (s := S2048) off S1.size inb).toLoadRect (harg3.unread W) y = W (at1 ⟨n, hn⟩) := by
  subst ho
  rw [Memref.IsWhole.readAt_unread]
  congr 1
  funext a; fin_cases a
  have h0 : (y 0).val < 1 := (y 0).isLt
  exact Fin.ext (show n + 1 * (y 0).val = n by omega)

theorem word_lt (hdw : ∀ a, dwOf W a < 143360) (B : LoadRect S2048) (y : B.shape.Idx) : (View.readAt (Elt F) arg3.view B (harg3.unread W) y : BitVec 32).toNat < 143360 := by
  rw [Memref.IsWhole.readAt_unread]
  have e : B.idx y = at1 (B.idx y 0) := by funext a; fin_cases a; rfl
  rw [e]; exact hdw _

theorem word_off {off : Fin 1 → ℕ} (n : ℕ) (hn : n < 2048) (ho : off = ![n]) (inb : ∀ a, off a + S1.size a ≤ S2048.size a) (y : (Rect.unit (s := S2048) off S1.size inb).toLoadRect.shape.Idx) :
    ![(View.readAt (Elt F) arg3.view (Rect.unit (s := S2048) off S1.size inb).toLoadRect (harg3.unread W) y : BitVec 32).toNat, 0, 0] = ![dwOf W ⟨n, hn⟩, 0, 0] := by
  rw [word_read arg3 harg3 W n hn ho inb y]

theorem quarter_off (m n : ℕ) (e : m = n / 4) : ![m, 0, 0] = ![n / 4, 0, 0] := by rw [e]

theorem trips6 (k : Fin k0_t6_loop.trips) : k.val < 256 := lt_of_lt_of_le k.isLt (by decide +kernel)
theorem trips7 (k : Fin k0_t7_loop.trips) : k.val < 256 := lt_of_lt_of_le k.isLt (by decide +kernel)

set_option maxHeartbeats 4000000 in
theorem issue_step {f f' : S143360x8x128.Idx → Elt F .f32}
    (hcopy : ∀ (a : Fin 2048) (y : S143360x8x128.Idx), (y 0).val = dwOf W a → f' y = X (at3 (⟨a.val / 4, quarter a⟩ : Fin 512) (y 1) (y 2)))
    (k : Fin k0_t6_loop.trips) :
    iprop(flight c arg4 harg4 X (dwOf W) hdw f f' (8 * k.val) ∗ (arg3.view.loc (c : Thread nD τ) ↦[arg3.view.set]{fullShare} (harg3.unread W)))
      ⊢ wp frame (wpE (defs₀ (F := F)) Variants.none (c : Thread nD τ) none) Set.univ (issueBody (F := F) i arg3 harg3 arg4 harg4 k)
        (fun _ => iprop(flight c arg4 harg4 X (dwOf W) hdw f f' (8 * (k.val + 1)) ∗ (arg3.view.loc (c : Thread nD τ) ↦[arg3.view.set]{fullShare} (harg3.unread W)))) := by
  have hk := trips6 k
  iintro ⟨HF, H3⟩
  dsimp only [issueBody]
  unfold k0_t6_body
  sl_exec (disch := exact row_inb _ (word_lt arg3 harg3 W hdw _ _))
  iapply (wp_copy c arg4 harg4 X (dwOf W) hdw hcopy (8 * k.val) (by omega) ?ho0 ((k0_off8_eq k).trans (quarter_off _ _ (by omega)))) $$ HF
  case ho0 => exact word_off arg3 harg3 W _ _ (k0_off6_eq k) _ _
  iintro HF
  sl_exec (disch := exact row_inb _ (word_lt arg3 harg3 W hdw _ _))
  iapply (wp_copy c arg4 harg4 X (dwOf W) hdw hcopy (8 * k.val + 1) (by omega) ?ho1 ((k0_off11_eq k).trans (quarter_off _ _ (by omega)))) $$ HF
  case ho1 => exact word_off arg3 harg3 W _ _ (k0_off9_eq k) _ _
  iintro HF
  sl_exec (disch := exact row_inb _ (word_lt arg3 harg3 W hdw _ _))
  iapply (wp_copy c arg4 harg4 X (dwOf W) hdw hcopy (8 * k.val + 2) (by omega) ?ho2 ((k0_off14_eq k).trans (quarter_off _ _ (by omega)))) $$ HF
  case ho2 => exact word_off arg3 harg3 W _ _ (k0_off12_eq k) _ _
  iintro HF
  sl_exec (disch := exact row_inb _ (word_lt arg3 harg3 W hdw _ _))
  iapply (wp_copy c arg4 harg4 X (dwOf W) hdw hcopy (8 * k.val + 3) (by omega) ?ho3 ((k0_off17_eq k).trans (quarter_off _ _ (by omega)))) $$ HF
  case ho3 => exact word_off arg3 harg3 W _ _ (k0_off15_eq k) _ _
  iintro HF
  sl_exec (disch := exact row_inb _ (word_lt arg3 harg3 W hdw _ _))
  iapply (wp_copy c arg4 harg4 X (dwOf W) hdw hcopy (8 * k.val + 4) (by omega) ?ho4 ((k0_off20_eq k).trans (quarter_off _ _ (by omega)))) $$ HF
  case ho4 => exact word_off arg3 harg3 W _ _ (k0_off18_eq k) _ _
  iintro HF
  sl_exec (disch := exact row_inb _ (word_lt arg3 harg3 W hdw _ _))
  iapply (wp_copy c arg4 harg4 X (dwOf W) hdw hcopy (8 * k.val + 5) (by omega) ?ho5 ((k0_off23_eq k).trans (quarter_off _ _ (by omega)))) $$ HF
  case ho5 => exact word_off arg3 harg3 W _ _ (k0_off21_eq k) _ _
  iintro HF
  sl_exec (disch := exact row_inb _ (word_lt arg3 harg3 W hdw _ _))
  iapply (wp_copy c arg4 harg4 X (dwOf W) hdw hcopy (8 * k.val + 6) (by omega) ?ho6 ((k0_off26_eq k).trans (quarter_off _ _ (by omega)))) $$ HF
  case ho6 => exact word_off arg3 harg3 W _ _ (k0_off24_eq k) _ _
  iintro HF
  sl_exec (disch := exact row_inb _ (word_lt arg3 harg3 W hdw _ _))
  iapply (wp_copy c arg4 harg4 X (dwOf W) hdw hcopy (8 * k.val + 7) (by omega) ?ho7 ((k0_off29_eq k).trans (quarter_off _ _ (by omega)))) $$ HF
  case ho7 => exact word_off arg3 harg3 W _ _ (k0_off27_eq k) _ _
  iintro HF
  sl_exec
  sl_step
  isplitl [HF]; · rw [show 8 * (k.val + 1) = 8 * k.val + 7 + 1 by omega]; iexact HF
  iexact H3

/-- The wait loop's body at the launch's operands. -/
abbrev waitBody (k : Fin k0_t7_loop.trips) : Prog (TpuEff nD τ sig (Elt F) Λ₀ .tc) Unit :=
  k0_t7_body (F := F) i (Memref.whole main_v39) (Memref.isWhole_whole _) (Memref.whole main_v10) (Memref.isWhole_whole _) arg3 harg3 arg4 harg4
    (Memref.whole main_v40) (Memref.isWhole_whole _) (Memref.whole cc0_scratch0) (Memref.isWhole_whole _) cc0_scratch1 cc0_scratch2 k ⟨⟩

set_option maxHeartbeats 4000000 in
include hdw in
theorem wait_step {D : Fin 2048 → sProp 𝕄} (k : Fin k0_t7_loop.trips) :
    iprop(drain c tokSem D (8 * k.val) ∗ (arg3.view.loc (c : Thread nD τ) ↦[arg3.view.set]{fullShare} (harg3.unread W)))
      ⊢ wp frame (wpE (defs₀ (F := F)) Variants.none (c : Thread nD τ) none) Set.univ (waitBody (F := F) i arg3 harg3 arg4 harg4 k)
        (fun _ => iprop(drain c tokSem D (8 * (k.val + 1)) ∗ (arg3.view.loc (c : Thread nD τ) ↦[arg3.view.set]{fullShare} (harg3.unread W)))) := by
  have hk := trips7 k
  iintro ⟨HF, H3⟩
  dsimp only [waitBody]
  unfold k0_t7_body
  sl_exec (disch := exact row_inb _ (word_lt arg3 harg3 W hdw _ _))
  iapply (wp_drain c (8 * k.val) (by omega) tile_credit) $$ HF
  iintro HF
  sl_exec (disch := exact row_inb _ (word_lt arg3 harg3 W hdw _ _))
  iapply (wp_drain c (8 * k.val + 1) (by omega) tile_credit) $$ HF
  iintro HF
  sl_exec (disch := exact row_inb _ (word_lt arg3 harg3 W hdw _ _))
  iapply (wp_drain c (8 * k.val + 2) (by omega) tile_credit) $$ HF
  iintro HF
  sl_exec (disch := exact row_inb _ (word_lt arg3 harg3 W hdw _ _))
  iapply (wp_drain c (8 * k.val + 3) (by omega) tile_credit) $$ HF
  iintro HF
  sl_exec (disch := exact row_inb _ (word_lt arg3 harg3 W hdw _ _))
  iapply (wp_drain c (8 * k.val + 4) (by omega) tile_credit) $$ HF
  iintro HF
  sl_exec (disch := exact row_inb _ (word_lt arg3 harg3 W hdw _ _))
  iapply (wp_drain c (8 * k.val + 5) (by omega) tile_credit) $$ HF
  iintro HF
  sl_exec (disch := exact row_inb _ (word_lt arg3 harg3 W hdw _ _))
  iapply (wp_drain c (8 * k.val + 6) (by omega) tile_credit) $$ HF
  iintro HF
  sl_exec (disch := exact row_inb _ (word_lt arg3 harg3 W hdw _ _))
  iapply (wp_drain c (8 * k.val + 7) (by omega) tile_credit) $$ HF
  iintro HF
  sl_exec
  sl_step
  isplitl [HF]; · rw [show 8 * (k.val + 1) = 8 * k.val + 7 + 1 by omega]; iexact HF
  iexact H3

end Cert.Dispatch
-- ==== Proof.Split.lean ====
/-
  Hand-written, untrusted. The result split into the rows of a family of copies and the rest, the staged block into the tokens of a batch, a buffer into read shares.
-/
module

public import proofs.«01_k».proof.Proof.Rows

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The result, whole, at the contents `f`. -/
abbrev resPt (f : S143360x8x128.Idx → Elt F .f32) : sProp 𝕄 :=
  iprop((Memref.whole main_v40).view.loc (c : Thread nD τ) ↦[(Memref.whole main_v40).view.set]{fullShare} f)

/-- Row `r` of the result at the contents `f`. -/
abbrev rowPt (r : ℕ) (h : r < 143360) (f : S143360x8x128.Idx → Elt F .f32) : sProp 𝕄 :=
  iprop((rowM r h).view.loc (c : Thread nD τ) ↦[(rowM r h).view.set]{fullShare} f)

/-- The elements of row `r`. -/
abbrev rowSet (r : ℕ) (h : r < 143360) : Finset S143360x8x128.Idx := (rowM r h).view.set

section Rows
variable {n : ℕ} (dw : Fin n → ℕ) (hdw : ∀ a, dw a < 143360)

/-- The elements of the rows of a family. -/
def rowsOf : Finset S143360x8x128.Idx := Finset.univ.biUnion fun a : Fin n => rowSet (dw a) (hdw a)

theorem mem_rowsOf (y : S143360x8x128.Idx) : y ∈ rowsOf dw hdw ↔ ∃ a, (y 0).val = dw a := by
  unfold rowsOf
  rw [Finset.mem_biUnion]
  constructor
  · rintro ⟨a, -, h⟩; exact ⟨a, (mem_row _ _ y).mp h⟩
  · rintro ⟨a, h⟩; exact ⟨a, Finset.mem_univ _, (mem_row _ _ y).mpr h⟩

/-- The elements of the other rows, at the contents `f`. -/
abbrev restPt (f : S143360x8x128.Idx → Elt F .f32) : sProp 𝕄 :=
  iprop((Memref.whole main_v40).view.loc (c : Thread nD τ) ↦[(Memref.whole main_v40).view.set \ rowsOf dw hdw]{fullShare} f)

theorem rows_eq (hinj : Function.Injective dw) (f : S143360x8x128.Idx → Elt F .f32) :
    iprop((Memref.whole main_v40).view.loc (c : Thread nD τ) ↦[rowsOf dw hdw]{fullShare} f)
      = (bigSep Finset.univ fun a => rowPt c (dw a) (hdw a) f : sProp 𝕄) := by
  unfold rowsOf
  refine pointsTo_biUnion Finset.univ _ fun a _ b _ hab => ?_
  refine (Finset.disjoint_left (s := rowSet (dw a) (hdw a)) (t := rowSet (dw b) (hdw b))).mpr fun y ha hb => ?_
  exact hab (hinj (((mem_row _ _ y).mp ha).symm.trans ((mem_row _ _ y).mp hb)))

theorem rows_take (hinj : Function.Injective dw) (f : S143360x8x128.Idx → Elt F .f32) :
    resPt c f ⊢ iprop((bigSep Finset.univ fun a => rowPt c (dw a) (hdw a) f) ∗ restPt c dw hdw f) := by
  rw [← rows_eq c dw hdw hinj f]
  exact (pointsTo_split_subset (by rw [View.set_whole]; exact Finset.subset_univ _)).1

theorem rows_give (hinj : Function.Injective dw) (f f' : S143360x8x128.Idx → Elt F .f32)
    (hf : ∀ y : S143360x8x128.Idx, (∀ a, (y 0).val ≠ dw a) → f' y = f y) :
    iprop((bigSep Finset.univ fun a => rowPt c (dw a) (hdw a) f') ∗ restPt c dw hdw f) ⊢ resPt c f' := by
  have e : restPt c dw hdw f = (restPt c dw hdw f' : sProp 𝕄) := pointsTo_congr fun y hy =>
    (hf y fun a ha => (Finset.mem_sdiff.mp hy).2 ((mem_rowsOf dw hdw y).mpr ⟨a, ha⟩)).symm
  rw [e, ← rows_eq c dw hdw hinj f']
  exact (pointsTo_split_subset (by rw [View.set_whole]; exact Finset.subset_univ _)).2

end Rows

/-- Read shares of a buffer, one each for `n` readers, and the way back. -/
theorem shares_take {ℓ : Loc nD τ sig} {S : Finset (Idx ℓ)} {g : Buf (Elt F) ℓ} (n : ℕ) :
    (ℓ ↦[S]{fullShare} g : sProp 𝕄) ⊢ iprop((bigSep (Finset.univ : Finset (Fin n)) fun a => ℓ ↦[S]{Transfers.shareTokN fullShare a.val} g)
      ∗ ((bigSep (Finset.univ : Finset (Fin n)) fun a => ℓ ↦[S]{Transfers.shareTokN fullShare a.val} g) -∗ ℓ ↦[S]{fullShare} g)) := by
  have e : (bigSep (Finset.univ : Finset (Fin n)) fun a => ℓ ↦[S]{Transfers.shareTokN fullShare a.val} g : sProp 𝕄)
      = bigSep (Finset.range n) (fun i => ℓ ↦[S]{Transfers.shareTokN fullShare i} g) := Ring.bigSep_fin_eq_range n _ _ fun _ _ => rfl
  rw [e]
  iintro H
  ihave H := (Transfers.pointsTo_toks_range fullShare n).1 $$ H
  icases H with ⟨Hd, Hs⟩
  isplitl [Hs]; · iexact Hs
  iintro Hs
  iapply (Transfers.pointsTo_toks_range fullShare n).2
  isplitl [Hd]; · iexact Hd
  iexact Hs

section Toks
variable (arg4 : Memref sig .tc .vmem S512x8x128 .f32) (harg4 : arg4.IsWhole) (X : S512x8x128.Idx → Elt F .f32)

/-- The token of copy `a`, at the copy's own share. -/
abbrev tokPt (a : Fin 2048) : sProp 𝕄 :=
  iprop((tokM arg4 (a.val / 4) (quarter a)).view.loc (c : Thread nD τ) ↦[(tokM arg4 (a.val / 4) (quarter a)).view.set]{Transfers.shareTokN fullShare a.val} (harg4.unread X))

theorem tok_split (a : Fin 2048) :
    iprop(arg4.view.loc (c : Thread nD τ) ↦[arg4.view.set]{Transfers.shareTokN fullShare a.val} (harg4.unread X))
      ⊢ (iprop(tokPt c arg4 harg4 X a ∗ (tokPt c arg4 harg4 X a -∗ (arg4.view.loc (c : Thread nD τ) ↦[arg4.view.set]{Transfers.shareTokN fullShare a.val} (harg4.unread X)))) : sProp 𝕄) := by
  have hs : (tokM arg4 (a.val / 4) (quarter a)).view.set ⊆ arg4.view.set := by
    rw [harg4.set_eq_univ]; exact Finset.subset_univ _
  iintro H
  ihave H := (pointsTo_split_subset hs).1 $$ H
  icases H with ⟨Ha, Hb⟩
  isplitl [Ha]; · iexact Ha
  iintro Ha
  iapply (pointsTo_split_subset hs).2
  isplitl [Ha]; · iexact Ha
  iexact Hb

/-- What is left of the block when copy `a` has its token. -/
abbrev tokWand (a : Fin 2048) : sProp 𝕄 :=
  iprop(tokPt c arg4 harg4 X a -∗ (arg4.view.loc (c : Thread nD τ) ↦[arg4.view.set]{Transfers.shareTokN fullShare a.val} (harg4.unread X)))

theorem toks_split : (bigSep Finset.univ fun a : Fin 2048 => iprop(arg4.view.loc (c : Thread nD τ) ↦[arg4.view.set]{Transfers.shareTokN fullShare a.val} (harg4.unread X)))
    ⊢ (iprop((bigSep Finset.univ fun a => tokPt c arg4 harg4 X a) ∗ bigSep Finset.univ fun a => tokWand c arg4 harg4 X a) : sProp 𝕄) :=
  BIBase.Entails.trans (bigSep_mono fun a _ => tok_split c arg4 harg4 X a) (Entails.of_eq (BI.bigSep_sep _ _ _))

theorem tok_merge (a : Fin 2048) : (iprop(tokPt c arg4 harg4 X a ∗ tokWand c arg4 harg4 X a) : sProp 𝕄)
    ⊢ iprop(arg4.view.loc (c : Thread nD τ) ↦[arg4.view.set]{Transfers.shareTokN fullShare a.val} (harg4.unread X)) := by
  iintro ⟨Ha, Hw⟩
  iapply Hw; iexact Ha

theorem toks_join : (iprop((bigSep Finset.univ fun a => tokPt c arg4 harg4 X a) ∗ bigSep Finset.univ fun a => tokWand c arg4 harg4 X a) : sProp 𝕄)
    ⊢ bigSep Finset.univ fun a : Fin 2048 => iprop(arg4.view.loc (c : Thread nD τ) ↦[arg4.view.set]{Transfers.shareTokN fullShare a.val} (harg4.unread X)) :=
  BIBase.Entails.trans (Entails.of_eq (BI.bigSep_sep _ _ _).symm) (bigSep_mono fun a _ => tok_merge c arg4 harg4 X a)

/-- The staged block lends every copy its token, and takes them back. -/
theorem toks_take :
    iprop(arg4.view.loc (c : Thread nD τ) ↦[arg4.view.set]{fullShare} (harg4.unread X))
      ⊢ (iprop((bigSep Finset.univ fun a => tokPt c arg4 harg4 X a)
        ∗ ((bigSep Finset.univ fun a => tokPt c arg4 harg4 X a) -∗ (arg4.view.loc (c : Thread nD τ) ↦[arg4.view.set]{fullShare} (harg4.unread X)))) : sProp 𝕄) := by
  iintro H
  ihave H := shares_take 2048 $$ H
  icases H with ⟨Hs, Hk⟩
  ihave Hs := (toks_split c arg4 harg4 X) $$ Hs
  icases Hs with ⟨Ht, Hw⟩
  isplitl [Ht]; · iexact Ht
  iintro Ht
  iapply Hk
  iapply (toks_join c arg4 harg4 X)
  isplitl [Ht]; · iexact Ht
  iexact Hw

end Toks

end Cert.Dispatch
-- ==== Proof.Copies.lean ====
/-
  Hand-written, untrusted. One grid point of the dispatch: its 2048 copies, issued and waited for, write their rows.
-/
module

public import proofs.«01_k».proof.Proof.Issue
public import proofs.«01_k».proof.Proof.Split

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg3 : Memref sig .tc .smem S2048 .i32) (harg3 : arg3.IsWhole) (arg4 : Memref sig .tc .vmem S512x8x128 .f32) (harg4 : arg4.IsWhole)
  (W : S2048.Idx → BitVec 32) (X : S512x8x128.Idx → Elt F .f32) (hdw : ∀ a, dwOf W a < 143360)

theorem held_join (f : S143360x8x128.Idx → Elt F .f32) :
    (bigSep Finset.univ (held c arg4 harg4 X (dwOf W) hdw f) : sProp 𝕄)
      = iprop((bigSep Finset.univ fun a => rowPt c (dwOf W a) (hdw a) f) ∗ bigSep Finset.univ fun a => tokPt c arg4 harg4 X a) := by
  exact BI.bigSep_sep _ _ _

/-- Nothing issued. -/
theorem flight_begin (f f' : S143360x8x128.Idx → Elt F .f32) :
    iprop(semVal ((c : Thread nD τ), SemLoc.dma tokSem) 0 ∗ (bigSep Finset.univ fun a => rowPt c (dwOf W a) (hdw a) f) ∗ bigSep Finset.univ fun a => tokPt c arg4 harg4 X a)
      ⊢ (iprop(|={Set.univ}=> flight c arg4 harg4 X (dwOf W) hdw f f' 0) : sProp 𝕄) := by
  rw [← held_join c arg4 harg4 W X hdw f]
  iintro ⟨Hv, Hs⟩
  imod (Transfers.batch_alloc' (Lvl := ℕ) (countersEmb (U := Pipeline.UD sig nD τ)) (c : Thread nD τ) () 128 (held c arg4 harg4 X (dwOf W) hdw f')
    (sm := .dma tokSem) (E := Set.univ)) $$ Hv with HB
  imodintro
  unfold flight
  isplitl [HB]; · iexact HB
  iapply (Entails.of_eq (Transfers.bigSep_pending_zero _)) $$ Hs

/-- Everything issued, nothing waited for. -/
theorem flight_drain (f f' : S143360x8x128.Idx → Elt F .f32) :
    iprop(flight c arg4 harg4 X (dwOf W) hdw f f' 2048 ∗ ∃ O, owes (c : Thread nD τ) 0 O)
      ⊢ (drain c tokSem (held c arg4 harg4 X (dwOf W) hdw f') 0 : sProp 𝕄) := by
  unfold flight drain
  rw [if_pos (by decide : 0 < 2048)]
  iintro ⟨⟨HB, -⟩, HO⟩
  isplitl [HO]; · iexact HO
  iexact HB

/-- Everything waited for. -/
theorem drain_end (f' : S143360x8x128.Idx → Elt F .f32) {j : ℕ} (hj : j = 2048) :
    drain c tokSem (held c arg4 harg4 X (dwOf W) hdw f') j
      ⊢ (iprop((∃ O, owes (c : Thread nD τ) 0 O) ∗ semVal ((c : Thread nD τ), SemLoc.dma tokSem) 0
        ∗ (bigSep Finset.univ fun a => rowPt c (dwOf W a) (hdw a) f') ∗ bigSep Finset.univ fun a => tokPt c arg4 harg4 X a) : sProp 𝕄) := by
  rw [← held_join c arg4 harg4 W X hdw f']
  unfold drain
  rw [if_neg (by omega)]

/-- The two loops of a grid point. -/
abbrev copyLoops : Prog (TpuEff nD τ sig (Elt F) Λ₀ .tc) PUnit := do
  Scf.Loop.for k0_t6_loop k0_t6_ok ⟨⟩ (k0_t6_body (F := F) i (Memref.whole main_v39) (Memref.isWhole_whole _) (Memref.whole main_v10) (Memref.isWhole_whole _) arg3 harg3 arg4 harg4
    (Memref.whole main_v40) (Memref.isWhole_whole _) (Memref.whole cc0_scratch0) (Memref.isWhole_whole _) cc0_scratch1 cc0_scratch2)
  Scf.Loop.for k0_t7_loop k0_t7_ok ⟨⟩ (k0_t7_body (F := F) i (Memref.whole main_v39) (Memref.isWhole_whole _) (Memref.whole main_v10) (Memref.isWhole_whole _) arg3 harg3 arg4 harg4
    (Memref.whole main_v40) (Memref.isWhole_whole _) (Memref.whole cc0_scratch0) (Memref.isWhole_whole _) cc0_scratch1 cc0_scratch2)
  pure ⟨⟩

theorem trips6_eq : k0_t6_loop.trips = 256 := by decide +kernel
theorem trips7_eq : k0_t7_loop.trips = 256 := by decide +kernel

/-- What the two loops are given and hand back. -/
def pointPre (f : S143360x8x128.Idx → Elt F .f32) : sProp 𝕄 :=
  iprop(resPt c f ∗ (arg3.view.loc (c : Thread nD τ) ↦[arg3.view.set]{fullShare} (harg3.unread W))
    ∗ (arg4.view.loc (c : Thread nD τ) ↦[arg4.view.set]{fullShare} (harg4.unread X))
    ∗ semVal ((c : Thread nD τ), SemLoc.dma tokSem) 0 ∗ ∃ O, owes (c : Thread nD τ) 0 O)

set_option maxHeartbeats 1000000 in
include hdw in
theorem copies_run (hinj : Function.Injective (dwOf W)) {f f' : S143360x8x128.Idx → Elt F .f32}
    (hcopy : ∀ (a : Fin 2048) (y : S143360x8x128.Idx), (y 0).val = dwOf W a → f' y = X (at3 (⟨a.val / 4, quarter a⟩ : Fin 512) (y 1) (y 2)))
    (hkeep : ∀ y : S143360x8x128.Idx, (∀ a, (y 0).val ≠ dwOf W a) → f' y = f y)
    {Q : PUnit → sProp 𝕄} :
    iprop(pointPre c arg3 harg3 arg4 harg4 W X f ∗ (pointPre c arg3 harg3 arg4 harg4 W X f' -∗ Q ⟨⟩))
      ⊢ wp frame (wpE (defs₀ (F := F)) Variants.none (c : Thread nD τ) none) Set.univ (copyLoops (F := F) i arg3 harg3 arg4 harg4) Q := by
  unfold pointPre
  iintro ⟨⟨HR, H3, H4, HV, HO⟩, HQ⟩
  ihave HR := (rows_take c (dwOf W) hdw hinj f) $$ HR
  icases HR with ⟨Hrows, Hrest⟩
  ihave H4 := (toks_take c arg4 harg4 X) $$ H4
  icases H4 with ⟨Htoks, Hback⟩
  imod (flight_begin c arg4 harg4 W X hdw f f') $$ [HV Hrows Htoks] with HF
  · isplitl [HV]; · iexact HV
    isplitl [Hrows]; · iexact Hrows
    iexact Htoks
  dsimp only [copyLoops]
  sl_for (fun k _ => iprop(flight c arg4 harg4 X (dwOf W) hdw f f' (8 * k) ∗ (arg3.view.loc (c : Thread nD τ) ↦[arg3.view.set]{fullShare} (harg3.unread W)))) $$ [HF H3]
  case region =>
    intro k acc
    exact issue_step c i arg3 harg3 arg4 harg4 W X hdw hcopy k
  · isplitl [HF]; · iexact HF
    iexact H3
  iintro %acc ⟨HF, H3⟩
  ihave HD := (flight_drain c arg4 harg4 W X hdw f f') $$ [HF HO]
  · isplitl [HF]; · iexact HF
    iexact HO
  sl_for (fun k _ => iprop(drain c tokSem (held c arg4 harg4 X (dwOf W) hdw f') (8 * k) ∗ (arg3.view.loc (c : Thread nD τ) ↦[arg3.view.set]{fullShare} (harg3.unread W)))) $$ [HD H3]
  case region =>
    intro k acc
    exact wait_step c i arg3 harg3 arg4 harg4 W hdw k
  · isplitl [HD]; · iexact HD
    iexact H3
  iintro %acc2 ⟨HD, H3⟩
  ihave HD := (drain_end c arg4 harg4 W X hdw f' (j := 8 * Scf.trips k0_t7_loop.lb k0_t7_loop.ub k0_t7_loop.st) (by decide +kernel)) $$ HD
  icases HD with ⟨HO, HV, Hrows, Htoks⟩
  sl_exec
  sl_step
  iapply HQ
  isplitl [Hrows Hrest]
  · iapply (rows_give c (dwOf W) hdw hinj f f' hkeep)
    isplitl [Hrows]; · iexact Hrows
    iexact Hrest
  isplitl [H3]; · iexact H3
  isplitl [Htoks Hback]
  · iapply Hback; iexact Htoks
  isplitl [HV]; · iexact HV
  iexact HO

end Cert.Dispatch
-- ==== Proof.Pads.lean ====
/-
  Hand-written, untrusted. The padding of the dispatch: behind each expert its rows of zeros, issued and waited for.
-/
module

public import proofs.«01_k».proof.Proof.Split
public import proofs.«01_k».proof.Proof.PadWords

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Z : S8x128.Idx → Elt F .f32)

/-- The zero tile, whole, at the share `q`. -/
abbrev tilePt (q : PosShare TreeShare) : sProp 𝕄 :=
  iprop((Memref.whole cc0_scratch0).view.loc (c : Thread nD τ) ↦[(Memref.whole cc0_scratch0).view.set]{q} Z)

section Fill
variable (base n : ℕ) (hb : base + n ≤ 143360)

/-- The row of copy `a`. -/
abbrev padRow (a : Fin n) : ℕ := base + a.val
include hb in
theorem padRow_lt (a : Fin n) : padRow base n a < 143360 := by have := a.isLt; unfold padRow; omega
theorem padRow_inj : Function.Injective (padRow base n) := fun a b h => Fin.ext (by unfold padRow at h; omega)

/-- What copy `a` of zeros borrows and hands back. -/
def heldZ (f : S143360x8x128.Idx → Elt F .f32) (a : Fin n) : sProp 𝕄 :=
  iprop(rowPt c (padRow base n a) (padRow_lt base n hb a) f ∗ tilePt c Z (Transfers.shareTokN fullShare a.val))

set_option backward.isDefEq.respectTransparency.types false in
instance heldZ_storable (f : S143360x8x128.Idx → Elt F .f32) (a : Fin n) : BI.Storable (upEmb : UEmb _ 𝕄) (heldZ c Z base n hb f a) := by
  unfold heldZ; infer_instance

/-- Before issue `j` of `n`; of no copies the cell at zero. -/
def flightZ (f f' : S143360x8x128.Idx → Elt F .f32) (j : ℕ) : sProp 𝕄 :=
  iprop((if 0 < n then Transfers.Batch (countersEmb (U := Pipeline.UD sig nD τ)) (c : Thread nD τ) (.dma padSem) () 128 (heldZ c Z base n hb f') j 0
      else semVal ((c : Thread nD τ), SemLoc.dma padSem) 0)
    ∗ bigSep (Transfers.pending j) (heldZ c Z base n hb f))

theorem heldZ_join (f : S143360x8x128.Idx → Elt F .f32) :
    (bigSep Finset.univ (heldZ c Z base n hb f) : sProp 𝕄)
      = iprop((bigSep Finset.univ fun a => rowPt c (padRow base n a) (padRow_lt base n hb a) f) ∗ bigSep Finset.univ fun a : Fin n => tilePt c Z (Transfers.shareTokN fullShare a.val)) := by
  exact BI.bigSep_sep _ _ _

theorem flightZ_begin (f f' : S143360x8x128.Idx → Elt F .f32) :
    iprop(semVal ((c : Thread nD τ), SemLoc.dma padSem) 0 ∗ (bigSep Finset.univ fun a => rowPt c (padRow base n a) (padRow_lt base n hb a) f) ∗ bigSep Finset.univ fun a : Fin n => tilePt c Z (Transfers.shareTokN fullShare a.val))
      ⊢ (iprop(|={Set.univ}=> flightZ c Z base n hb f f' 0) : sProp 𝕄) := by
  rw [← heldZ_join c Z base n hb f]
  unfold flightZ
  iintro ⟨Hv, Hs⟩
  rcases Nat.eq_zero_or_pos n with h0 | h0
  · rw [if_neg (by omega)]
    imodintro
    isplitl [Hv]; · iexact Hv
    iapply (Entails.of_eq (Transfers.bigSep_pending_zero _)) $$ Hs
  · rw [if_pos h0]
    imod (Transfers.batch_alloc' (Lvl := ℕ) (countersEmb (U := Pipeline.UD sig nD τ)) (c : Thread nD τ) () 128 (heldZ c Z base n hb f')
      (sm := .dma padSem) (E := Set.univ)) $$ Hv with HB
    imodintro
    isplitl [HB]; · iexact HB
    iapply (Entails.of_eq (Transfers.bigSep_pending_zero _)) $$ Hs

theorem flightZ_drain (f f' : S143360x8x128.Idx → Elt F .f32) :
    iprop(flightZ c Z base n hb f f' n ∗ ∃ O, owes (c : Thread nD τ) 0 O) ⊢ (drain c padSem (heldZ c Z base n hb f') 0 : sProp 𝕄) := by
  unfold flightZ drain
  rcases Nat.eq_zero_or_pos n with h0 | h0
  · rw [if_neg (by omega), if_neg (by omega)]
    subst h0
    iintro ⟨⟨HB, He⟩, HO⟩
    isplitl [HO]; · iexact HO
    isplitl [HB]; · iexact HB
    iapply (Entails.of_eq (show bigSep (Transfers.pending 0) (heldZ c Z base 0 hb f) = bigSep Finset.univ (heldZ c Z base 0 hb f') by
      rw [Transfers.pending_zero]; exact congrArg _ (funext fun a => a.elim0))) $$ He
  · rw [if_pos h0, if_pos h0]
    iintro ⟨⟨HB, -⟩, HO⟩
    isplitl [HO]; · iexact HO
    rw [Nat.zero_mul]
    iexact HB

theorem flightZ_stop (f f' : S143360x8x128.Idx → Elt F .f32) {j : ℕ} (hj : j = n) :
    flightZ c Z base n hb f f' j ⊢ (flightZ c Z base n hb f f' n : sProp 𝕄) := by subst hj; exact .rfl

theorem drainZ_end (f' : S143360x8x128.Idx → Elt F .f32) {j : ℕ} (hj : j = n) :
    drain c padSem (heldZ c Z base n hb f') j
      ⊢ (iprop((∃ O, owes (c : Thread nD τ) 0 O) ∗ semVal ((c : Thread nD τ), SemLoc.dma padSem) 0
        ∗ (bigSep Finset.univ fun a => rowPt c (padRow base n a) (padRow_lt base n hb a) f') ∗ bigSep Finset.univ fun a : Fin n => tilePt c Z (Transfers.shareTokN fullShare a.val)) : sProp 𝕄) := by
  rw [← heldZ_join c Z base n hb f']
  unfold drain
  rw [if_neg (by omega)]

theorem wp_fill {f f' : S143360x8x128.Idx → Elt F .f32}
    (hcopy : ∀ (a : Fin n) (y : S143360x8x128.Idx), (y 0).val = padRow base n a → f' y = Z (fun | ⟨0, _⟩ => y 1 | ⟨1, _⟩ => y 2))
    (j : ℕ) (hj : j < n) {off : Fin 3 → ℕ} (ho : off = ![base + j, 0, 0])
    {inb : ∀ a, off a + S1x8x128.size a ≤ S143360x8x128.size a}
    {hs hsrc hdst hsem} {α : Type} {k : PUnit → Prog (TpuEff nD τ sig (Elt F) Λ₀ .tc) α} {Q : α → sProp 𝕄} :
    flightZ c Z base n hb f f' j
      ⊢ iprop((flightZ c Z base n hb f f' (j + 1) -∗ wp frame (wpE (defs₀ (F := F)) Variants.none (c : Thread nD τ) none) Set.univ (k ⟨⟩) Q)
        -∗ wp frame (wpE (defs₀ (F := F)) Variants.none (c : Thread nD τ) none) Set.univ
          (.op (.enqueueDma (Memref.whole cc0_scratch0)
            (.here (((Memref.whole main_v40).slice (Rect.unit (s := S143360x8x128) off S1x8x128.size inb) hs).squeeze S8x128 squeezes_S1x8x128_S8x128))
            (.dma padSem) hsrc hdst hsem) k) Q) := by
  subst ho
  unfold flightZ
  rw [if_pos (by omega), Transfers.bigSep_pending_step _ j hj]
  iintro ⟨HB, Hh, Hr⟩ Hk
  ihave Hh := (show heldZ c Z base n hb f ⟨j, hj⟩ ⊢ _ by unfold heldZ; exact .rfl) $$ Hh
  icases Hh with ⟨Hd, Hs⟩
  iapply (Transfers.wp_dmaBatch (countersEmb (U := Pipeline.UD sig nD τ)) Variants.none (c : Thread nD τ) none
    (src := Memref.whole cc0_scratch0) (dst := rowM (base + j) (padRow_lt base n hb ⟨j, hj⟩)) (Sd := (rowM (base + j) (padRow_lt base n hb ⟨j, hj⟩)).view.set)
    (q := Transfers.shareTokN fullShare j) (fs := Z) (fd := f) (D := heldZ c Z base n hb f')
    () 128 (row_amount _ _ _) (Finset.Subset.refl _) hj (Nat.zero_le _) ?hD) $$ [Hs Hd HB] [Hk Hr]
  case hD =>
    unfold heldZ
    iintro ⟨Hd, Hs⟩
    isplitl [Hd]
    on_goal 2 => iexact Hs
    iapply (Entails.of_eq (pointsTo_congr fun y hy => ?_)) $$ Hd
    have hy' := (mem_row _ _ y).mp hy
    rw [hcopy ⟨j, hj⟩ y hy']
    exact row_write _ _ _ _ y hy'
  · isplitl [Hs]; · iexact Hs
    isplitl [Hd]; · iexact Hd
    iexact HB
  · iintro HB
    iapply Hk
    isplitl [HB]
    · rw [if_pos (by omega)]; iexact HB
    iexact Hr

end Fill

/-! ## One expert -/

/-- An index of one axis of 32. -/
abbrev at32 (e : Fin 32) : S32.Idx := fun | ⟨0, _⟩ => e

/-- A table of the launch, whole. -/
abbrev cntPt (T : S32.Idx → BitVec 32) : sProp 𝕄 :=
  iprop((Memref.whole main_v39).view.loc (c : Thread nD τ) ↦[(Memref.whole main_v39).view.set]{fullShare.right} T)
abbrev begPt (T : S32.Idx → BitVec 32) : sProp 𝕄 :=
  iprop((Memref.whole main_v10).view.loc (c : Thread nD τ) ↦[(Memref.whole main_v10).view.set]{fullShare.right} T)

theorem tab_idx {off : Fin 1 → ℕ} (n : ℕ) (hn : n < 32) (ho : off = ![n]) (inb : ∀ a, off a + S1.size a ≤ S32.size a) (y : (Rect.unit (s := S32) off S1.size inb).toLoadRect.shape.Idx) :
    (Rect.unit (s := S32) off S1.size inb).toLoadRect.idx y = at32 ⟨n, hn⟩ := by
  subst ho
  funext a; fin_cases a
  have h0 : (y 0).val < 1 := (y 0).isLt
  exact Fin.ext (show n + 1 * (y 0).val = n by omega)

theorem cnt_read (T : S32.Idx → BitVec 32) {off : Fin 1 → ℕ} (n : ℕ) (hn : n < 32) (ho : off = ![n]) (inb : ∀ a, off a + S1.size a ≤ S32.size a) (y : (Rect.unit (s := S32) off S1.size inb).toLoadRect.shape.Idx) :
    View.readAt (Elt F) (Memref.whole main_v39).view (Rect.unit (s := S32) off S1.size inb).toLoadRect T y = T (at32 ⟨n, hn⟩) :=
  congrArg T (tab_idx n hn ho inb y)
theorem beg_read (T : S32.Idx → BitVec 32) {off : Fin 1 → ℕ} (n : ℕ) (hn : n < 32) (ho : off = ![n]) (inb : ∀ a, off a + S1.size a ≤ S32.size a) (y : (Rect.unit (s := S32) off S1.size inb).toLoadRect.shape.Idx) :
    View.readAt (Elt F) (Memref.whole main_v10).view (Rect.unit (s := S32) off S1.size inb).toLoadRect T y = T (at32 ⟨n, hn⟩) :=
  congrArg T (tab_idx n hn ho inb y)

theorem chk1_of (i : grid0.Coords) {v : BitVec 32} {n : ℕ} (hv : v = BitVec.ofNat 32 n) (hn : n ≤ 135168) : k0_chk1 i v := hv ▸ chk1 i hn
theorem chk2_of (i : grid0.Coords) {v w : BitVec 32} {n s : ℕ} (hv : v = BitVec.ofNat 32 n) (hw : w = BitVec.ofNat 32 s) (hn : n ≤ 135168) (hs : s + n + padN n ≤ 143360) :
    k0_chk2 i v w := by subst hv hw; exact chk2 i hn hs

theorem t2_trips' {v : BitVec 32} {n : ℕ} (hv : v = BitVec.ofNat 32 n) (hn : n ≤ 135168) :
    Scf.trips (k0_t2_loop v).lb (k0_t2_loop v).ub (k0_t2_loop v).st = padN n := hv ▸ t2_trips hn
theorem t4_trips' {v : BitVec 32} {n : ℕ} (hv : v = BitVec.ofNat 32 n) (hn : n ≤ 135168) :
    Scf.trips (k0_t4_loop v).lb (k0_t4_loop v).ub (k0_t4_loop v).st = padN n := hv ▸ t4_trips hn

section Steps
variable (i : grid0.Coords) (h1 : k0_cond1 i = 1#1)
  (arg3 : Memref sig .tc .smem S2048 .i32) (harg3 : arg3.IsWhole) (arg4 : Memref sig .tc .vmem S512x8x128 .f32) (harg4 : arg4.IsWhole)

theorem fill_step {n s : ℕ} (hn : n ≤ 135168) (hs : s + n + padN n ≤ 143360) {v w : BitVec 32} (hv : v = BitVec.ofNat 32 n) (hw : w = BitVec.ofNat 32 s)
    (w1 : k0_chk1 i v) (w2 : k0_chk2 i v w) (x0 x1 : BitVec 32) (t : Fin k0_t1_loop.trips) {f f' : S143360x8x128.Idx → Elt F .f32}
    (hcopy : ∀ (a : Fin (padN n)) (y : S143360x8x128.Idx), (y 0).val = padRow (s + n) (padN n) a → f' y = Z (fun | ⟨0, _⟩ => y 1 | ⟨1, _⟩ => y 2))
    (k : Fin (k0_t2_loop v).trips) :
    flightZ c Z (s + n) (padN n) hs f f' k.val
      ⊢ wp frame (wpE (defs₀ (F := F)) Variants.none (c : Thread nD τ) none) Set.univ
        (k0_t2_body (F := F) i (Memref.whole main_v39) (Memref.isWhole_whole _) (Memref.whole main_v10) (Memref.isWhole_whole _) arg3 harg3 arg4 harg4
          (Memref.whole main_v40) (Memref.isWhole_whole _) (Memref.whole cc0_scratch0) (Memref.isWhole_whole _) cc0_scratch1 cc0_scratch2 h1 x0 x1 t v w1 w w2 k ⟨⟩)
        (fun _ => flightZ c Z (s + n) (padN n) hs f f' (k.val + 1)) := by
  subst hv hw
  have hk : k.val < padN n := lt_of_lt_of_eq k.isLt (t2_trips hn)
  iintro HF
  unfold k0_t2_body
  sl_exec
  iapply (wp_fill c Z (s + n) (padN n) hs hcopy k.val hk (off2_eq hn hs k)) $$ HF
  iintro HF
  sl_exec
  sl_step
  iexact HF

theorem fillwait_step {n : ℕ} (hn : n ≤ 135168) {v w : BitVec 32} (hv : v = BitVec.ofNat 32 n)
    (w1 : k0_chk1 i v) (w2 : k0_chk2 i v w) {D : Fin (padN n) → sProp 𝕄}
    (k : Fin (k0_t4_loop v).trips) :
    drain c padSem D k.val
      ⊢ wp frame (wpE (defs₀ (F := F)) Variants.none (c : Thread nD τ) none) Set.univ
        (k0_t4_body (F := F) i (Memref.whole main_v39) (Memref.isWhole_whole _) (Memref.whole main_v10) (Memref.isWhole_whole _) arg3 harg3 arg4 harg4
          (Memref.whole main_v40) (Memref.isWhole_whole _) (Memref.whole cc0_scratch0) (Memref.isWhole_whole _) cc0_scratch1 cc0_scratch2 h1 v w1 w w2 k ⟨⟩)
        (fun _ => drain c padSem D (k.val + 1)) := by
  subst hv
  have hk : k.val < padN n := lt_of_lt_of_eq k.isLt (t4_trips hn)
  iintro HF
  unfold k0_t4_body
  sl_exec
  iapply (wp_drain c k.val hk tile_credit) $$ HF
  iintro HF
  sl_exec
  sl_step
  iexact HF

/-- What an expert's padding is given and hands back. -/
def padPre (T1 T2 : S32.Idx → BitVec 32) (f : S143360x8x128.Idx → Elt F .f32) : sProp 𝕄 :=
  iprop(resPt c f ∗ cntPt c T1 ∗ begPt c T2 ∗ tilePt c Z fullShare
    ∗ semVal ((c : Thread nD τ), SemLoc.dma padSem) 0 ∗ ∃ O, owes (c : Thread nD τ) 0 O)

theorem trips1 (k : Fin k0_t1_loop.trips) : k.val < 32 := lt_of_lt_of_le k.isLt (by decide +kernel)

set_option maxHeartbeats 2000000 in
theorem expert_step {T1 T2 : S32.Idx → BitVec 32} {cn st : Fin 32 → ℕ} (hT1 : ∀ e, T1 (at32 e) = BitVec.ofNat 32 (cn e)) (hT2 : ∀ e, T2 (at32 e) = BitVec.ofNat 32 (st e))
    (hn : ∀ e, cn e ≤ 135168) (hs : ∀ e, st e + cn e + padN (cn e) ≤ 143360) (g : ℕ → S143360x8x128.Idx → Elt F .f32)
    (hcopy : ∀ (e : Fin 32) (a : Fin (padN (cn e))) (y : S143360x8x128.Idx), (y 0).val = padRow (st e + cn e) (padN (cn e)) a → g (e.val + 1) y = Z (fun | ⟨0, _⟩ => y 1 | ⟨1, _⟩ => y 2))
    (hkeep : ∀ (e : Fin 32) (y : S143360x8x128.Idx), (∀ a : Fin (padN (cn e)), (y 0).val ≠ padRow (st e + cn e) (padN (cn e)) a) → g (e.val + 1) y = g e.val y)
    (k : Fin k0_t1_loop.trips) :
    padPre c Z T1 T2 (g k.val)
      ⊢ wp frame (wpE (defs₀ (F := F)) Variants.none (c : Thread nD τ) none) Set.univ
        (k0_t1_body (F := F) i (Memref.whole main_v39) (Memref.isWhole_whole _) (Memref.whole main_v10) (Memref.isWhole_whole _) arg3 harg3 arg4 harg4
          (Memref.whole main_v40) (Memref.isWhole_whole _) (Memref.whole cc0_scratch0) (Memref.isWhole_whole _) cc0_scratch1 cc0_scratch2 h1 k ⟨⟩)
        (fun _ => padPre c Z T1 T2 (g (k.val + 1))) := by
  have hk := trips1 k
  have hinj := padRow_inj (st ⟨k.val, hk⟩ + cn ⟨k.val, hk⟩) (padN (cn ⟨k.val, hk⟩))
  have hrow := padRow_lt (st ⟨k.val, hk⟩ + cn ⟨k.val, hk⟩) (padN (cn ⟨k.val, hk⟩)) (hs ⟨k.val, hk⟩)
  unfold padPre
  iintro ⟨HR, H1, H2, HZ, HV, HO⟩
  ihave HR := (rows_take c _ hrow hinj (g k.val)) $$ HR
  icases HR with ⟨Hrows, Hrest⟩
  ihave HZ := (shares_take (padN (cn ⟨k.val, hk⟩))) $$ HZ
  icases HZ with ⟨Htoks, Hback⟩
  imod (flightZ_begin c Z _ _ (hs ⟨k.val, hk⟩) (g k.val) (g (k.val + 1))) $$ [HV Hrows Htoks] with HF
  · isplitl [HV]; · iexact HV
    isplitl [Hrows]; · iexact Hrows
    iexact Htoks
  unfold k0_t1_body
  sl_exec (disch := first
    | exact chk1_of i ((cnt_read T1 k.val hk (k0_off1_eq k) _ _).trans (hT1 _)) (hn _)
    | exact chk2_of i ((cnt_read T1 k.val hk (k0_off1_eq k) _ _).trans (hT1 _)) ((beg_read T2 k.val hk (k0_off1_eq k) _ _).trans (hT2 _)) (hn _) (hs _))
  sl_for (fun j _ => flightZ c Z (st ⟨k.val, hk⟩ + cn ⟨k.val, hk⟩) (padN (cn ⟨k.val, hk⟩)) (hs ⟨k.val, hk⟩) (g k.val) (g (k.val + 1)) j) $$ [HF]
  case region =>
    intro j acc
    refine fill_step c Z i h1 arg3 harg3 arg4 harg4 (hn ⟨k.val, hk⟩) (hs ⟨k.val, hk⟩) ?hv ?hw ?w1 ?w2 0#32 1#32 k (hcopy ⟨k.val, hk⟩) j
    case hv => exact (cnt_read T1 k.val hk (k0_off1_eq k) _ _).trans (hT1 _)
    case hw => exact (beg_read T2 k.val hk (k0_off1_eq k) _ _).trans (hT2 _)
    case w1 => exact chk1_of i ((cnt_read T1 k.val hk (k0_off1_eq k) _ _).trans (hT1 _)) (hn _)
    case w2 => exact chk2_of i ((cnt_read T1 k.val hk (k0_off1_eq k) _ _).trans (hT1 _)) ((beg_read T2 k.val hk (k0_off1_eq k) _ _).trans (hT2 _)) (hn _) (hs _)
  · iexact HF
  iintro %acc HF
  ihave HF := (flightZ_stop c Z _ _ (hs ⟨k.val, hk⟩) (g k.val) (g (k.val + 1)) ?hj) $$ HF
  case hj =>
    refine t2_trips' ?_ (hn _)
    exact (cnt_read T1 k.val hk (k0_off1_eq k) _ _).trans (hT1 _)
  ihave HD := (flightZ_drain c Z _ _ (hs ⟨k.val, hk⟩) (g k.val) (g (k.val + 1))) $$ [HF HO]
  · isplitl [HF]; · iexact HF
    iexact HO
  sl_exec
  sl_for (fun j _ => drain c padSem (heldZ c Z (st ⟨k.val, hk⟩ + cn ⟨k.val, hk⟩) (padN (cn ⟨k.val, hk⟩)) (hs ⟨k.val, hk⟩) (g (k.val + 1))) j) $$ [HD]
  case region =>
    intro j acc
    refine fillwait_step c i h1 arg3 harg3 arg4 harg4 (hn ⟨k.val, hk⟩) ?hv ?w1 ?w2 j
    case hv => exact (cnt_read T1 k.val hk (k0_off1_eq k) _ _).trans (hT1 _)
  · iexact HD
  iintro %acc3 HD
  sl_exec
  sl_step
  ihave HD := (drainZ_end c Z _ _ (hs ⟨k.val, hk⟩) (g (k.val + 1)) ?hj) $$ HD
  case hj =>
    refine t4_trips' ?_ (hn _)
    exact (cnt_read T1 k.val hk (k0_off1_eq k) _ _).trans (hT1 _)
  icases HD with ⟨HO, HV, Hrows, Htoks⟩
  isplitl [Hrows Hrest]
  · iapply (rows_give c _ hrow hinj (g k.val) (g (k.val + 1)) (hkeep ⟨k.val, hk⟩))
    isplitl [Hrows]; · iexact Hrows
    iexact Hrest
  isplitl [H1]; · iexact H1
  isplitl [H2]; · iexact H2
  isplitl [Htoks Hback]
  · iapply Hback; iexact Htoks
  isplitl [HV]; · iexact HV
  iexact HO

end Steps

end Cert.Dispatch
-- ==== Proof.Body.lean ====
/-
  Hand-written, untrusted. One grid point of the dispatch, whole: at the first the padding, then the copies.
-/
module

public import proofs.«01_k».proof.Proof.Copies
public import proofs.«01_k».proof.Proof.Pads
public import Idealize.ShloMosaic.Lib.WritesUnit

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tile of zeros. -/
abbrev zeroTile : S8x128.Idx → Elt F .f32 := k0_pay1 (F := F)

/-- The element of the tile that row elements at `y` take. -/
abbrev tileAt (Z : S8x128.Idx → Elt F .f32) (y : S143360x8x128.Idx) : Elt F .f32 := Z (fun | ⟨0, _⟩ => y 1 | ⟨1, _⟩ => y 2)

open Classical in
/-- The result with the padding rows of the first `n` experts at zero. -/
def zeroTo (cn st : Fin 32 → ℕ) (f : S143360x8x128.Idx → Elt F .f32) (n : ℕ) : S143360x8x128.Idx → Elt F .f32 := fun y =>
  if ∃ e : Fin 32, e.val < n ∧ st e + cn e ≤ (y 0).val ∧ (y 0).val < st e + cn e + padN (cn e) then tileAt zeroTile y else f y

open Classical in
/-- The result with the rows of one grid point's copies at their tokens. -/
def putRows (W : S2048.Idx → BitVec 32) (X : S512x8x128.Idx → Elt F .f32) (f : S143360x8x128.Idx → Elt F .f32) : S143360x8x128.Idx → Elt F .f32 := fun y =>
  if h : ∃ a : Fin 2048, (y 0).val = dwOf W a then X (at3 (⟨h.choose.val / 4, quarter h.choose⟩ : Fin 512) (y 1) (y 2)) else f y

theorem putRows_hit {W : S2048.Idx → BitVec 32} (hinj : Function.Injective (dwOf W)) (X : S512x8x128.Idx → Elt F .f32) (f : S143360x8x128.Idx → Elt F .f32)
    (a : Fin 2048) (y : S143360x8x128.Idx) (hy : (y 0).val = dwOf W a) : putRows W X f y = X (at3 (⟨a.val / 4, quarter a⟩ : Fin 512) (y 1) (y 2)) := by
  have h : ∃ a : Fin 2048, (y 0).val = dwOf W a := ⟨a, hy⟩
  have e : h.choose = a := hinj (h.choose_spec.symm.trans hy)
  unfold putRows
  rw [dif_pos h]
  exact congrArg (fun b : Fin 2048 => X (at3 (⟨b.val / 4, quarter b⟩ : Fin 512) (y 1) (y 2))) e

theorem putRows_miss {W : S2048.Idx → BitVec 32} (X : S512x8x128.Idx → Elt F .f32) (f : S143360x8x128.Idx → Elt F .f32)
    (y : S143360x8x128.Idx) (hy : ∀ a, (y 0).val ≠ dwOf W a) : putRows W X f y = f y := by
  unfold putRows
  rw [dif_neg fun ⟨a, h⟩ => hy a h]

theorem zeroTo_hit (cn st : Fin 32 → ℕ) (f : S143360x8x128.Idx → Elt F .f32) (e : Fin 32) (a : Fin (padN (cn e))) (y : S143360x8x128.Idx)
    (hy : (y 0).val = padRow (st e + cn e) (padN (cn e)) a) : zeroTo cn st f (e.val + 1) y = tileAt zeroTile y := by
  have ha := a.isLt
  unfold padRow at hy
  unfold zeroTo
  rw [if_pos ⟨e, by omega, by omega, by omega⟩]

theorem zeroTo_keep (cn st : Fin 32 → ℕ) (f : S143360x8x128.Idx → Elt F .f32) (e : Fin 32) (y : S143360x8x128.Idx)
    (hy : ∀ a : Fin (padN (cn e)), (y 0).val ≠ padRow (st e + cn e) (padN (cn e)) a) : zeroTo cn st f (e.val + 1) y = zeroTo cn st f e.val y := by
  unfold zeroTo
  refine if_congr ⟨?_, ?_⟩ rfl rfl
  · rintro ⟨e', he, h1, h2⟩
    refine ⟨e', ?_, h1, h2⟩
    rcases Nat.lt_or_ge e'.val e.val with h | h
    · exact h
    · have e0 : e' = e := Fin.ext (by omega)
      subst e0
      exact absurd (show (y 0).val = padRow (st e' + cn e') (padN (cn e')) ⟨(y 0).val - (st e' + cn e'), by omega⟩ by unfold padRow; dsimp only; omega) (hy _)
  · rintro ⟨e', he, h1, h2⟩
    exact ⟨e', by omega, h1, h2⟩

theorem zeroTo_zero (cn st : Fin 32 → ℕ) (f : S143360x8x128.Idx → Elt F .f32) : zeroTo cn st f 0 = f := by
  funext y
  unfold zeroTo
  rw [if_neg]
  rintro ⟨e, h, -⟩; omega

variable (c : Dev nD) (i : grid0.Coords)
  (arg3 : Memref sig .tc .smem S2048 .i32) (harg3 : arg3.IsWhole) (arg4 : Memref sig .tc .vmem S512x8x128 .f32) (harg4 : arg4.IsWhole)
  (W : S2048.Idx → BitVec 32) (X : S512x8x128.Idx → Elt F .f32)

/-- What the body is given beside the two staged blocks, and hands back. -/
def bodySt (T1 T2 : S32.Idx → BitVec 32) (f : S143360x8x128.Idx → Elt F .f32) : sProp 𝕄 :=
  iprop(resPt c f ∗ cntPt c T1 ∗ begPt c T2 ∗ (∃ Z, tilePt c Z fullShare)
    ∗ semVal ((c : Thread nD τ), SemLoc.dma tokSem) 0 ∗ semVal ((c : Thread nD τ), SemLoc.dma padSem) 0)

open Classical in
/-- The result after the body. -/
def after1 (cn st : Fin 32 → ℕ) (f : S143360x8x128.Idx → Elt F .f32) : S143360x8x128.Idx → Elt F .f32 :=
  putRows W X (if k0_cond1 i = 1#1 then zeroTo cn st f 32 else f)

abbrev bodyProg : Prog (TpuEff nD τ sig (Elt F) Λ₀ .tc) PUnit :=
  cc0_dispatch (F := F) i (Memref.whole main_v39) (Memref.isWhole_whole _) (Memref.whole main_v10) (Memref.isWhole_whole _) arg3 harg3 arg4 harg4
    (Memref.whole main_v40) (Memref.isWhole_whole _) (Memref.whole cc0_scratch0) (Memref.isWhole_whole _) cc0_scratch1 cc0_scratch2

omit [FloatOps F] in
/-- A store of the whole tile leaves the payload. -/
theorem tile_store (Z : S8x128.Idx → Elt F .f32) (f : S8x128.Idx → Elt F .f32) :
    (Memref.whole cc0_scratch0 : Memref sig .tc .vmem S8x128 .f32).view.writes (Elt F) f
      [⟨Rect.unit ![0, 0] S8x128.size inb_S8x128_S8x128_0_0, Z⟩] = Z := by
  funext y
  exact View.read_writes_cons_unit_of_mem (Memref.whole cc0_scratch0 : Memref sig .tc .vmem S8x128 .f32).view f inb_S8x128_S8x128_0_0 Z [] y y rfl
    (fun a => match a with | ⟨0, _⟩ => (Nat.zero_add _).symm | ⟨1, _⟩ => (Nat.zero_add _).symm)

theorem t1_trips : Scf.trips k0_t1_loop.lb k0_t1_loop.ub k0_t1_loop.st = 32 := by decide +kernel

/-- Before the first expert the result holds what it held. -/
theorem padPre_zero (T1 T2 : S32.Idx → BitVec 32) (cn st : Fin 32 → ℕ) (f : S143360x8x128.Idx → Elt F .f32) :
    iprop(resPt c f ∗ cntPt c T1 ∗ begPt c T2 ∗ tilePt c (zeroTile (F := F)) fullShare ∗ semVal ((c : Thread nD τ), SemLoc.dma padSem) 0 ∗ ∃ O, owes (c : Thread nD τ) 0 O)
      ⊢ (padPre c (zeroTile (F := F)) T1 T2 (zeroTo cn st f 0) : sProp 𝕄) := by
  rw [zeroTo_zero]
  exact BIBase.Entails.rfl

set_option maxHeartbeats 4000000 in
theorem body_run (hdw : ∀ a, dwOf W a < 143360) (hinj : Function.Injective (dwOf W))
    {T1 T2 : S32.Idx → BitVec 32} {cn st : Fin 32 → ℕ} (hT1 : ∀ e, T1 (at32 e) = BitVec.ofNat 32 (cn e)) (hT2 : ∀ e, T2 (at32 e) = BitVec.ofNat 32 (st e))
    (hn : ∀ e, cn e ≤ 135168) (hs : ∀ e, st e + cn e + padN (cn e) ≤ 143360) (f : S143360x8x128.Idx → Elt F .f32) {Q : PUnit → sProp 𝕄} :
    iprop(bodySt c T1 T2 f ∗ owns (c : Thread nD τ) arg3 fullShare W ∗ owns (c : Thread nD τ) arg4 fullShare X ∗ (∃ O, owes (c : Thread nD τ) 0 O)
        ∗ (iprop(bodySt c T1 T2 (after1 i W X cn st f) ∗ owns (c : Thread nD τ) arg3 fullShare W ∗ owns (c : Thread nD τ) arg4 fullShare X ∗ ∃ O, owes (c : Thread nD τ) 0 O) -∗ Q ⟨⟩))
      ⊢ wp frame (wpE (defs₀ (F := F)) Variants.none (c : Thread nD τ) none) Set.univ (bodyProg (F := F) i arg3 harg3 arg4 harg4) Q := by
  unfold bodySt owns
  iintro ⟨⟨HR, HT1, HT2, ⟨%Z0, HZ⟩, HV, HV2⟩, ⟨%f3, %e3, H3⟩, ⟨%f4, %e4, H4⟩, HO, HQ⟩
  have e3' := harg3.eq_unread e3
  have e4' := harg4.eq_unread e4
  subst e3' e4'
  simp only [bodyProg, cc0_dispatch_eq_skeleton]
  unfold cc0_dispatch_skel
  rcases Classical.em (k0_cond1 i = 1#1) with h1 | h1
  · sl_exec
    rw [show (Memref.whole cc0_scratch0 : Memref sig .tc .vmem S8x128 .f32).view.writes (Elt F) (Memref.whole cc0_scratch0 : Memref sig .tc .vmem S8x128 .f32).view.junk body_run.sl.HZ_1 = zeroTile (F := F) from tile_store _ _]
    ihave HP := (padPre_zero c T1 T2 cn st f) $$ [HR HT1 HT2 HZ HV2 HO]
    · isplitl [HR]; · iexact HR
      isplitl [HT1]; · iexact HT1
      isplitl [HT2]; · iexact HT2
      isplitl [HZ]; · iexact HZ
      isplitl [HV2]; · iexact HV2
      iexact HO
    sl_for (fun k _ => padPre c (zeroTile (F := F)) T1 T2 (zeroTo cn st f k)) $$ [HP]
    case region =>
      intro k acc
      exact expert_step c (zeroTile (F := F)) i h1 arg3 harg3 arg4 harg4 hT1 hT2 hn hs (zeroTo cn st f) (zeroTo_hit cn st f) (zeroTo_keep cn st f) k
    · iexact HP
    iintro %acc HP
    rw [t1_trips]
    unfold padPre
    icases HP with ⟨HR, HT1, HT2, HZ, HV2, HO⟩
    iapply (copies_run c i arg3 harg3 arg4 harg4 W X hdw hinj (f := zeroTo cn st f 32) (f' := after1 i W X cn st f)
      (fun a y h => putRows_hit hinj X _ a y h) (fun y h => by unfold after1; rw [putRows_miss X _ y h, if_pos h1]))
    unfold pointPre
    isplitl [HR H3 H4 HV HO]
    · isplitl [HR]; · iexact HR
      isplitl [H3]; · iexact H3
      isplitl [H4]; · iexact H4
      isplitl [HV]; · iexact HV
      iexact HO
    iintro ⟨HR, H3, H4, HV, HO⟩
    iapply HQ
    isplitl [HR HT1 HT2 HZ HV HV2]
    · isplitl [HR]; · iexact HR
      isplitl [HT1]; · iexact HT1
      isplitl [HT2]; · iexact HT2
      isplitl [HZ]; · iexists _; iexact HZ
      isplitl [HV]; · iexact HV
      iexact HV2
    isplitl [H3]
    · iexists _; isplitr
      swap; · iexact H3
      ipureintro; exact e3
    isplitl [H4]
    · iexists _; isplitr
      swap; · iexact H4
      ipureintro; exact e4
    iexact HO
  · rw [dif_neg h1]
    iapply (copies_run c i arg3 harg3 arg4 harg4 W X hdw hinj (f := f) (f' := after1 i W X cn st f)
      (fun a y h => putRows_hit hinj X _ a y h) (fun y h => by unfold after1; rw [putRows_miss X _ y h, if_neg h1]))
    unfold pointPre
    isplitl [HR H3 H4 HV HO]
    · isplitl [HR]; · iexact HR
      isplitl [H3]; · iexact H3
      isplitl [H4]; · iexact H4
      isplitl [HV]; · iexact HV
      iexact HO
    iintro ⟨HR, H3, H4, HV, HO⟩
    iapply HQ
    isplitl [HR HT1 HT2 HZ HV HV2]
    · isplitl [HR]; · iexact HR
      isplitl [HT1]; · iexact HT1
      isplitl [HT2]; · iexact HT2
      isplitl [HZ]; · iexists _; iexact HZ
      isplitl [HV]; · iexact HV
      iexact HV2
    isplitl [H3]
    · iexists _; isplitr
      swap; · iexact H3
      ipureintro; exact e3
    isplitl [H4]
    · iexists _; isplitr
      swap; · iexact H4
      ipureintro; exact e4
    iexact HO

end Cert.Dispatch
-- ==== Proof.Launch.lean ====
/-
  Hand-written, untrusted. The launch of the dispatch: the run of the whole program, its result the recursion over the grid points.
-/
module

public import proofs.«01_k».proof.Proof.Body
public import Idealize.ShloMosaic.Lib.Pipeline.FrameValue
public import Idealize.ShloMosaic.Lib.Pipeline.FrameBody

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-! ## The host operations before the call -/

/-- The buffers when the call is entered. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem ops_fresh : (hostOps0 : List (HloOp τ sig (Elt F))).Forall fun op => op.fresh = ∅ := by repeat' constructor
theorem ops1_fresh : (hostOps0_1 : List (HloOp τ sig (Elt F))).Forall fun op => op.fresh = ∅ := by repeat' constructor
theorem ops2_fresh : (hostOps0_2 : List (HloOp τ sig (Elt F))).Forall fun op => op.fresh = ∅ := by repeat' constructor
theorem ops3_fresh : (hostOps0_3 : List (HloOp τ sig (Elt F))).Forall fun op => op.fresh = ∅ := by repeat' constructor
theorem ops4_fresh : (hostOps0_4 : List (HloOp τ sig (Elt F))).Forall fun op => op.fresh = ∅ := by repeat' constructor
theorem ops5_fresh : (hostOps0_5 : List (HloOp τ sig (Elt F))).Forall fun op => op.fresh = ∅ := by repeat' constructor

set_option maxHeartbeats 4000000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨ops_fresh, ops1_fresh, ops2_fresh, ops3_fresh, ops4_fresh, ops5_fresh⟩) main_chain

/-! ## The tables -/

def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

abbrev tabA : S32.Idx → BitVec 32 := tbl m (0 : Fin 2)
abbrev tabB : S32.Idx → BitVec 32 := tbl m (1 : Fin 2)

theorem tables_eq (c : Dev nD) : (Pipeline.ΦT pre0 (tbl m) c : sProp 𝕄) = iprop(cntPt c (tabA m) ∗ begPt c (tabB m)) := by
  unfold Pipeline.ΦT Pipeline.prefHeld
  rw [show (Finset.univ : Finset (Fin 2)) = insert (0 : Fin 2) {(1 : Fin 2)} from by decide, bigSep_insert (by decide), bigSep_singleton]
  unfold cntPt begPt
  rw [(Memref.isWhole_whole main_v39).set_eq_univ, (Memref.isWhole_whole main_v10).set_eq_univ]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The row words and the tokens of a grid point. -/
abbrev rowWords (c : Dev nD) (t : Fin (cfgM m).N) : S2048.Idx → BitVec 32 := iblk m c 0 t
abbrev tokVals (c : Dev nD) (t : Fin (cfgM m).N) : S512x8x128.Idx → Elt F .f32 := iblk m c 1 t

theorem before_of0 {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's own cells, and what it writes -/

abbrev osem0 : Fin 2 → SemLoc sig := fun j => (![SemLoc.dma 4, SemLoc.dma 5] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma tokSem) 0 ∗ semVal ((c : Thread nD τ), SemLoc.dma padSem) 0) := by
  rw [Pipeline.ownSems0_eq_of_list c osem0 [0, 1] (by decide) (by decide)]; rfl

def H0 : Finset (Ref sig .tc) := ∅
def R0 : Finset (Ref sig .tc) := {main_v40}
theorem H0_sub : H0 ⊆ Pipeline.restRefsP sig pre0 spec0 := Finset.empty_subset _
theorem R0_sub : R0 ⊆ Pipeline.restRefsP sig pre0 spec0 \ H0 := by decide

/-! ## The result, point by point -/

section Run
variable (cn st : Fin 32 → ℕ)

/-- What the result holds before grid point `n`. -/
def resAt (c : Dev nD) : ℕ → S143360x8x128.Idx → Elt F .f32
  | 0 => V m c main_v40
  | n + 1 => if h : n < (cfgM m).N then after1 (grid0.coords ⟨n, h⟩) (rowWords m c ⟨n, h⟩) (tokVals m c ⟨n, h⟩) cn st (resAt c n) else resAt c n

theorem resAt_succ (c : Dev nD) (t : Fin (cfgM m).N) :
    resAt m cn st c (t.val + 1) = after1 (grid0.coords t) (rowWords m c t) (tokVals m c t) cn st (resAt m cn st c t.val) := by
  rw [resAt, dif_pos t.isLt]

/-- The buffers the call leaves. -/
def G (c : Dev nD) (b : Ref sig .tc) : Buf (Elt F) ((c : Thread nD τ).loc b) :=
  if h : b = main_v40 then h ▸ (resAt m cn st c (cfgM m).N : Buf (Elt F) ((c : Thread nD τ).loc main_v40)) else V m c b

theorem G_res (c : Dev nD) : G m cn st c main_v40 = resAt m cn st c (cfgM m).N := by
  unfold G; rw [dif_pos rfl]

/-- The invariant between grid points. -/
def inv (c : Dev nD) (n : ℕ) : sProp 𝕄 :=
  iprop(bodySt c (tabA m) (tabB m) (resAt m cn st c n) ∗ ∃ r, prngReg c r)

theorem routed_eq (c : Dev nD) (W : (b : Ref sig .tc) → Buf (Elt F) ((c : Thread nD τ).loc b)) :
    (Pipeline.routed R0 c W : sProp 𝕄) = resPt c (W main_v40) := by
  unfold Pipeline.routed R0 resPt
  rw [bigSep_singleton, (Memref.isWhole_whole main_v40).set_eq_univ]

theorem inv_in (c : Dev nD) : iprop(Pipeline.ΦDRG osem0 spec0 H0 R0 (V m) (V m) c ∗ Pipeline.ΦT pre0 (tbl m) c) ⊢ (inv m cn st c 0 : sProp 𝕄) := by
  rw [Pipeline.ΦDRG_eq, scopedRest0_eq, ownSems_eq, tables_eq, routed_eq]
  unfold inv bodySt tilePt
  rw [(Memref.isWhole_whole cc0_scratch0).set_eq_univ]
  iintro ⟨⟨HZ, Hg, ⟨HV, HV2⟩, -, HR⟩, HA, HB⟩
  isplitr [Hg]
  · isplitl [HR]; · iexact HR
    isplitl [HA]; · iexact HA
    isplitl [HB]; · iexact HB
    isplitl [HZ]; · iexact HZ
    isplitl [HV]; · iexact HV
    iexact HV2
  iexact Hg

theorem inv_out (c : Dev nD) : (inv m cn st c (cfgM m).N : sProp 𝕄) ⊢ Pipeline.ΦDRG osem0 spec0 H0 R0 (V m) (G m cn st) c := by
  rw [Pipeline.ΦDRG_eq, scopedRest0_eq, ownSems_eq, routed_eq, G_res]
  unfold inv bodySt tilePt H0
  rw [(Memref.isWhole_whole cc0_scratch0).set_eq_univ, bigSep_empty]
  iintro ⟨⟨HR, HA, HB, HZ, HV, HV2⟩, Hg⟩
  isplitl [HZ]; · iexact HZ
  isplitl [Hg]; · iexact Hg
  isplitl [HV HV2]
  · isplitl [HV]; · iexact HV
    iexact HV2
  isplitr [HR]
  · iempintro
  iexact HR

/-! ## The proof data -/

def dats (_ : Fin 1) (c : Dev nD) : Dat τ (Elt F) Unit ℕ (Pipeline.UD sig nD τ) ℕ (cfgM m) c where
  A w := V m c (Pipeline.arrRef spec0 w)
  after w t := iblk m c w t
  Φ t := inv m cn st c t.val
  q _ := fullShare
  owed _ := 0

theorem A_eq (c : Dev nD) (w : Fin (cfgM m).W) : (dats m cn st 0 c).A w = V m c (Pipeline.arrRef spec0 w) := by
  dsimp only [dats]
theorem after_0 (c : Dev nD) (t : Fin (cfgM m).N) : (dats m cn st 0 c).after 0 t = iblk m c 0 t := by dsimp only [dats]
theorem after_1 (c : Dev nD) (t : Fin (cfgM m).N) : (dats m cn st 0 c).after 1 t = iblk m c 1 t := by dsimp only [dats]
theorem before_0 (c : Dev nD) (t : Fin (cfgM m).N) (d) : (dats m cn st 0 c).before 0 t d = iblk m c 0 t :=
  before_of0 m (dats m cn st 0 c) (A_eq m cn st c 0) (after_0 m cn st c) t d
theorem before_1 (c : Dev nD) (t : Fin (cfgM m).N) (d) : (dats m cn st 0 c).before 1 t d = iblk m c 1 t :=
  before_of1 m (dats m cn st 0 c) (A_eq m cn st c 1) (after_1 m cn st c) t d

abbrev stA (t : Fin (cfgM m).N) : Memref sig .tc .smem S2048 .i32 := spec0_0.stage ((cfgM m).slots t 0)
theorem stA_whole (t : Fin (cfgM m).N) : (stA m t).IsWhole := hstage0_0 (((cfgM m).slots t 0).cast nbuf0_0)
abbrev stB (t : Fin (cfgM m).N) : Memref sig .tc .vmem S512x8x128 .f32 := spec0_1.stage ((cfgM m).slots t 1)
theorem stB_whole (t : Fin (cfgM m).N) : (stB m t).IsWhole := hstage0_1 (((cfgM m).slots t 1).cast nbuf0_1)

def bodyPre (c : Dev nD) (t : Fin (cfgM m).N) : sProp 𝕄 :=
  iprop((dats m cn st 0 c).Φ t.castSucc ∗ (dats m cn st 0 c).owesAt () t.castSucc
    ∗ (∃ d, owns (c : Thread nD τ) (stA m t) fullShare ((dats m cn st 0 c).before 0 t d))
    ∗ (∃ d, owns (c : Thread nD τ) (stB m t) fullShare ((dats m cn st 0 c).before 1 t d)))
def bodyPost (c : Dev nD) (t : Fin (cfgM m).N) : sProp 𝕄 :=
  iprop((dats m cn st 0 c).Φ t.succ ∗ (dats m cn st 0 c).owesAt () t.succ
    ∗ owns (c : Thread nD τ) (stA m t) fullShare ((dats m cn st 0 c).after 0 t)
    ∗ owns (c : Thread nD τ) (stB m t) fullShare ((dats m cn st 0 c).after 1 t))

/-- What the launch asks of the contents: the tables are the counts and the starts, they fit, the rows of one point
    are in the result and distinct. -/
structure Good : Prop where
  cnt : ∀ e, tabA m (at32 e) = BitVec.ofNat 32 (cn e)
  beg : ∀ e, tabB m (at32 e) = BitVec.ofNat 32 (st e)
  cnt_le : ∀ e, cn e ≤ 135168
  fits : ∀ e, st e + cn e + padN (cn e) ≤ 143360
  row_lt : ∀ c t a, dwOf (rowWords m c t) a < 143360
  row_inj : ∀ c t, Function.Injective (dwOf (rowWords m c t))

theorem sound_body (hG : Good m cn st) (c : Dev nD) (t : Fin (cfgM m).N) :
    bodyPre m cn st c t ⊢ wp frame (wpE (defs₀ (F := F)) Variants.none c none) Set.univ
      (bodyProg (F := F) (grid0.coords t) (stA m t) (stA_whole m t) (stB m t) (stB_whole m t)) (fun _ => bodyPost m cn st c t) := by
  unfold bodyPre bodyPost
  rw [show (dats m cn st 0 c).Φ t.succ = inv m cn st c (t.val + 1) from rfl, show (dats m cn st 0 c).Φ t.castSucc = inv m cn st c t.val from rfl, after_0, after_1]
  simp only [before_0, before_1]
  unfold inv
  rw [resAt_succ]
  unfold Dat.owesAt Pipeline.owesWithin
  rw [show (dats m cn st 0 c).owed t.castSucc = 0 from rfl, show (dats m cn st 0 c).owed t.succ = 0 from rfl]
  iintro ⟨⟨HS, Hg⟩, ⟨%W, -, HW⟩, ⟨%d0, H0⟩, ⟨%d1, H1⟩⟩
  iapply (body_run c (grid0.coords t) (stA m t) (stA_whole m t) (stB m t) (stB_whole m t) (rowWords m c t) (tokVals m c t)
    (hG.row_lt c t) (hG.row_inj c t) hG.cnt hG.beg hG.cnt_le hG.fits (resAt m cn st c t.val))
  isplitl [HS]; · iexact HS
  isplitl [H0]; · iexact H0
  isplitl [H1]; · iexact H1
  isplitl [HW]; · iexists W; iexact HW
  iintro ⟨HS, H0, H1, ⟨%W', HW'⟩⟩
  isplitl [HS Hg]
  · isplitl [HS]; · iexact HS
    iexact Hg
  isplitl [HW']
  · iexists W'; isplitr; · ipureintro; exact fun _ _ => Or.inl trivial
    iexact HW'
  isplitl [H0]; · iexact H0
  iexact H1

theorem defs₀_row (t : Fin (cfgM m).N) :
    defs₀ (F := F) .tc (cfgM m).body ((cfgM m).bodyArgs t ((cfgM m).slots t))
      = bodyProg (F := F) (grid0.coords t) (stA m t) (stA_whole m t) (stB m t) (stB_whole m t) := by
  unfold defs₀; rw [Defs.onTc_tc]

theorem body_obligation (hG : Good m cn st) (c : Dev nD) : BodyObligation (dats (F := F) m cn st 0 c) (defs₀ (F := F)) Variants.none () Set.univ := fun t => by
  rw [bigSep_W0, bigSep_W0, defs₀_row]
  exact triple_restated (sound_body m cn st hG c t) rfl .rfl fun _ => .rfl

/-! ## The run -/

set_option backward.isDefEq.respectTransparency.types false in
theorem run_main (hG : Good m cn st) : θ_run defs (onTc (τ := τ) (main (F := F))) (s₀ m ρ)
    (fun r => Pipeline.FramePostRG (Pipeline.pin pcfgs fun _ => adm m) (dats m cn st) 0 R0 (V m) (G m cn st) r ∧ r.2.sem = fun _ => 0) :=
  Pipeline.θ_run_frameP_dmaRG (Q' := _) pcfgs (fun _ => adm m) (dats m cn st) (0 : Fin 1) launch0 osem0 defs₀ Variants.none ownSemFacts0 H0 R0 H0_sub R0_sub m ρ main
    (hbody := fun c => (body_obligation m cn st hG c).loose) (hshare := fun c => (dats m cn st 0 c).share_full fun _ => rfl)
    (howed := fun _ _ => rfl) (V := V m) (hmain := hmain m Variants.none) (hA := A_eq m cn st) (hpf := V_pre m) (G := G m cn st)
    (hin := inv_in m cn st) (hout := inv_out m cn st)

end Run

end Cert.Dispatch
-- ==== Proof.Entry.lean ====
/-
  Hand-written, untrusted. The buffers when the call is entered, read as terms over the arguments.
-/
module

public import proofs.«01_k».proof.Proof.Launch
public import Idealize.ShloMosaic.Lib.Routing.Model
public import Idealize.ShloMosaic.Lib.StableHlo.RunRead

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Routing
variable (m : (ℓ : Loc nD τ sig) → Buf (Elt F) ℓ) (c : Dev nD)

/-- The counts as words. -/
abbrev counts32 : IVec S32 32 := fptosi 32 (shapeCast S32 (m ((c : Thread nD τ).loc main_arg0) : FVec F S1x32 .f32) shapeCasts_S1x32_S32)
/-- The blocks of each expert. -/
abbrev blocks32 : IVec S32 32 := pyDiv bcast_S_S32 (subi (addi (counts32 m c) (broadcastInDim S32 ![] bcast_S_S32 (constantI S_ 32 256#32)))
    (broadcastInDim S32 ![] bcast_S_S32 (constantI S_ 32 1#32))) (constantI S_ 32 256#32)
/-- The first row of each expert. -/
abbrev starts32 : IVec S32 32 := muli (subi (Host.reduceWindow IntOp.addi ![32] ![1] ![31] ![0] (blocks32 m c) (broadcastInDim S_ ![] bcast_S_S_ (constantI S_ 32 0#32))
    reduceWindows_S32_S32_w32s1p31_0 h_S_) (blocks32 m c)) (broadcastInDim S32 ![] bcast_S_S32 (constantI S_ 32 256#32))

theorem V_counts : V m c main_v39 = counts32 m c := by
  unfold V
  simp only [List.flatten_cons, List.flatten_nil, List.append_nil, List.cons_append, List.nil_append]
  after_reads_simp
  rfl
theorem V_starts : V m c main_v10 = starts32 m c := by
  unfold V
  simp only [List.flatten_cons, List.flatten_nil, List.append_nil, List.cons_append, List.nil_append]
  after_reads_simp
  simp -implicitDefEqProofs only [StableHlo.TRef.toBuf, StableHlo.TRef.ofBuf, cast_cast, cast_eq]
  rfl
/-- The start of each assignment's expert, picked by comparing with every expert. -/
abbrev picked : IVec S33792x4x32 32 :=
  select (cmpi .eq (broadcastInDim S33792x4x32 ![0, 1, 2] bcast_S33792x4x1_S33792x4x32_0_1_2
        (broadcastInDim S33792x4x1 ![0, 1] bcast_S33792x4_S33792x4x1_0_1 (m ((c : Thread nD τ).loc main_arg1) : IVec S33792x4 32)))
      (broadcastInDim S33792x4x32 ![0, 1, 2] bcast_S1x1x32_S33792x4x32_0_1_2 (broadcastInDim S1x1x32 ![2] bcast_S32_S1x1x32_2 (iotaInDim S32 32 0))))
    (broadcastInDim S33792x4x32 ![0, 1, 2] bcast_S1x1x32_S33792x4x32_0_1_2 (broadcastInDim S1x1x32 ![2] bcast_S32_S1x1x32_2 (starts32 m c)))
    (broadcastInDim S33792x4x32 ![] bcast_S_S33792x4x32 (constantI S_ 32 0#32))
/-- The row of each assignment. -/
abbrev dest32 : IVec S135168 32 :=
  shapeCast S135168 (addi (Host.reduce IntOp.addi (picked m c) (constantI S_ 32 0#32) reducesTo_S33792x4x32_S33792x4_d2 h_S_)
    (m ((c : Thread nD τ).loc main_arg2) : IVec S33792x4 32)) shapeCasts_S33792x4_S135168
theorem V_dest : V m c main_v37 = dest32 m c := by
  unfold V
  simp only [List.flatten_cons, List.flatten_nil, List.append_nil, List.cons_append, List.nil_append]
  after_reads_simp
  simp -implicitDefEqProofs only [StableHlo.TRef.toBuf, StableHlo.TRef.ofBuf, cast_cast, cast_eq]
  rfl
theorem V_arg3 : V m c main_arg3 = m ((c : Thread nD τ).loc main_arg3) := by
  unfold V
  simp only [List.flatten_cons, List.flatten_nil, List.append_nil, List.cons_append, List.nil_append]
  after_reads_simp

end Cert.Dispatch
-- ==== Proof.KernelValue.lean ====
/-
  Hand-written, untrusted. What the dispatch leaves in the rows of its result: each assigned row its token, each padding row zeros.
-/
module

public import proofs.«01_k».proof.Proof.Launch
public import proofs.«01_k».proof.Proof.Counting

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- What the host operations before the call hand to it, for the expert numbers `e` of the assignments. -/
structure Routed (e : ℕ → ℕ) : Prop where
  lt : ∀ a, a < 135168 → e a < 32
  cntW : ∀ k : Fin 32, tabA m (at32 k) = BitVec.ofNat 32 (cnt 135168 e k.val)
  begW : ∀ k : Fin 32, tabB m (at32 k) = BitVec.ofNat 32 (start 135168 e k.val)
  row : ∀ (c : Dev nD) (t : Fin (cfgM m).N) (a : Fin 2048), dwOf (rowWords m c t) a = dst 135168 e (2048 * t.val + a.val)
  tok : ∀ (c : Dev nD) (t : Fin (cfgM m).N) (k : Fin 512) (y : Fin 8) (z : Fin 128) (r : Fin 33792), r.val = 512 * t.val + k.val →
    tokVals m c t (at3 k y z) = V m c main_arg3 (at3 r y z)

theorem points : (cfgM m).N = 66 := rfl
theorem first_point : ∀ t : Fin 66, k0_cond1 (grid0.coords t) = 1#1 ↔ t.val = 0 := by decide +kernel

theorem start_32 (e : ℕ → ℕ) : start 135168 e 32 ≤ 143328 := start_le 32

variable {m} {e : ℕ → ℕ}

theorem routed_good (h : Routed m e) : Good m (fun k => cnt 135168 e k.val) (fun k => start 135168 e k.val) where
  cnt := h.cntW
  beg := h.begW
  cnt_le k := cnt_le _
  fits k := by
    have h1 := start_succ (N := 135168) (e := e) k.val
    have h2 := start_mono (N := 135168) (e := e) (show k.val + 1 ≤ 32 from k.isLt)
    have h3 := start_32 e
    have h4 := blk_eq (cnt 135168 e k.val)
    omega
  row_lt c t a := by
    rw [h.row]
    have ht : t.val < 66 := t.isLt
    have ha : 2048 * t.val + a.val < 135168 := by have := a.isLt; omega
    have h1 := dst_lt ha (h.lt _ ha)
    have h3 := start_32 e
    omega
  row_inj c t a b hab := by
    rw [h.row, h.row] at hab
    have ht : t.val < 66 := t.isLt
    have := dst_inj (N := 135168) (by have := a.isLt; omega) (by have := b.isLt; omega) hab
    exact Fin.ext (by omega)

abbrev res (m : (ℓ : Loc nD τ sig) → Buf (Elt F) ℓ) (e : ℕ → ℕ) (c : Dev nD) (n : ℕ) : S143360x8x128.Idx → Elt F .f32 :=
  resAt m (fun k => cnt 135168 e k.val) (fun k => start 135168 e k.val) c n

theorem res_spec (h : Routed m e) (c : Dev nD) (y : S143360x8x128.Idx) (n : ℕ) (hn : n ≤ 66) :
    (∀ (a : ℕ) (r : Fin 33792), a < 2048 * n → r.val = a / 4 → (y 0).val = dst 135168 e a → res m e c n y = V m c main_arg3 (at3 r (y 1) (y 2)))
    ∧ (0 < n → ∀ k, k < 32 → start 135168 e k + cnt 135168 e k ≤ (y 0).val → (y 0).val < start 135168 e (k + 1) →
        res m e c n y = tileAt zeroTile y) := by
  induction n with
  | zero => exact ⟨fun a r h0 => absurd h0 (by omega), fun h0 => absurd h0 (by omega)⟩
  | succ n ih =>
    obtain ⟨ih1, ih2⟩ := ih (by omega)
    have hs := resAt_succ m (fun k => cnt 135168 e k.val) (fun k => start 135168 e k.val) c ⟨n, by rw [points]; omega⟩
    have hc := first_point ⟨n, lt_of_lt_of_eq (show n < 66 by omega) (points m).symm⟩
    have hrow := h.row c ⟨n, by rw [points]; omega⟩
    have htok := h.tok c ⟨n, by rw [points]; omega⟩
    dsimp only at hs hc hrow htok
    have hinj := (routed_good h).row_inj c ⟨n, by rw [points]; omega⟩
    unfold res
    rw [hs]
    unfold after1
    constructor
    · intro a r ha hr hy
      by_cases hlt : 2048 * n ≤ a
      · rw [putRows_hit hinj _ _ ⟨a - 2048 * n, by omega⟩ y (by rw [hrow]; dsimp only; rw [show 2048 * n + (a - 2048 * n) = a by omega]; exact hy)]
        exact htok _ _ _ r (by dsimp only; omega)
      · rw [putRows_miss]
        · split_ifs with hh
          · have := hc.mp hh; omega
          exact ih1 a r (by omega) hr hy
        · intro b hb
          rw [hrow, hy] at hb
          have := b.isLt
          have := dst_inj (N := 135168) (by omega) (by omega) hb
          omega
    · intro _ k hk h1 h2
      rw [putRows_miss]
      · by_cases h0 : n = 0
        · split_ifs with hh
          swap; · exact absurd (hc.mpr h0) hh
          unfold zeroTo
          rw [if_pos]
          refine ⟨⟨k, hk⟩, hk, h1, ?_⟩
          have h4 := blk_eq (cnt 135168 e k)
          rw [start_succ] at h2
          dsimp only
          omega
        · split_ifs with hh
          · exact absurd (hc.mp hh) h0
          exact ih2 (by omega) k hk h1 h2
      · intro b hb
        rw [hrow] at hb
        have := b.isLt
        exact miss h1 h2 (a := 2048 * n + b.val) (by omega) hb.symm

end Cert.Dispatch
-- ==== Proof.Prefix.lean ====
/-
  Hand-written, untrusted. From the precondition to what the host operations hand to the call.
-/
module

public import proofs.«01_k».proof.Proof.Starts
public import proofs.«01_k».proof.Proof.Entry
public import proofs.«01_k».proof.Proof.KernelValue

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Routing Idealize.ShloMosaic.ValueIdx Idealize.ShloMosaic.WordCmp
open Idealize.ShloMosaic.Pipeline (Dat BodyObligation)

variable (m : (ℓ : Loc nD τ sig) → Buf (Elt F) ℓ) (c : Dev nD)

/-! ## The words -/

abbrev experts : ℕ → ℕ := expert (m ((c : Thread nD τ).loc main_arg1) : IVec S33792x4 32)
abbrev Args : Prop := Decoded (m ((c : Thread nD τ).loc main_arg0) : FVec F S1x32 .f32) (m ((c : Thread nD τ).loc main_arg1) : IVec S33792x4 32)
  (m ((c : Thread nD τ).loc main_arg2) : IVec S33792x4 32)

variable {m} {c}

theorem counts_ap (h : Args m c) (k : Fin 32) : counts32 m c (ix1 k) = BitVec.ofNat 32 (cnt 135168 (experts m c) k.val) := h.count _ k

theorem starts_ap (h : Args m c) (k : Fin 32) : starts32 m c (ix1 k) = BitVec.ofNat 32 (start 135168 (experts m c) k.val) :=
  starts_mul bcast_S_S32 _ (fun k => blocks_ap bcast_S_S32 _ (counts_ap h) k) _ (bc0 _ _ _) _ _ k

theorem lift_last (h : (shape3 33792 4 32).Reduces [2] (shape2 33792 4)) (p : Fin 33792) (q : Fin 4) (k : Fin 32) : h.lift (ix2 p q) k = ix3 p q k := by
  funext a; apply Fin.ext
  fin_cases a <;> rfl

theorem last_reduce : (shape3 33792 4 32).Reduces [2] (shape2 33792 4) := by decide

theorem bc_tok {α : Type} (x : S33792x4.Idx → α) (p : Fin 33792) (q : Fin 4) (k : Fin 32) :
    broadcastInDim S33792x4x32 ![0, 1, 2] bcast_S33792x4x1_S33792x4x32_0_1_2 (broadcastInDim S33792x4x1 ![0, 1] bcast_S33792x4_S33792x4x1_0_1 x) (ix3 p q k) = x (ix2 p q) := by
  refine (broadcastInDim_apply _ _ _ (ix3 p q k) (ix3 p q (0 : Fin 1)) (by intro a; fin_cases a <;> rfl)).trans ?_
  exact broadcastInDim_apply _ _ _ (ix3 p q (0 : Fin 1)) (ix2 p q) (by intro a; fin_cases a <;> rfl)

theorem bc_exp {α : Type} (x : S32.Idx → α) (p : Fin 33792) (q : Fin 4) (k : Fin 32) :
    broadcastInDim S33792x4x32 ![0, 1, 2] bcast_S1x1x32_S33792x4x32_0_1_2 (broadcastInDim S1x1x32 ![2] bcast_S32_S1x1x32_2 x) (ix3 p q k) = x (ix1 k) := by
  refine (broadcastInDim_apply _ _ _ (ix3 p q k) (ix3 (0 : Fin 1) (0 : Fin 1) k) (by intro a; fin_cases a <;> rfl)).trans ?_
  exact broadcastInDim_apply _ _ _ (ix3 (0 : Fin 1) (0 : Fin 1) k) (ix1 k) (by intro a; fin_cases a <;> rfl)

theorem picked_ap (h : Args m c) (p : Fin 135168) (k : Fin 32) :
    picked m c (ix3 (⟨p.val / 4, by omega⟩ : Fin 33792) (⟨p.val % 4, by omega⟩ : Fin 4) k)
      = if k = ⟨experts m c p.val, h.lt _ p.isLt⟩ then BitVec.ofNat 32 (start 135168 (experts m c) (experts m c p.val)) else 0 := by
  unfold picked
  rw [select_at, cmpi_at, bc_tok, bc_exp, bc_exp, bc0, constantI_at, iota1_ap, starts_ap h]
  have he : (m ((c : Thread nD τ).loc main_arg1) : IVec S33792x4 32) (ix2 (⟨p.val / 4, by omega⟩ : Fin 33792) (⟨p.val % 4, by omega⟩ : Fin 4))
      = BitVec.ofNat 32 (experts m c p.val) := by
    unfold experts expert
    rw [dif_pos p.isLt]
    exact eq_word _
  rw [he]
  have hlt := h.lt _ p.isLt
  have hk := k.isLt
  by_cases hek : experts m c p.val = k.val
  · rw [if_pos (Fin.ext hek.symm), hek, StableHlo.Predicate.cmpi_eq_iff.mpr rfl]; rfl
  · rw [if_neg (fun e => hek (congrArg Fin.val e).symm)]
    have : IntOp.cmpi .eq (BitVec.ofNat 32 (experts m c p.val)) (BitVec.ofNat 32 k.val) = 0#1 := by
      rcases BitVec.eq_zero_or_eq_one (IntOp.cmpi .eq (BitVec.ofNat 32 (experts m c p.val)) (BitVec.ofNat 32 k.val)) with h0 | h1
      · exact h0
      · have := (word_eq_iff _ _ (by omega)).mp (StableHlo.Predicate.cmpi_eq_iff.mp h1)
        rw [BitVec.toNat_ofNat] at this
        have hx : experts m c p.val < 32 := hlt
        omega
    rw [this]; rfl

theorem dest_ap (h : Args m c) (p : Fin 135168) : dest32 m c (ix1 p) = BitVec.ofNat 32 (dst 135168 (experts m c) p.val) := by
  refine (flat_ap _ _ p).trans ?_
  rw [addi_ap, host_sum _ (constantI S_ 32 0#32) _ last_reduce _ (by intro; rfl), h.rank]
  unfold dst
  rw [BitVec.ofNat_add]
  refine congrArg (· + _) ?_
  refine (Finset.sum_congr rfl fun k _ => (congrArg _ (lift_last _ _ _ k)).trans (picked_ap h p k)).trans ?_
  exact (Finset.sum_ite_eq' Finset.univ _ _).trans (if_pos (Finset.mem_univ _))

/-! ## The blocks -/

theorem index_0 : ∀ t : Fin 66, cc0_transform_0 (grid0.coords t) 0 = t.val := by decide +kernel
theorem index_1 : ∀ t : Fin 66, cc0_transform_1 (grid0.coords t) 0 = t.val ∧ cc0_transform_1 (grid0.coords t) 1 = 0 ∧ cc0_transform_1 (grid0.coords t) 2 = 0 := by decide +kernel

theorem rows_at (t : Fin (cfgM m).N) (a : Fin 2048) (p : Fin 135168) (hp : p.val = 2048 * t.val + a.val) : rowWords m c t (at1 a) = V m c main_v37 (ix1 p) := by
  show (V m c main_v37) ((((cfgM m).win 0).rect t).emb (at1 a)) = _
  congr 1
  funext ax
  apply Fin.ext
  refine (Pipeline.Window.rect_emb_val _ t (at1 a) ax).trans ?_
  fin_cases ax
  show cc0_transform_0 (grid0.coords t) 0 * 2048 + a.val = p.val
  rw [index_0 t]; omega

theorem toks_at (t : Fin (cfgM m).N) (k : Fin 512) (y : Fin 8) (z : Fin 128) (r : Fin 33792) (hr : r.val = 512 * t.val + k.val) :
    tokVals m c t (at3 k y z) = V m c main_arg3 (at3 r y z) := by
  show (V m c main_arg3) ((((cfgM m).win 1).rect t).emb (at3 k y z)) = _
  congr 1
  obtain ⟨h0, h1, h2⟩ := index_1 t
  funext ax
  apply Fin.ext
  refine (Pipeline.Window.rect_emb_val _ t (at3 k y z) ax).trans ?_
  fin_cases ax
  · show cc0_transform_1 (grid0.coords t) 0 * 512 + k.val = r.val
    rw [h0]; omega
  · show cc0_transform_1 (grid0.coords t) 1 * 8 + y.val = y.val
    rw [h1]; omega
  · show cc0_transform_1 (grid0.coords t) 2 * 128 + z.val = z.val
    rw [h2]; omega

theorem at32_ix (k : Fin 32) : at32 k = ix1 k := by funext a; fin_cases a; rfl

theorem routed (h : ∀ c, Args m c) : Routed m (experts m 0) where
  lt := (h 0).lt
  cntW k := (congrFun (V_counts m 0) _).trans ((congrArg _ (at32_ix k)).trans (counts_ap (h 0) k))
  begW k := (congrFun (V_starts m 0) _).trans ((congrArg _ (at32_ix k)).trans (starts_ap (h 0) k))
  row c t a := by
    obtain rfl : c = 0 := Subsingleton.elim _ _
    have ht : t.val < 66 := t.isLt
    have ha := a.isLt
    have hp : 2048 * t.val + a.val < 135168 := by omega
    show (rowWords m 0 t (at1 a)).toNat = _
    rw [rows_at t a ⟨_, hp⟩ rfl, V_dest, dest_ap (h 0), BitVec.toNat_ofNat]
    have h1 := dst_lt hp ((h 0).lt _ hp)
    have h2 := start_32 (experts m 0)
    exact Nat.mod_eq_of_lt (lt_trans h1 (lt_of_le_of_lt h2 (by norm_num)))
  tok c t k y z r hr := toks_at t k y z r hr

end Cert.Dispatch
-- ==== Proof.Run.lean ====
/-
  Hand-written, untrusted. The run of the dispatch under its precondition: the arguments as they were, the result the recursion over the grid points.
-/
module

public import proofs.«01_k».proof.Proof.Prefix

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

theorem V_arg0 (c : Dev nD) : V m c main_arg0 = m ((c : Thread nD τ).loc main_arg0) := by
  unfold V
  simp only [List.flatten_cons, List.flatten_nil, List.append_nil, List.cons_append, List.nil_append]
  after_reads_simp
theorem V_arg1 (c : Dev nD) : V m c main_arg1 = m ((c : Thread nD τ).loc main_arg1) := by
  unfold V
  simp only [List.flatten_cons, List.flatten_nil, List.append_nil, List.cons_append, List.nil_append]
  after_reads_simp
theorem V_arg2 (c : Dev nD) : V m c main_arg2 = m ((c : Thread nD τ).loc main_arg2) := by
  unfold V
  simp only [List.flatten_cons, List.flatten_nil, List.append_nil, List.cons_append, List.nil_append]
  after_reads_simp

theorem rest_0 : main_arg0 ∈ Pipeline.restRefs sig spec0 \ R0 := by
  exact Finset.mem_sdiff.mpr ⟨Pipeline.mem_restRefs_of main_arg0 (by decide) (by decide), by decide⟩
theorem rest_1 : main_arg1 ∈ Pipeline.restRefs sig spec0 \ R0 := by
  exact Finset.mem_sdiff.mpr ⟨Pipeline.mem_restRefs_of main_arg1 (by decide) (by decide), by decide⟩
theorem rest_2 : main_arg2 ∈ Pipeline.restRefs sig spec0 \ R0 := by
  exact Finset.mem_sdiff.mpr ⟨Pipeline.mem_restRefs_of main_arg2 (by decide) (by decide), by decide⟩

theorem kernel_run (h : ∀ c, Args m c) : θ_run defs (onTc (τ := τ) (main (F := F))) ⟨m, fun _ => 0, ρ⟩ (fun r =>
    (∀ c : Dev nD, r.2.mem ((c : Thread nD τ).loc main_v40) = res m (experts m 0) c 66
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run defs _ _).mono (fun r hr => ⟨fun c => ?_, hr.2⟩) (run_main m ρ _ _ (routed_good (routed h)))
  obtain ⟨⟨hR, hG⟩, -⟩ := hr
  refine ⟨(hG c main_v40 (by decide)).trans (G_res m _ _ c), ?_, ?_, ?_, ?_⟩
  · exact ((hR c).2 main_arg0 rest_0).trans (V_arg0 m c)
  · exact ((hR c).2 main_arg1 rest_1).trans (V_arg1 m c)
  · exact ((hR c).2 main_arg2 rest_2).trans (V_arg2 m c)
  · refine ((hR c).1 1).trans ((Dat.arrAt_in _ 1 rfl _).trans ((A_eq m _ _ c 1).trans (V_arg3 m c)))

end Cert.Dispatch
-- ==== Proof.SortOrder.lean ====
/-
  Hand-written, untrusted. The stable sort of positions by a key: the place of a position.
-/
module

public import proofs.«01_k».proof.Proof.Counting
public import Idealize.ShloMosaic.Lib.PlanTiles.StableSort
public import Idealize.ShloMosaic.Lib.Routing.SortLink

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Routing Idealize.ShloMosaic.ValueIdx

/-- The position that a stable sort by `e` puts at each place. -/
abbrev ordered (n : ℕ) (e : ℕ → ℕ) : Fin n → Fin n := sortedFrom fun a b : Fin n => decide (e a.val < e b.val)

theorem ordered_lt {n : ℕ} (e : ℕ → ℕ) {B : ℕ} (hB : ∀ a : Fin n, e a.val < B) {i j : Fin n} (hij : i < j) :
    e (ordered n e i).val < e (ordered n e j).val ∨ (e (ordered n e i).val = e (ordered n e j).val ∧ ordered n e i < ordered n e j) := by
  have hR : (fun a b : Fin n => decide (e a.val < e b.val)) = fun a b => decide (B - e b.val < B - e a.val) := by
    funext a b
    have ha := hB a
    have hb := hB b
    exact decide_eq_decide.mpr (by omega)
  have hp := List.pairwise_iff_get.mp (PlanTiles.pairwise_stableSort_lex (fun a : Fin n => B - e a.val) (· < ·) (List.finRange n) (List.pairwise_lt_finRange n))
  have h : PlanTiles.Lex (fun a : Fin n => B - e a.val) (· < ·) (ordered n e i) (ordered n e j) := by
    unfold ordered
    rw [hR]
    unfold sortedFrom sortPositions
    exact hp _ _ (by simp only [Fin.lt_def, Fin.val_cast]; exact hij)
  have hi := hB (ordered n e i)
  have hj := hB (ordered n e j)
  rcases h with h | ⟨h, h'⟩
  · have h : B - e (ordered n e j).val < B - e (ordered n e i).val := h
    exact Or.inl (by omega)
  · have h : B - e (ordered n e i).val = B - e (ordered n e j).val := h
    exact Or.inr ⟨by omega, h'⟩

theorem ordered_key {n : ℕ} (e : ℕ → ℕ) {B : ℕ} (hB : ∀ a : Fin n, e a.val < B) {i j : Fin n} (hij : i < j) :
    e (ordered n e i).val * n + (ordered n e i).val < e (ordered n e j).val * n + (ordered n e j).val := by
  rcases ordered_lt e hB hij with h | ⟨h, h'⟩
  · have h1 := (ordered n e i).isLt
    have h2 : (e (ordered n e i).val + 1) * n ≤ e (ordered n e j).val * n := Nat.mul_le_mul_right _ h
    rw [Nat.add_mul, Nat.one_mul] at h2
    omega
  · rw [h]; exact Nat.add_lt_add_left h' _

/-- The place of a position is the number of positions before it. -/
theorem ordered_place {n : ℕ} (e : ℕ → ℕ) {B : ℕ} (hB : ∀ a : Fin n, e a.val < B) (j : Fin n) :
    Nat.count (fun b => e b * n + b < e (ordered n e j).val * n + (ordered n e j).val) n = j.val := by
  classical
  have himg : (Finset.range n).filter (fun b => e b * n + b < e (ordered n e j).val * n + (ordered n e j).val)
      = (Finset.Iio j).image fun i => (ordered n e i).val := by
    ext b
    rw [Finset.mem_filter, Finset.mem_range, Finset.mem_image]
    constructor
    · rintro ⟨hb, hlt⟩
      obtain ⟨i, hi⟩ := sortedFrom_surjective (fun a b : Fin n => decide (e a.val < e b.val)) ⟨b, hb⟩
      have hv : (ordered n e i).val = b := congrArg Fin.val hi
      refine ⟨i, Finset.mem_Iio.mpr ?_, hv⟩
      rw [← hv] at hlt
      rcases lt_trichotomy i j with h | h | h
      · exact h
      · rw [h] at hlt; exact absurd hlt (lt_irrefl _)
      · exact absurd (ordered_key e hB h) (Nat.lt_asymm hlt)
    · rintro ⟨i, hi, rfl⟩
      exact ⟨(ordered n e i).isLt, ordered_key e hB (Finset.mem_Iio.mp hi)⟩
  rw [Nat.count_eq_card_filter_range, himg, Finset.card_image_of_injective, Fin.card_Iio]
  intro a b h
  exact sortedFrom_injective _ (Fin.ext h)

/-- A stable sort of an index table by a word key. -/
theorem sort_read {n : ℕ} (cmp : BitVec 32 × BitVec 32 → BitVec 32 × BitVec 32 → BitVec 1) (hcmp : ∀ a b, cmp a b = IntOp.cmpi .slt a.1 b.1)
    (x y : IVec (shape1 n) 32) (e : ℕ → ℕ) (he : ∀ a : Fin n, x (ix1 a) = BitVec.ofNat 32 (e a.val)) (hlt : ∀ a : Fin n, e a.val < 2 ^ 31) (r : Fin n) :
    (Host.sort2 (shape1 n) 0 cmp x y).2 (ix1 r) = y (ix1 (ordered n e r)) := by
  have hd : 0 < (shape1 n).rank := Nat.zero_lt_one
  have al : ∀ (j : (shape1 n).Idx) (c : Fin n), j.along (⟨0, hd⟩ : Fin (shape1 n).rank) c = ix1 c := fun j c =>
    (Shape.Idx.along_rank1 j c).trans (ofFin_eq_ix1 c)
  have hbefore : (fun a b : Fin n => cmp (x ((ix1 r).along ⟨0, hd⟩ a), y ((ix1 r).along ⟨0, hd⟩ a)) (x ((ix1 r).along ⟨0, hd⟩ b), y ((ix1 r).along ⟨0, hd⟩ b)) == 1#1)
      = fun a b => decide (e a.val < e b.val) := by
    funext a b
    rw [hcmp]
    have ha : x ((ix1 r).along (⟨0, hd⟩ : Fin (shape1 n).rank) a) = BitVec.ofNat 32 (e a.val) := (congrArg x (al _ a)).trans (he a)
    have hb : x ((ix1 r).along (⟨0, hd⟩ : Fin (shape1 n).rank) b) = BitVec.ofNat 32 (e b.val) := (congrArg x (al _ b)).trans (he b)
    show (IntOp.cmpi .slt (x ((ix1 r).along ⟨0, hd⟩ a)) (x ((ix1 r).along ⟨0, hd⟩ b)) == 1#1) = _
    rw [ha, hb]
    unfold IntOp.cmpi
    have := slt_ofNat32 (hlt a) (hlt b)
    simp only [this]
    by_cases h : e a.val < e b.val <;> simp [h]
  have hsrc : sortedFrom (n := n) (fun a b : Fin n => cmp (x ((ix1 r).along ⟨0, hd⟩ a), y ((ix1 r).along ⟨0, hd⟩ a)) (x ((ix1 r).along ⟨0, hd⟩ b), y ((ix1 r).along ⟨0, hd⟩ b)) == 1#1) r
      = ordered n e r := congrArg (fun R => sortedFrom R r) hbefore
  unfold Host.sort2
  rw [dif_pos hd]
  exact (congrArg (fun c : Fin n => y ((ix1 r).along ⟨0, hd⟩ c)) hsrc).trans (congrArg y (al _ _))

variable {e : ℕ → ℕ}

/-- The row of the position at place `j`, from the starts of its expert among the sorted and among the padded. -/
theorem dst_ordered (n : ℕ) {B : ℕ} (hB : ∀ a : Fin n, e a.val < B) (j : Fin n) :
    start n e (e (ordered n e j).val) + (j.val - ∑ i ∈ Finset.range (e (ordered n e j).val), cnt n e i) = dst n e (ordered n e j).val
      ∧ ∑ i ∈ Finset.range (e (ordered n e j).val), cnt n e i ≤ j.val := by
  have h := (ordered_place e hB j).symm.trans (sorted_place (N := n) (e := e) (ordered n e j).isLt)
  unfold dst
  omega

end Cert.Dispatch
-- ==== Proof.RefTables.lean ====
/-
  Hand-written, untrusted. The tables of the reference, entry by entry: the sorted assignments, the counts, the starts, the rows, the token of each row.
-/
module

public import proofs.«01_k».proof.Proof.SortOrder
public import proofs.«01_k».proof.Proof.Starts
public import proofs.«01_k».proof.Proof.Gen.ReferenceIdeal.Run
public import Idealize.ShloMosaic.Lib.Routing.OpsSearch

@[expose] public section

set_option maxRecDepth 16384

noncomputable section

namespace Cert.Dispatch

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Routing Idealize.ShloMosaic.ValueIdx Idealize.ShloMosaic.WordCmp

variable (V0 : Valuation τ sig (Elt F))

/-- The expert of each assignment. -/
abbrev exR : ℕ → ℕ := expert (V0 (Proc.devRef .tc main_arg1) : IVec S33792x4 32)
/-- The assignment at each place of the sorted order. -/
abbrev orR : Fin 135168 → Fin 135168 := ordered 135168 (exR V0)

/-! ## Index tables with the negative wrapped -/

theorem wrapped_ap {n : ℕ} (hb0 : shape0.BroadcastsInDim (shape1 n) (![] : Fin 0 → Fin (shape1 n).rank))
    (hb1 : (shape1 n).BroadcastsInDim (shape2 n 1) (![0] : Fin 1 → Fin (shape2 n 1).rank)) (x : IVec (shape1 n) 32) (w : BitVec 32)
    (p : Fin n) (g : ℕ) (hx : x (ix1 p) = BitVec.ofNat 32 g) (hg : g < 2 ^ 31) :
    broadcastInDim (shape2 n 1) ![0] hb1 (select (cmpi .slt x (broadcastInDim (shape1 n) ![] hb0 (constantI shape0 32 0#32)))
      (addi x (broadcastInDim (shape1 n) ![] hb0 (constantI shape0 32 w))) x) (ix2 p (0 : Fin 1)) = BitVec.ofNat 32 g := by
  rw [bcCol, select_at, cmpi_at, bc0, constantI_at, hx]
  refine wrap_of_lt _ _ ?_
  rw [BitVec.toNat_ofNat, Nat.mod_eq_of_lt (by omega)]
  exact hg

theorem fin_of_lt {n a : ℕ} (h : a < n) : ∃ k : Fin n, a = k.val := ⟨⟨a, h⟩, rfl⟩

/-! ## Where an update lands -/

theorem lands_at {N M : ℕ} (d : ScatterDims (shape1 N) (shape2 M 1) (shape1 M)) (hwin : ∀ i, d.window (ix1 i) 0 = 0)
    (hstart : ∀ idx : IVec (shape2 M 1) 32, ∀ i, d.start (ix1 i) idx 0 = (idx (ix2 i (0 : Fin 1))).toInt)
    (idx : IVec (shape2 M 1) 32) (g : ℕ → ℕ) (hg : ∀ i : Fin M, idx (ix2 i (0 : Fin 1)) = BitVec.ofNat 32 (g i.val)) (hlt : ∀ i : Fin M, g i.val < 2 ^ 31)
    (i : Fin M) (x : Fin N) : d.resultIdx? (ix1 i) idx = some (ix1 x) ↔ g i.val = x.val := by
  rw [resultIdx?_ix1, hstart, hwin, hg, StableHlo.Predicate.toInt_ofNat_small _ (hlt i)]
  omega

/-- The start of a window along the one scattered axis is the index read signed. -/
theorem start_at {N M : ℕ} (d : ScatterDims (shape1 N) (shape2 M 1) (shape1 M)) (hm : (0 : Fin 1) ∈ d.scatterDimsToOperandDims)
    (hivd : d.indexVectorDim = 1) (hsd : d.scatterDimsToOperandDims = [0]) (idx : IVec (shape2 M 1) 32) (i : Fin M) :
    d.start (ix1 i) idx 0 = (idx (ix2 i (0 : Fin 1))).toInt := by
  unfold ScatterDims.start
  rw [dif_pos hm]
  refine congrArg (fun z => (idx z).toInt) (funext fun b => ?_)
  match b with
  | ⟨0, _⟩ =>
    unfold ScatterDims.siIdx
    rw [dif_neg (by rw [hivd]; exact Nat.zero_ne_one)]
    refine Fin.ext ?_
    unfold ScatterDims.siCoord
    simp only [Fin.val_cast]
    have e : ∀ a : Fin 1, ((ix1 i : (shape1 M).Idx) a).val = i.val := fun a => by fin_cases a; rfl
    exact e _
  | ⟨1, _⟩ => exact Fin.ext (Nat.lt_one_iff.1 (Fin.isLt _))

/-- Ones added at their indices: how many of them land. -/
theorem ones_ap {N M : ℕ} (d : ScatterDims (shape1 N) (shape2 M 1) (shape1 M)) (hwin : ∀ i, d.window (ix1 i) 0 = 0)
    (hstart : ∀ idx : IVec (shape2 M 1) 32, ∀ i, d.start (ix1 i) idx 0 = (idx (ix2 i (0 : Fin 1))).toInt) (x0 : IVec (shape1 N) 32) (hx0 : ∀ i, x0 i = 0#32)
    (idx : IVec (shape2 M 1) 32) (g : ℕ → ℕ) (hg : ∀ i : Fin M, idx (ix2 i (0 : Fin 1)) = BitVec.ofNat 32 (g i.val)) (hlt : ∀ i : Fin M, g i.val < 2 ^ 31)
    (upd : IVec (shape1 M) 32) (hupd : ∀ i, upd i = 1#32) (x : Fin N) :
    Host.scatter d IntOp.addi x0 idx upd (ix1 x) = BitVec.ofNat 32 (cnt M g x.val) := by
  rw [scatter_at, hx0]
  have key : ∀ l : List (Fin (shape1 M).numel), ∀ z : ℕ,
      l.foldl (fun a n => if d.resultIdx? ((shape1 M).rowMajor.symm n) idx = some (ix1 x) then IntOp.addi a (upd ((shape1 M).rowMajor.symm n)) else a) (BitVec.ofNat 32 z)
        = BitVec.ofNat 32 (z + l.countP fun n => decide (g n.val = x.val)) := by
    intro l
    induction l with
    | nil => intro z; rfl
    | cons n l ih =>
      intro z
      have hl := lands_at d hwin hstart idx g hg hlt (n.cast (numel1 M)) x
      rw [← symm1] at hl
      change _ ↔ g n.val = x.val at hl
      rw [List.foldl_cons, List.countP_cons, hupd]
      by_cases h : g n.val = x.val
      · rw [if_pos (hl.mpr h)]
        have e1 : IntOp.addi (BitVec.ofNat 32 z) 1#32 = BitVec.ofNat 32 (z + 1) := (BitVec.ofNat_add z 1).symm
        rw [e1, ih, if_pos (decide_eq_true h)]
        congr 1; omega
      · rw [if_neg fun h' => h (hl.mp h'), ih, if_neg (by simpa using h), Nat.add_zero]
  refine (key _ 0).trans ?_
  rw [Nat.zero_add, countP_finRange _ (fun i => g i = x.val), numel1]
  rfl

/-! ## The sorted assignments -/

variable {V0} (hlt : ∀ p, p < 135168 → exR V0 p < 32)
include hlt

theorem v1_ap (p : Fin 135168) : res_main_v1 V0 (ix1 p) = BitVec.ofNat 32 (exR V0 p.val) := by
  unfold res_main_v1
  exact (eq_word _).trans (congrArg _ (expert_word _ _ p))

theorem exR_lt (p : Fin 135168) : exR V0 p.val < 2 ^ 31 := lt_trans (hlt _ p.isLt) (by norm_num)

theorem v5_ap (p : Fin 135168) : res_main_v5 V0 (ix1 p) = BitVec.ofNat 32 (orR V0 p).val := by
  unfold res_main_v5 res_main_call0_v0
  refine (sort_read comparator_i32_i32_d0 (fun _ _ => rfl) _ _ (exR V0) (v1_ap hlt) (exR_lt hlt) p).trans ?_
  exact iota1_ap _

theorem pos_lt (p : Fin 135168) : (orR V0 p).val < 2 ^ 31 := lt_trans (orR V0 p).isLt (by norm_num)

theorem v12_ap (p : Fin 135168) : res_main_v12 V0 (ix1 p) = BitVec.ofNat 32 (exR V0 (orR V0 p).val) := by
  unfold res_main_v12
  refine (gather_take1 _ rfl rfl rfl rfl _ _ p (orR V0 p) ?_ (by norm_num)).trans (v1_ap hlt _)
  exact wrapped_ap _ _ _ _ p _ (v5_ap hlt p) (pos_lt hlt p)

/-! ## The counts and the starts -/

theorem v21_ap (p : Fin 135168) : res_main_v21 V0 (ix1 p) = BitVec.ofNat 32 (exR V0 p.val) := by
  unfold res_main_v21
  show IntOp.maxsi (broadcastInDim S135168 ![] bcast_S_S135168 (id (constantI S_ 32 0#32)) (ix1 p)) (res_main_v1 V0 (ix1 p)) = _
  rw [v1_ap hlt, bc0]
  exact maxsi_zero_left (exR_lt hlt p)

theorem v29_ap (k : Fin 32) : res_main_v29 V0 (ix1 k) = BitVec.ofNat 32 (cnt 135168 (exR V0) k.val) := by
  unfold res_main_v29
  refine ones_ap _ (fun i => rfl) (fun idx i => start_at _ (by decide) rfl rfl idx i) _ (fun i => bc0 _ _ _) _ (exR V0) (fun i => ?_) (exR_lt hlt) _ (fun i => bc0 _ _ _) k
  exact wrapped_ap _ _ _ _ i _ (v21_ap hlt i) (exR_lt hlt i)

theorem v38_ap (k : Fin 32) : res_main_v38 V0 (ix1 k) = BitVec.ofNat 32 (blk (cnt 135168 (exR V0) k.val)) := by
  unfold res_main_v38 res_main_call3_v2 res_main_call3_v0 res_main_v35
  exact blks_ap bcast_S_S32 _ (fun k => blocks_ap bcast_S_S32 _ (v29_ap hlt) k) k

theorem v57_ap (p : Fin 135168) : res_main_v57 V0 (ix1 p) = BitVec.ofNat 32 (dst 135168 (exR V0) (orR V0 p).val) := by
  obtain ⟨k, hk⟩ : ∃ k : Fin 32, exR V0 (orR V0 p).val = k.val := fin_of_lt (hlt (orR V0 p).val (orR V0 p).isLt)
  have hw : broadcastInDim S135168x1 ![0] bcast_S135168_S135168x1_0 (select (cmpi .slt (res_main_v12 V0) (broadcastInDim S135168 ![] bcast_S_S135168 (constantI S_ 32 0#32)))
      (addi (res_main_v12 V0) (broadcastInDim S135168 ![] bcast_S_S135168 (constantI S_ 32 32#32))) (res_main_v12 V0)) (ix2 p (0 : Fin 1))
      = BitVec.ofNat 32 k.val := (wrapped_ap _ _ _ _ p _ (v12_ap hlt p) (exR_lt hlt _)).trans (congrArg _ hk)
  unfold res_main_v57
  refine (congrArg₂ IntOp.addi
    ((gather_take1 _ rfl rfl rfl rfl _ _ p k hw (by norm_num)).trans (sums_before _ (fun i => blk (cnt 135168 (exR V0) i)) (v38_ap hlt) _ (bc0 _ _ _) _ _ k))
    (congrArg₂ IntOp.subi (iota1_ap p)
      ((gather_take1 _ rfl rfl rfl rfl _ _ p k hw (by norm_num)).trans (sums_before _ (cnt 135168 (exR V0)) (v29_ap hlt) _ (bc0 _ _ _) _ _ k)))).trans ?_
  obtain ⟨h1, h2⟩ := dst_ordered 135168 (e := exR V0) (B := 32) (fun a => hlt _ a.isLt) p
  rw [← h1, BitVec.ofNat_add, hk]
  rw [hk] at h2
  refine congrArg (BitVec.ofNat 32 (start 135168 (exR V0) k.val) + ·) ?_
  refine (show IntOp.subi _ _ = BitVec.ofNat 32 p.val - BitVec.ofNat 32 (∑ i ∈ Finset.range k.val, cnt 135168 (exR V0) i) from rfl).trans ?_
  apply BitVec.eq_of_toNat_eq
  have hp := p.isLt
  rw [BitVec.toNat_sub]
  simp only [BitVec.toNat_ofNat]
  omega

/-! ## The token of each row -/

theorem tok_ap (p : Fin 135168) :
    (shapeCast S135168 (broadcastInDim S33792x4 ![0] bcast_S33792_S33792x4_0 (iotaInDim S33792 32 0)) shapeCasts_S33792x4_S135168) (ix1 p) = BitVec.ofNat 32 (p.val / 4) := by
  refine (flat_ap _ _ p).trans ?_
  refine (broadcastInDim_apply _ _ _ (ix2 (⟨p.val / 4, by omega⟩ : Fin 33792) (⟨p.val % 4, by omega⟩ : Fin 4)) (ix1 (⟨p.val / 4, by omega⟩ : Fin 33792)) (by intro a; fin_cases a; rfl)).trans ?_
  exact iota1_ap _

theorem dst_small (p : Fin 135168) : dst 135168 (exR V0) p.val < 143360 := by
  have h1 := dst_lt (e := exR V0) p.isLt (hlt _ p.isLt)
  have h2 := start_le (N := 135168) (e := exR V0) 32
  omega

theorem lands_row (idx : IVec S135168x1 32) (hidx : ∀ i : Fin 135168, idx (ix2 i (0 : Fin 1)) = BitVec.ofNat 32 (dst 135168 (exR V0) (orR V0 i).val)) (i : Fin 135168) (y : Fin 143360) :
    scatter_S143360_S135168x1_S135168_n_0_0_1.resultIdx? (ix1 i) idx = some (ix1 y) ↔ dst 135168 (exR V0) (orR V0 i).val = y.val := by
  rw [resultIdx?_ix1, show scatter_S143360_S135168x1_S135168_n_0_0_1.start (ix1 i) idx 0 = (idx (ix2 i (0 : Fin 1))).toInt from start_at _ (by decide) rfl rfl idx i,
    show scatter_S143360_S135168x1_S135168_n_0_0_1.window (ix1 i) 0 = 0 from rfl, hidx,
    StableHlo.Predicate.toInt_ofNat_small _ (lt_trans (dst_small hlt (orR V0 i)) (by norm_num))]
  omega

theorem v65_hit (a : Fin 135168) (y : Fin 143360) (hy : y.val = dst 135168 (exR V0) a.val) : res_main_v65 V0 (ix1 y) = BitVec.ofNat 32 (a.val / 4) := by
  obtain ⟨i, hi⟩ := sortedFrom_surjective (fun a b : Fin 135168 => decide (exR V0 a.val < exR V0 b.val)) a
  have hi : orR V0 i = a := hi
  unfold res_main_v65
  refine scatter_set_hit _ _ _ _ (ix1 y) _ (fun k hk => ?_) (ix1 i) ((lands_row hlt _ (fun j => wrapped_ap _ _ _ _ j _ (v57_ap hlt j) (lt_trans (dst_small hlt _) (by norm_num))) i y).mpr (by rw [hi, hy]))
  rw [eq_ix1 k] at hk ⊢
  have h := (lands_row hlt _ (fun j => wrapped_ap _ _ _ _ j _ (v57_ap hlt j) (lt_trans (dst_small hlt _) (by norm_num))) (k 0) y).mp hk
  have hka : (orR V0 (k 0)).val = a.val := dst_inj (orR V0 (k 0)).isLt a.isLt (h.trans hy)
  refine (gather_take1 _ rfl rfl rfl rfl _ _ (k 0) (orR V0 (k 0)) (wrapped_ap _ _ _ _ _ _ (v5_ap hlt _) (pos_lt hlt _)) (by norm_num)).trans ?_
  rw [← hka]
  exact tok_ap hlt _

theorem v65_miss (y : Fin 143360) (hy : ∀ a : Fin 135168, dst 135168 (exR V0) a.val ≠ y.val) : res_main_v65 V0 (ix1 y) = BitVec.ofNat 32 33792 := by
  unfold res_main_v65
  refine (scatter_set_miss _ _ _ _ (ix1 y) fun k hk => ?_).trans (bc0 _ _ _)
  rw [eq_ix1 k] at hk
  exact hy _ ((lands_row hlt _ (fun j => wrapped_ap _ _ _ _ j _ (v57_ap hlt j) (lt_trans (dst_small hlt _) (by norm_num))) (k 0) y).mp hk)

end Cert.Dispatch
-- ==== Proof.RefValue.lean ====
/-
  Hand-written, untrusted. The result of the reference, entry by entry, and the rows the claim speaks of.
-/
module

public import proofs.«01_k».proof.Proof.RefTables
public import proofs.«01_k».proof.On_in_used_blocks

@[expose] public section

set_option maxRecDepth 16384

noncomputable section

namespace Cert.Dispatch

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Routing Idealize.ShloMosaic.ValueIdx Idealize.ShloMosaic.WordCmp

variable (V0 : Valuation τ sig (Elt F))

/-- What the reference leaves, as a term over the arguments. -/
abbrev refOut : FVec F S143360x8x128 .f32 :=
  shapeCast _ (Host.gather gather_S33793x1024_S143360x1_S143360x1024_1_0_n_n_0_1_11024 (concatenate S33793x1024 0 [⟨S33792x1024, (shapeCast _ (V0 (Proc.devRef .tc main_arg3)) shapeCasts_S33792x8x128_S33792x1024)⟩, ⟨S1x1024, (broadcastInDim S1x1024 ![] bcast_S_S1x1024 (constant S_ .f32 0x00000000#32))⟩] concatenates_S33792x1024_S1x1024_S33793x1024_d0) (broadcastInDim S143360x1 ![0] bcast_S143360_S143360x1_0 (select (cmpi .slt (res_main_v65 V0) (broadcastInDim S143360 ![] bcast_S_S143360 (constantI S_ 32 0#32))) (addi (res_main_v65 V0) (broadcastInDim S143360 ![] bcast_S_S143360 (constantI S_ 32 33793#32))) (res_main_v65 V0)))) shapeCasts_S143360x1024_S143360x8x128

/-- Columns split in two axes. -/
theorem split_cols {α : Type} {a b c n : ℕ} (x : (shape2 a n).Idx → α) (h : (shape2 a n).ShapeCasts (shape3 a b c)) (hn : n = b * c)
    (i : Fin a) (j : Fin b) (l : Fin c) (p : Fin n) (hp : p.val = j.val * c + l.val) : shapeCast (shape3 a b c) x h (ix3 i j l) = x (ix2 i p) := by
  refine shapeCast_apply x h _ _ ?_
  rw [Shape.rowMajor_val_two, Shape.rowMajor_val_three]
  show i.val * n + p.val = (i.val * b + j.val) * c + l.val
  rw [hp, hn]; ring

/-- One table on top of another: a row of the first. -/
theorem cat_top {α : Type} {a b c n : ℕ} (x₁ : (shape2 a n).Idx → α) (x₂ : (shape2 b n).Idx → α) (h : Shape.Concatenates [shape2 a n, shape2 b n] (shape2 c n) 0)
    (i : Fin c) (r : Fin a) (hr : i.val = r.val) (p : Fin n) :
    concatenate (shape2 c n) 0 [⟨shape2 a n, x₁⟩, ⟨shape2 b n, x₂⟩] h (ix2 i p) = x₁ (ix2 r p) := by
  refine concatenate_pair_apply_left 0 x₁ x₂ h (ix2 i p) rfl (ix2 r p) ?_
  intro q
  fin_cases q
  · exact hr.symm
  · rfl

/-- One table on top of another: a row of the second. -/
theorem cat_low {α : Type} {a b c n : ℕ} (x₁ : (shape2 a n).Idx → α) (x₂ : (shape2 b n).Idx → α) (h : Shape.Concatenates [shape2 a n, shape2 b n] (shape2 c n) 0)
    (i : Fin c) (r : Fin b) (hr : i.val = a + r.val) (p : Fin n) :
    concatenate (shape2 c n) 0 [⟨shape2 a n, x₁⟩, ⟨shape2 b n, x₂⟩] h (ix2 i p) = x₂ (ix2 r p) := by
  refine concatenate_pair_apply_right 0 x₁ x₂ h (ix2 i p) rfl rfl (ix2 r p) ?_ ?_
  · intro q hq
    fin_cases q
    · exact absurd rfl hq
    · rfl
  · show r.val + a = i.val
    omega

variable {V0} (hlt : ∀ p, p < 135168 → exR V0 p < 32)

theorem ref_row (y : Fin 143360) (j : Fin 8) (l : Fin 128) (b : Fin 33793) (hb : res_main_v65 V0 (ix1 y) = BitVec.ofNat 32 b.val) (p : Fin 1024) (hp : p.val = j.val * 128 + l.val) :
    refOut V0 (ix3 y j l) = concatenate S33793x1024 0 [⟨S33792x1024, (shapeCast _ (V0 (Proc.devRef .tc main_arg3)) shapeCasts_S33792x8x128_S33792x1024)⟩, ⟨S1x1024, (broadcastInDim S1x1024 ![] bcast_S_S1x1024 (constant S_ .f32 0x00000000#32))⟩] concatenates_S33792x1024_S1x1024_S33793x1024_d0 (ix2 b p) := by
  refine (split_cols _ _ rfl y j l p hp).trans ?_
  refine gather_row _ rfl rfl rfl rfl rfl _ _ y p b ?_ (by norm_num)
  exact wrapped_ap _ _ _ _ y _ hb (lt_trans b.isLt (by norm_num))

include hlt in
theorem ref_hit (y : Fin 143360) (j : Fin 8) (l : Fin 128) (a : Fin 135168) (r : Fin 33792) (hr : r.val = a.val / 4) (hy : y.val = dst 135168 (exR V0) a.val) :
    refOut V0 (ix3 y j l) = (V0 (Proc.devRef .tc main_arg3) : FVec F S33792x8x128 .f32) (ix3 r j l) := by
  have hp : j.val * 128 + l.val < 1024 := by omega
  have hb : r.val < 33793 := by omega
  refine (ref_row y j l ⟨r.val, hb⟩ ((v65_hit hlt a y hy).trans (by rw [← hr])) ⟨_, hp⟩ rfl).trans ?_
  refine (cat_top _ _ _ _ r ?_ _).trans ?_
  · rfl
  exact cast32 _ _ rfl r j l _ rfl

include hlt in
theorem ref_miss (y : Fin 143360) (j : Fin 8) (l : Fin 128) (hy : ∀ a : Fin 135168, dst 135168 (exR V0) a.val ≠ y.val) :
    refOut V0 (ix3 y j l) = constant S_ .f32 0x00000000#32 ix0 := by
  have hp : j.val * 128 + l.val < 1024 := by omega
  obtain ⟨b, hb⟩ : ∃ b : Fin 33793, 33792 = b.val := fin_of_lt (by norm_num)
  refine (ref_row y j l b ((v65_miss hlt y hy).trans (congrArg _ hb)) ⟨_, hp⟩ rfl).trans ?_
  refine (cat_low _ _ _ _ (0 : Fin 1) (hb.symm.trans (Nat.add_zero 33792).symm) _).trans ?_
  exact bc0 _ _ _

/-! ## The rows the claim speaks of -/

theorem on_row [Cert.On_in_used_blocks.Facts] (x0 : FVec F S1x32 .f32) (x1 x2 : IVec S33792x4 32) (x3 : FVec F S33792x8x128 .f32) (h : Decoded x0 x1 x2)
    (i : S143360x8x128.Idx) (hi : Cert.On_in_used_blocks.fn x0 x1 x2 x3 i = 1#1) : (i 0).val < start 135168 (expert x1) 32 := by
  have hb := Cert.On_in_used_blocks.Facts.bcast_S_S32
  have hc := h.count Cert.On_in_used_blocks.Facts.shapeCasts_S1x32_S32
  have hs := sums_all _ (fun k => blk (cnt 135168 (expert x1) k)) (blks_ap hb _ (blocks_ap hb _ hc)) Cert.On_in_used_blocks.Facts.reducesTo_S32_S_d0 Cert.On_in_used_blocks.Facts.h_S_
  have h2 := start_le (N := 135168) (e := expert x1) 32
  have hi' : IntOp.cmpi .slt (BitVec.ofNat 32 (i 0).val) (BitVec.ofNat 32 (start 135168 (expert x1) 32)) = 1#1 := by
    refine Eq.trans ?_ hi
    refine congrArg₂ (IntOp.cmpi .slt) rfl ?_
    exact hs.symm.trans (bc0 _ _ _).symm
  have h0 : (i 0).val < 143360 := (i 0).isLt
  have h3 := slt_ofNat32 (a := (i 0).val) (b := start 135168 (expert x1) 32) (by omega) (by omega)
  by_contra hn
  rw [decide_eq_false hn] at h3
  have h4 : IntOp.cmpi .slt (BitVec.ofNat 32 (i 0).val) (BitVec.ofNat 32 (start 135168 (expert x1) 32)) = 0#1 := by
    show BitVec.ofBool ((BitVec.ofNat 32 (i 0).val).slt (BitVec.ofNat 32 (start 135168 (expert x1) 32))) = 0#1
    rw [h3]; rfl
  rw [h4] at hi'
  exact absurd hi' (by decide)

end Cert.Dispatch
-- ==== Proof.Agree.lean ====
/-
  Hand-written, untrusted. The run of the dispatch and the reference leave the same rows, wherever the claim speaks of them.
-/
module

public import proofs.«01_k».proof.Proof.Run
public import proofs.«01_k».proof.Proof.RefValue

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Routing Idealize.ShloMosaic.ValueIdx

variable (m : (ℓ : Loc nD τ sig) → Buf (Elt F) ℓ) (m' : (ℓ : Loc Cert.ReferenceIdeal.nD Cert.ReferenceIdeal.τ Cert.ReferenceIdeal.sig) → Buf (Elt F) ℓ)

theorem at3_ix {a b c : ℕ} (i : Fin a) (j : Fin b) (l : Fin c) : (at3 i j l : (shape3 a b c).Idx) = ix3 i j l := by
  funext q; fin_cases q <;> rfl

theorem agree [Cert.On_in_used_blocks.Facts] (hA : ∀ c, Args m c) (c : Dev nD)
    (h1 : m' ((c.tc : Thread Cert.ReferenceIdeal.nD Cert.ReferenceIdeal.τ).loc Cert.ReferenceIdeal.main_arg1) = m ((c.tc : Thread nD τ).loc main_arg1))
    (h3 : m' ((c.tc : Thread Cert.ReferenceIdeal.nD Cert.ReferenceIdeal.τ).loc Cert.ReferenceIdeal.main_arg3) = m ((c.tc : Thread nD τ).loc main_arg3))
    (i : S143360x8x128.Idx)
    (hi : Cert.On_in_used_blocks.fn (F := F) (m ((c.tc : Thread nD τ).loc main_arg0)) (m ((c.tc : Thread nD τ).loc main_arg1)) (m ((c.tc : Thread nD τ).loc main_arg2)) (m ((c.tc : Thread nD τ).loc main_arg3)) i = 1#1) :
    refOut (StableHlo.launchContents m' c) i = res m (experts m 0) c 66 i := by
  obtain rfl : c = 0 := Subsingleton.elim _ _
  have hrow := on_row _ _ _ _ (hA 0) i hi
  have he : exR (StableHlo.launchContents m' 0) = experts m 0 := congrArg expert h1
  have hlt : ∀ p, p < 135168 → exR (StableHlo.launchContents m' 0) p < 32 := by rw [he]; exact (hA 0).lt
  have h3' : (StableHlo.launchContents m' 0) (Proc.devRef .tc Cert.ReferenceIdeal.main_arg3) = m (((0 : Dev nD).tc : Thread nD τ).loc main_arg3) := h3
  have hi3 : i = ix3 (i 0) (i 1) (i 2) := by funext q; fin_cases q <;> rfl
  obtain ⟨k, hk, hk1, hk2⟩ := locate hrow
  obtain ⟨hs1, hs2⟩ := res_spec (routed hA) 0 i 66 le_rfl
  by_cases hin : (i 0).val < start 135168 (experts m 0) k + cnt 135168 (experts m 0) k
  · obtain ⟨a, ha, -, hd⟩ := hit hk1 hin
    have hr : a / 4 < 33792 := by omega
    rw [hs1 a ⟨a / 4, hr⟩ ha rfl hd.symm, V_arg3]
    refine (congrArg _ hi3).trans ((ref_hit hlt (i 0) (i 1) (i 2) ⟨a, ha⟩ ⟨a / 4, hr⟩ rfl ?_).trans ?_)
    · rw [he]; exact hd.symm
    · exact (congrFun h3' _).trans (congrArg _ (at3_ix _ _ _).symm)
  · rw [hs2 (by norm_num) k hk (not_lt.mp hin) hk2]
    refine (congrArg _ hi3).trans ((ref_miss hlt (i 0) (i 1) (i 2) fun a => ?_).trans rfl)
    rw [he]
    exact miss (not_lt.mp hin) hk2 a.isLt

end Cert.Dispatch
-- ==== Proof.ExpertBody.lean ====
/-
  Hand-written, untrusted. The body of the experts call at one grid point: in a used block it leaves the rows of the expert, elsewhere it touches nothing.
-/
module

public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Pipeline.Value
public import Idealize.ShloMosaic.Lib.Tactic

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The lanes of one chunk of a block of rows. -/
def chunk (X : S256x8x128.Idx → Elt F .f32) (s : Fin 8) : Vec F S256x1x128 .f32 := fun j => X (fun | ⟨0, _⟩ => j 0 | ⟨1, _⟩ => s | ⟨2, _⟩ => j 2)

/-- The rows of the block, from the staged blocks. -/
def blockOut (X : Vec F S256x8x128 .f32) (WU : Vec F S1x1024x2048 .bf16) (BU : Vec F S1x1x2048 .f32) (WD : Vec F S1x1024x1024 .bf16) (BD : Vec F S1x1x1024 .f32) :
    FVec F S256x1024 .f32 :=
  k0_pay8 (k0_pay6 (chunk X 0) (chunk X 1) (chunk X 2) (chunk X 3) (chunk X 4) (chunk X 5) (chunk X 6) (chunk X 7) WU BU)
    (k0_pay7 (chunk X 0) (chunk X 1) (chunk X 2) (chunk X 3) (chunk X 4) (chunk X 5) (chunk X 6) (chunk X 7) WU BU) WD BD

/-- The column of a row that a lane of a chunk holds. -/
def colOf (y : S256x8x128.Idx) : S256x1024.Idx := fun
  | ⟨0, _⟩ => (y 0 : Fin 256)
  | ⟨1, _⟩ => (⟨128 * (y 1).val + (y 2).val, by have h1 := (y 1).isLt; have h2 := (y 2).isLt; dsimp at h1 h2; show _ < 1024; omega⟩ : Fin 1024)

/-- The block as it is written: each chunk its lanes of the rows. -/
def outBlock (X : Vec F S256x8x128 .f32) (WU : Vec F S1x1024x2048 .bf16) (BU : Vec F S1x1x2048 .f32) (WD : Vec F S1x1024x1024 .bf16) (BD : Vec F S1x1x1024 .f32) :
    S256x8x128.Idx → Elt F .f32 := fun y => blockOut X WU BU WD BD (colOf y)

variable (c : Dev nD) (i : grid0.Coords)
  (arg3 : Memref sig .tc .vmem S256x8x128 .f32) (harg3 : arg3.IsWhole) (arg4 : Memref sig .tc .vmem S1x1024x2048 .bf16) (harg4 : arg4.IsWhole)
  (arg5 : Memref sig .tc .vmem S1x1x2048 .f32) (harg5 : arg5.IsWhole) (arg6 : Memref sig .tc .vmem S1x1024x1024 .bf16) (harg6 : arg6.IsWhole)
  (arg7 : Memref sig .tc .vmem S1x1x1024 .f32) (harg7 : arg7.IsWhole) (arg8 : Memref sig .tc .vmem S256x8x128 .f32) (harg8 : arg8.IsWhole)

abbrev bodyProg : Prog (TpuEff nD τ sig (Elt F) Λ₀ .tc) PUnit :=
  cc0_experts (F := F) i (Memref.whole main_v27) (Memref.isWhole_whole _) (Memref.whole main_v28) (Memref.isWhole_whole _) arg3 harg3 arg4 harg4
    arg5 harg5 arg6 harg6 arg7 harg7 arg8 harg8

/-- The table of the number of used blocks, held in part. -/
abbrev nvPt (T : S1.Idx → BitVec 32) : sProp 𝕄 :=
  iprop((Memref.whole main_v28).view.loc (c : Thread nD τ) ↦[(Memref.whole main_v28).view.set]{fullShare.right} T)

theorem ld_chunk (X : S256x8x128.Idx → Elt F .f32) (s : ℕ) (hs : s < 8) (hb : ∀ a, (![0, s, 0] : Fin 3 → Nat) a + S256x1x128.size a ≤ S256x8x128.size a) :
    View.ld X (Rect.unit (s := S256x8x128) ![0, s, 0] S256x1x128.size hb) = chunk X ⟨s, hs⟩ := by
  funext j
  unfold chunk View.ld
  refine congrArg X (funext fun a => Fin.ext ?_)
  match a with
  | ⟨0, _⟩ => show 0 + 1 * (j 0).val = (j 0).val; omega
  | ⟨1, _⟩ => show s + 1 * (j 1).val = s; have h := (j 1).isLt; have h' : (j 1).val < 1 := h; omega
  | ⟨2, _⟩ => show 0 + 1 * (j 2).val = (j 2).val; omega

/-- A row and a lane of a chunk. -/
def laneOf (x : S256x1x128.Idx) : S256x128.Idx := fun
  | ⟨0, _⟩ => (x 0 : Fin 256)
  | ⟨1, _⟩ => (x 2 : Fin 128)

/-- The lanes of one chunk of the rows, read off them. -/
theorem piece_ap (U : FVec F S256x1024 .f32) (s o : ℕ) (hs : s < 8) (ho : o = 128 * s) (h : S256x1024.Slices ![0, o] S256x128) (h' : S256x128.ShapeCasts S256x1x128)
    (hb : ∀ a, (![0, s, 0] : Fin 3 → Nat) a + S256x1x128.size a ≤ S256x8x128.size a) (x : S256x1x128.Idx) :
    shapeCast S256x1x128 (extractStridedSlice S256x128 ![0, o] U h) h' x = U (colOf ((Rect.unit (s := S256x8x128) ![0, s, 0] S256x1x128.size hb).emb x)) := by
  have h1 : (x 1).val = 0 := by have h : (x 1).val < 1 := (x 1).isLt; omega
  refine (shapeCast_apply _ _ x (laneOf x) ?_).trans ?_
  · rw [Shape.rowMajor_val_two, Shape.rowMajor_val_three]
    show (x 0).val * 128 + (x 2).val = ((x 0).val * 1 + (x 1).val) * 128 + (x 2).val
    omega
  · refine extractStridedSlice_apply _ _ _ _ _ fun a => ?_
    match a with
    | ⟨0, _⟩ => show 0 + 1 * (x 0).val = 0 + (x 0).val; omega
    | ⟨1, _⟩ => show 128 * (s + 1 * (x 1).val) + (0 + 1 * (x 2).val) = o + (x 2).val; omega

/-- The eight stores of the body, the last first. -/
def stores (U : FVec F S256x1024 .f32) (p q r : FVec F S256x1x128 .f32) : List (View.Piece (Elt F) S256x8x128 .f32) :=
  [⟨Rect.unit ![0, 7, 0] S256x1x128.size inb_S256x8x128_S256x1x128_0_7_0, k0_pay5 U⟩, ⟨Rect.unit ![0, 6, 0] S256x1x128.size inb_S256x8x128_S256x1x128_0_6_0, k0_pay4 U⟩,
   ⟨Rect.unit ![0, 5, 0] S256x1x128.size inb_S256x8x128_S256x1x128_0_5_0, k0_pay3 U⟩, ⟨Rect.unit ![0, 4, 0] S256x1x128.size inb_S256x8x128_S256x1x128_0_4_0, k0_pay2 U⟩,
   ⟨Rect.unit ![0, 3, 0] S256x1x128.size inb_S256x8x128_S256x1x128_0_3_0, k0_pay1 U⟩, ⟨Rect.unit ![0, 2, 0] S256x1x128.size inb_S256x8x128_S256x1x128_0_2_0, r⟩,
   ⟨Rect.unit ![0, 1, 0] S256x1x128.size inb_S256x8x128_S256x1x128_0_1_0, q⟩, ⟨Rect.unit ![0, 0, 0] S256x1x128.size inb_S256x8x128_S256x1x128_0_0_0, p⟩]

theorem mem_chunk (y : S256x8x128.Idx) (s : ℕ) (hy : (y 1).val = s) (hb : ∀ a, (![0, s, 0] : Fin 3 → Nat) a + S256x1x128.size a ≤ S256x8x128.size a) :
    y ∈ (Rect.unit (s := S256x8x128) ![0, s, 0] S256x1x128.size hb).set := by
  rw [Rect.mem_set_unit]
  intro a
  match a with
  | ⟨0, _⟩ => have h : (y 0).val < 256 := (y 0).isLt; exact ⟨Nat.zero_le _, by show (y 0).val < 0 + 256; omega⟩
  | ⟨1, _⟩ => exact ⟨by show s ≤ (y 1).val; omega, by show (y 1).val < s + 1; omega⟩
  | ⟨2, _⟩ => have h : (y 2).val < 128 := (y 2).isLt; exact ⟨Nat.zero_le _, by show (y 2).val < 0 + 128; omega⟩

theorem stores_read {κ : Kind} {sp : Space} (v : View sig κ sp S256x8x128 .f32) (f : v.ty.Contents (Elt F)) (P6 : FVec F S256x2048 .f32) (P7 : FVec F S256x1024 .f32)
    (WD : Vec F S1x1024x1024 .bf16) (BD : Vec F S1x1x1024 .f32) :
    v.read (Elt F) (v.writes (Elt F) f (stores (k0_pay8 P6 P7 WD BD) (k0_pay9 P6 P7 WD BD) (k0_pay10 P6 P7 WD BD) (k0_pay11 P6 P7 WD BD)))
      = fun y => k0_pay8 P6 P7 WD BD (colOf y) := by
  funext y
  refine View.read_writes_apply_of_pieces v f (fun y => k0_pay8 P6 P7 WD BD (colOf y)) _ ?_ y ?_
  · intro p hp x
    unfold stores at hp
    simp only [List.mem_cons, List.not_mem_nil, or_false] at hp
    rcases hp with rfl | rfl | rfl | rfl | rfl | rfl | rfl | rfl
    · exact piece_ap (F := F) (k0_pay8 P6 P7 WD BD) 7 896 (by decide) rfl slices_S256x1024_o0_896_S256x128 shapeCasts_S256x128_S256x1x128 inb_S256x8x128_S256x1x128_0_7_0 x
    · exact piece_ap (F := F) (k0_pay8 P6 P7 WD BD) 6 768 (by decide) rfl slices_S256x1024_o0_768_S256x128 shapeCasts_S256x128_S256x1x128 inb_S256x8x128_S256x1x128_0_6_0 x
    · exact piece_ap (F := F) (k0_pay8 P6 P7 WD BD) 5 640 (by decide) rfl slices_S256x1024_o0_640_S256x128 shapeCasts_S256x128_S256x1x128 inb_S256x8x128_S256x1x128_0_5_0 x
    · exact piece_ap (F := F) (k0_pay8 P6 P7 WD BD) 4 512 (by decide) rfl slices_S256x1024_o0_512_S256x128 shapeCasts_S256x128_S256x1x128 inb_S256x8x128_S256x1x128_0_4_0 x
    · exact piece_ap (F := F) (k0_pay8 P6 P7 WD BD) 3 384 (by decide) rfl slices_S256x1024_o0_384_S256x128 shapeCasts_S256x128_S256x1x128 inb_S256x8x128_S256x1x128_0_3_0 x
    · exact piece_ap (F := F) (k0_pay8 P6 P7 WD BD) 2 256 (by decide) rfl slices_S256x1024_o0_256_S256x128 shapeCasts_S256x128_S256x1x128 inb_S256x8x128_S256x1x128_0_2_0 x
    · exact piece_ap (F := F) (k0_pay8 P6 P7 WD BD) 1 128 (by decide) rfl slices_S256x1024_o0_128_S256x128 shapeCasts_S256x128_S256x1x128 inb_S256x8x128_S256x1x128_0_1_0 x
    · exact piece_ap (F := F) (k0_pay8 P6 P7 WD BD) 0 0 (by decide) rfl slices_S256x1024_o0_0_S256x128 shapeCasts_S256x128_S256x1x128 inb_S256x8x128_S256x1x128_0_0_0 x
  · have hy : (y 1).val < 8 := (y 1).isLt
    unfold stores
    simp only [List.mem_cons, List.not_mem_nil, or_false, exists_eq_or_imp, exists_eq_left]
    have h : (y 1).val = 7 ∨ (y 1).val = 6 ∨ (y 1).val = 5 ∨ (y 1).val = 4 ∨ (y 1).val = 3 ∨ (y 1).val = 2 ∨ (y 1).val = 1 ∨ (y 1).val = 0 := by omega
    exact h.imp (fun h => mem_chunk y _ h _) (Or.imp (fun h => mem_chunk y _ h _) (Or.imp (fun h => mem_chunk y _ h _) (Or.imp (fun h => mem_chunk y _ h _)
      (Or.imp (fun h => mem_chunk y _ h _) (Or.imp (fun h => mem_chunk y _ h _) (Or.imp (fun h => mem_chunk y _ h _) (fun h => mem_chunk y _ h _)))))))

theorem zero3 : (![0, 0, 0] : Fin 3 → Nat) = fun _ => 0 := by funext a; fin_cases a <;> rfl

set_option maxHeartbeats 4000000 in
theorem body_run (X : Vec F S256x8x128 .f32) (WU : Vec F S1x1024x2048 .bf16) (BU : Vec F S1x1x2048 .f32) (WD : Vec F S1x1024x1024 .bf16) (BD : Vec F S1x1x1024 .f32)
    (Y : S256x8x128.Idx → Elt F .f32) (T : S1.Idx → BitVec 32) (w : BitVec 32) (hT : ∀ j, T j = w) {Q : PUnit → sProp 𝕄} :
    iprop(nvPt c T ∗ owns (c : Thread nD τ) arg3 fullShare X ∗ owns (c : Thread nD τ) arg4 fullShare WU ∗ owns (c : Thread nD τ) arg5 fullShare BU
        ∗ owns (c : Thread nD τ) arg6 fullShare WD ∗ owns (c : Thread nD τ) arg7 fullShare BD ∗ owns (c : Thread nD τ) arg8 fullShare Y
        ∗ (iprop(nvPt c T ∗ owns (c : Thread nD τ) arg3 fullShare X ∗ owns (c : Thread nD τ) arg4 fullShare WU ∗ owns (c : Thread nD τ) arg5 fullShare BU
        ∗ owns (c : Thread nD τ) arg6 fullShare WD ∗ owns (c : Thread nD τ) arg7 fullShare BD
        ∗ owns (c : Thread nD τ) arg8 fullShare (if k0_cond1 i w = 1#1 then outBlock X WU BU WD BD else Y)) -∗ Q ⟨⟩))
      ⊢ wp frame (wpE (defs₀ (F := F)) Variants.none (c : Thread nD τ) none) Set.univ (bodyProg (F := F) i arg3 harg3 arg4 harg4 arg5 harg5 arg6 harg6 arg7 harg7 arg8 harg8) Q := by
  unfold owns
  iintro ⟨HT, ⟨%f3, %e3, H3⟩, ⟨%f4, %e4, H4⟩, ⟨%f5, %e5, H5⟩, ⟨%f6, %e6, H6⟩, ⟨%f7, %e7, H7⟩, ⟨%f8, %e8, H8⟩, HQ⟩
  have e3' := harg3.eq_unread e3
  have e4' := harg4.eq_unread e4
  have e5' := harg5.eq_unread e5
  have e6' := harg6.eq_unread e6
  have e7' := harg7.eq_unread e7
  subst e3' e4' e5' e6' e7'
  simp only [bodyProg, cc0_experts_eq_skeleton]
  unfold cc0_experts_skel
  simp only [k0_part1_eq_skeleton, k0_part2_eq_skeleton]
  unfold k0_part1_skel k0_part2_skel
  have hr : ∀ y, View.readAt (Elt F) (Memref.whole main_v28).view (Rect.unit (s := S1) ![0] S1.size inb_S1_S1_0).toLoadRect T y = w := fun y => hT _
  sl_exec
  rw [wp_ret]
  imodintro
  iapply HQ
  isplitl [HT]; · iexact HT
  isplitl [H3]
  · iexists _; isplitr; · ipureintro; exact harg3.read_unread X
    iexact H3
  isplitl [H4]
  · iexists _; isplitr; · ipureintro; exact harg4.read_unread WU
    iexact H4
  isplitl [H5]
  · iexists _; isplitr; · ipureintro; exact harg5.read_unread BU
    iexact H5
  isplitl [H6]
  · iexists _; isplitr; · ipureintro; exact harg6.read_unread WD
    iexact H6
  isplitl [H7]
  · iexists _; isplitr; · ipureintro; exact harg7.read_unread BD
    iexact H7
  iexists _
  isplitr
  rotate_left
  · iexact H8
  ipureintro
  by_cases h1 : k0_cond1 i w = 1#1
  · rw [if_pos h1]
    split
    · simp only [View.readAt_eq_ld, harg3.read_unread, harg4.read_unread, harg5.read_unread, harg6.read_unread, harg7.read_unread]
      rw [ld_chunk X 0 (by decide), ld_chunk X 1 (by decide), ld_chunk X 2 (by decide), ld_chunk X 3 (by decide), ld_chunk X 4 (by decide), ld_chunk X 5 (by decide),
        ld_chunk X 6 (by decide), ld_chunk X 7 (by decide), View.ld_unit_zero zero3, View.ld_unit_zero zero3, View.ld_unit_zero zero3, View.ld_unit_zero zero3]
      exact stores_read _ _ _ _ _ _
    · rename_i h
      exact absurd ((congrArg (k0_cond1 i) (hr _)).trans h1) h
  · rw [if_neg h1]
    split
    · rename_i h
      exact absurd ((congrArg (k0_cond1 i) (hr _)).symm.trans h) h1
    · exact e8

end Cert.ExpertCall
-- ==== Proof.ExpertLaunch.lean ====
/-
  Hand-written, untrusted. The launch of the experts: the run of the whole program, and what its blocks are.
-/
module

public import proofs.«01_k».proof.Proof.ExpertBody
public import proofs.«01_k».proof.Proof.Gen.ExpertsIdeal.Launch
public import Idealize.ShloMosaic.Lib.Routing.BitFacts
public import Idealize.ShloMosaic.Lib.Pipeline.FrameBody
public import Idealize.ShloMosaic.Lib.PlanTiles.Rows
public import Idealize.ShloMosaic.Lib.WordArith
public import Idealize.ShloMosaic.Lib.Pipeline.FrameValue
public import Idealize.ShloMosaic.Lib.Pipeline.DatRel
public import Idealize.ShloMosaic.Lib.Pipeline.ArrRel
public import Idealize.ShloMosaic.Lib.Pipeline.ValueKit.Geometry

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat RDat BodyObligationRel)

variable (m : (ℓ : Loc nD τ sig) → Buf (Elt F) ℓ) (ρ : Dev nD → PrngReg)

/-! ## The host operations before the call -/

/-- The buffers when the call is entered. -/
abbrev V (c : Dev nD) (b : Ref sig .tc) : Buf (Elt F) ((c : Thread nD τ).loc b) :=
  StableHlo.after (List.flatten [hostOps0, hostOps0_1, hostOps0_2, hostOps0_3]) (fun b => m (c, b)) b

theorem ops_fresh : (hostOps0 : List (HloOp τ sig (Elt F))).Forall fun op => op.fresh = ∅ := by repeat' constructor
theorem ops1_fresh : (hostOps0_1 : List (HloOp τ sig (Elt F))).Forall fun op => op.fresh = ∅ := by repeat' constructor
theorem ops2_fresh : (hostOps0_2 : List (HloOp τ sig (Elt F))).Forall fun op => op.fresh = ∅ := by repeat' constructor
theorem ops3_fresh : (hostOps0_3 : List (HloOp τ sig (Elt F))).Forall fun op => op.fresh = ∅ := by repeat' constructor

set_option maxHeartbeats 4000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨ops_fresh, ops1_fresh, ops2_fresh, ops3_fresh⟩) main_chain

/-! ## The tables -/

def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev tabB : S560.Idx → BitVec 32 := tbl m (0 : Fin 2)
abbrev tabN : S1.Idx → BitVec 32 := tbl m (1 : Fin 2)

/-- What the launch asks of the tables: the number of blocks in use is from 1 to 560, and each block's expert is one of the 32. -/
structure Tabs (nv : ℕ) (be : ℕ → ℕ) : Prop where
  nvT : ∀ j, tabN m j = BitVec.ofNat 32 nv
  beT : ∀ j, tabB m j = BitVec.ofNat 32 (be (j 0).val)
  nv_pos : 1 ≤ nv
  nv_le : nv ≤ 560
  be_lt : ∀ k, be k < 32

variable {m} {nv : ℕ} {be : ℕ → ℕ}

theorem small_toNat {n : ℕ} (h : n < 4294967296) : (BitVec.ofNat 32 n).toNat = n := by
  rw [BitVec.toNat_ofNat, Nat.mod_eq_of_lt h]

theorem coord_val (t : Fin 560) : (grid0.coords t 0).val = t.val :=
  (Pipeline.Grid.coords_val (G := grid0) t 0 (S := 1) (B := 560) rfl rfl).trans (by rw [Nat.div_one, Nat.mod_eq_of_lt t.isLt])

theorem index_x (hT : Tabs m nv be) (i : grid0.Coords) :
    cc0_transform_0 Facts₀.inb_S1_S1_0 Facts₀.numel1_S1 (tbl m) i = ![min (i 0).val (nv - 1), 0, 0] := by
  have hi : (i 0).val < 560 := (i 0).isLt
  have h1 := hT.nv_pos
  have h2 := hT.nv_le
  have hv : (tbl m).at 1 (Rect.unit (s := S1) ![0] S1.size Facts₀.inb_S1_S1_0) Facts₀.numel1_S1 = BitVec.ofNat 32 nv := hT.nvT _
  have hs : Scalar.subi (BitVec.ofNat 32 nv) 1#32 = BitVec.ofNat 32 (nv - 1) := by
    show BitVec.ofNat 32 nv - BitVec.ofNat 32 1 = _
    rw [Routing.ofNat32_sub (by omega)]
  unfold cc0_transform_0
  dsimp only
  rw [hv, hs]
  have hm : (Scalar.minsi (BitVec.ofNat 32 (i 0).val) (BitVec.ofNat 32 (nv - 1))).toNat = min (i 0).val (nv - 1) := by
    have ha : (BitVec.ofNat 32 (i 0).val).toNat = (i 0).val := small_toNat (by omega)
    have hb : (BitVec.ofNat 32 (nv - 1)).toNat = nv - 1 := small_toNat (by omega)
    refine (WordArith.toNat_minsi_of_lt _ _ (by rw [ha]; omega) (by rw [hb]; omega)).trans ?_
    rw [ha, hb]
  rw [hm]
  rfl

theorem word_at (hT : Tabs m nv be) (i : grid0.Coords) (r : Rect S560) (h1 : r.shape.numel = 1)
    (hr : ∀ y, (r.emb y 0).val = (i 0).val) : ((tbl m).at 0 r h1 : BitVec 32).toNat = be (i 0).val := by
  have h := hT.be_lt (i 0).val
  show (tabB m (r.emb _)).toNat = _
  rw [hT.beT]
  exact (congrArg (fun n => (BitVec.ofNat 32 (be n)).toNat) (hr _)).trans (small_toNat (by omega))

theorem off_at (i : grid0.Coords) (h) (y : (Rect.unit (s := S560) ![(Scalar.indexCast (BitVec.ofNat 32 (i 0).val) : BitVec 32).toNat] S1.size h).shape.Idx) :
    ((Rect.unit (s := S560) ![(Scalar.indexCast (BitVec.ofNat 32 (i 0).val) : BitVec 32).toNat] S1.size h).emb y 0).val = (i 0).val := by
  have hi : (i 0).val < 560 := (i 0).isLt
  have hy : (y 0).val < 1 := (y 0).isLt
  show (BitVec.ofNat 32 (i 0).val).toNat + 1 * (y 0).val = _
  rw [small_toNat (by omega)]
  omega

theorem index_1 (hT : Tabs m nv be) (i : grid0.Coords) :
    cc0_transform_1 Facts₀.k0_off1_inb Facts₀.numel1_S1 (tbl m) i = ![be (i 0).val, 0, 0] := by
  exact congrArg (fun z : ℕ => (![z, 0, 0] : Fin 3 → ℕ)) (word_at hT i _ Facts₀.numel1_S1 (off_at i (Facts₀.k0_off1_inb i)))

theorem index_2 (hT : Tabs m nv be) (i : grid0.Coords) :
    cc0_transform_2 Facts₀.k0_off1_inb Facts₀.numel1_S1 (tbl m) i = ![be (i 0).val, 0, 0] := by
  exact congrArg (fun z : ℕ => (![z, 0, 0] : Fin 3 → ℕ)) (word_at hT i _ Facts₀.numel1_S1 (off_at i (Facts₀.k0_off1_inb i)))

theorem index_3 (hT : Tabs m nv be) (i : grid0.Coords) :
    cc0_transform_3 Facts₀.k0_off1_inb Facts₀.numel1_S1 (tbl m) i = ![be (i 0).val, 0, 0] := by
  exact congrArg (fun z : ℕ => (![z, 0, 0] : Fin 3 → ℕ)) (word_at hT i _ Facts₀.numel1_S1 (off_at i (Facts₀.k0_off1_inb i)))

theorem index_4 (hT : Tabs m nv be) (i : grid0.Coords) :
    cc0_transform_4 Facts₀.k0_off1_inb Facts₀.numel1_S1 (tbl m) i = ![be (i 0).val, 0, 0] := by
  exact congrArg (fun z : ℕ => (![z, 0, 0] : Fin 3 → ℕ)) (word_at hT i _ Facts₀.numel1_S1 (off_at i (Facts₀.k0_off1_inb i)))

theorem ok_tbl (hT : Tabs m nv be) : ok0 (tbl m) := by
  have h1 := hT.nv_pos
  have h2 := hT.nv_le
  unfold ok0
  refine ⟨fun i => ⟨fun a => ?_, .inl rfl⟩, fun i => ⟨fun a => ?_, .inr (.inr ⟨by decide, rfl, rfl, rfl⟩)⟩, fun i => ⟨fun a => ?_, .inl rfl⟩,
    fun i => ⟨fun a => ?_, .inr (.inr ⟨by decide, rfl, rfl, rfl⟩)⟩, fun i => ⟨fun a => ?_, .inl rfl⟩⟩
  · rw [index_x hT]
    have := (i 0).isLt
    match a with
    | 0 => show (min (i 0).val (nv - 1) + 1) * 256 ≤ 143360; omega
    | 1 => exact Nat.le_refl _
    | 2 => exact Nat.le_refl _
  · rw [index_1 hT]
    have := hT.be_lt (i 0).val
    match a with
    | 0 => show (be (i 0).val + 1) * 1 ≤ 32; omega
    | 1 => exact Nat.le_refl _
    | 2 => exact Nat.le_refl _
  · rw [index_2 hT]
    have := hT.be_lt (i 0).val
    match a with
    | 0 => show (be (i 0).val + 1) * 1 ≤ 32; omega
    | 1 => exact Nat.le_refl _
    | 2 => exact Nat.le_refl _
  · rw [index_3 hT]
    have := hT.be_lt (i 0).val
    match a with
    | 0 => show (be (i 0).val + 1) * 1 ≤ 32; omega
    | 1 => exact Nat.le_refl _
    | 2 => exact Nat.le_refl _
  · rw [index_4 hT]
    have := hT.be_lt (i 0).val
    match a with
    | 0 => show (be (i 0).val + 1) * 1 ≤ 32; omega
    | 1 => exact Nat.le_refl _
    | 2 => exact Nat.le_refl _

/-! ## The windows' blocks -/

variable (m)

section Data
variable (hok : ok0 (tbl m))

abbrev adm : (pcfg0 (F := F)).Adm := ⟨tbl m, hok⟩
abbrev cfgM : Pipeline.Cfg sig Λ₀ := cfg0 (adm m hok)

theorem tables_eq (c : Dev nD) : (Pipeline.ΦT pre0 (tbl m) c : sProp 𝕄)
    = iprop(((Memref.whole main_v27).view.loc (c : Thread nD τ) ↦[(Memref.whole main_v27).view.set]{fullShare.right} tabB m) ∗ nvPt c (tabN m)) := by
  unfold Pipeline.ΦT Pipeline.prefHeld
  rw [show (Finset.univ : Finset (Fin 2)) = insert (0 : Fin 2) {(1 : Fin 2)} from by decide, bigSep_insert (by decide), bigSep_singleton]
  unfold nvPt
  rw [(Memref.isWhole_whole main_v27).set_eq_univ, (Memref.isWhole_whole main_v28).set_eq_univ]
  rfl

def iblk (c : Dev nD) (w : Fin (cfgM m hok).W) (t : Fin (cfgM m hok).N) :
    (((cfgM m hok).win w).xblock ((cfgM m hok).grid.coords t)).Idx → Elt F ((cfgM m hok).win w).elt :=
  (((cfgM m hok).win w).blk t).view.read (Elt F) (V m c (Pipeline.arrRef spec0 w))

theorem before_of0 {c : Dev nD} (dat : Dat τ (Elt F) Unit ℕ (UR sig nD τ) ℕ (cfgM m hok) c) (hA : dat.A 0 = V m c (Pipeline.arrRef spec0 0))
    (hafter : ∀ t, dat.after 0 t = iblk m hok c 0 t) (t : Fin (cfgM m hok).N) (d) : dat.before 0 t d = iblk m hok c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 {c : Dev nD} (dat : Dat τ (Elt F) Unit ℕ (UR sig nD τ) ℕ (cfgM m hok) c) (hA : dat.A 1 = V m c (Pipeline.arrRef spec0 1))
    (hafter : ∀ t, dat.after 1 t = iblk m hok c 1 t) (t : Fin (cfgM m hok).N) (d) : dat.before 1 t d = iblk m hok c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of2 {c : Dev nD} (dat : Dat τ (Elt F) Unit ℕ (UR sig nD τ) ℕ (cfgM m hok) c) (hA : dat.A 2 = V m c (Pipeline.arrRef spec0 2))
    (hafter : ∀ t, dat.after 2 t = iblk m hok c 2 t) (t : Fin (cfgM m hok).N) (d) : dat.before 2 t d = iblk m hok c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of3 {c : Dev nD} (dat : Dat τ (Elt F) Unit ℕ (UR sig nD τ) ℕ (cfgM m hok) c) (hA : dat.A 3 = V m c (Pipeline.arrRef spec0 3))
    (hafter : ∀ t, dat.after 3 t = iblk m hok c 3 t) (t : Fin (cfgM m hok).N) (d) : dat.before 3 t d = iblk m hok c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of4 {c : Dev nD} (dat : Dat τ (Elt F) Unit ℕ (UR sig nD τ) ℕ (cfgM m hok) c) (hA : dat.A 4 = V m c (Pipeline.arrRef spec0 4))
    (hafter : ∀ t, dat.after 4 t = iblk m hok c 4 t) (t : Fin (cfgM m hok).N) (d) : dat.before 4 t d = iblk m hok c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

def dats (c : Dev nD) : Dat τ (Elt F) Unit ℕ (UR sig nD τ) ℕ (cfgM m hok) c where
  A w := V m c (Pipeline.arrRef spec0 w)
  after w t := iblk m hok c w t
  Φ _ := iprop(Pipeline.ΦA spec0 c ∗ Pipeline.ΦT pre0 (tbl m) c)
  q _ := fullShare
  owed _ := 0

theorem before_0 (c : Dev nD) (t : Fin (cfgM m hok).N) (d) : (dats m hok c).before 0 t d = iblk m hok c 0 t :=
  before_of0 m hok (dats m hok c) rfl (fun _ => rfl) t d
theorem before_1 (c : Dev nD) (t : Fin (cfgM m hok).N) (d) : (dats m hok c).before 1 t d = iblk m hok c 1 t :=
  before_of1 m hok (dats m hok c) rfl (fun _ => rfl) t d
theorem before_2 (c : Dev nD) (t : Fin (cfgM m hok).N) (d) : (dats m hok c).before 2 t d = iblk m hok c 2 t :=
  before_of2 m hok (dats m hok c) rfl (fun _ => rfl) t d
theorem before_3 (c : Dev nD) (t : Fin (cfgM m hok).N) (d) : (dats m hok c).before 3 t d = iblk m hok c 3 t :=
  before_of3 m hok (dats m hok c) rfl (fun _ => rfl) t d
theorem before_4 (c : Dev nD) (t : Fin (cfgM m hok).N) (d) : (dats m hok c).before 4 t d = iblk m hok c 4 t :=
  before_of4 m hok (dats m hok c) rfl (fun _ => rfl) t d

theorem after_eq (c : Dev nD) (w : Fin (cfgM m hok).W) (t : Fin (cfgM m hok).N) : (dats m hok c).after w t = iblk m hok c w t := by dsimp only [dats]

theorem owes_eq (c : Dev nD) (t : Fin (cfgM m hok).N) : (dats m hok c).owesAt () t.succ = (dats m hok c).owesAt () t.castSucc := by
  unfold Dat.owesAt
  rw [show (dats m hok c).owed t.castSucc = 0 from rfl, show (dats m hok c).owed t.succ = 0 from rfl]
  rfl

/-- The blocks of the five inputs at a grid point. -/
abbrev xs (c : Dev nD) (t : Fin (cfgM m hok).N) : S256x8x128.Idx → Elt F .f32 := iblk m hok c 0 t
abbrev wu (c : Dev nD) (t : Fin (cfgM m hok).N) : S1x1024x2048.Idx → Elt F .bf16 := iblk m hok c 1 t
abbrev bu (c : Dev nD) (t : Fin (cfgM m hok).N) : S1x1x2048.Idx → Elt F .f32 := iblk m hok c 2 t
abbrev wd (c : Dev nD) (t : Fin (cfgM m hok).N) : S1x1024x1024.Idx → Elt F .bf16 := iblk m hok c 3 t
abbrev bd (c : Dev nD) (t : Fin (cfgM m hok).N) : S1x1x1024.Idx → Elt F .f32 := iblk m hok c 4 t

/-- The output's window is the one of which only a relation is known. -/
def fgt : Fin 6 → Bool := ![false, false, false, false, false, true]

/-- What a used block holds after its point. -/
def Rl (nvw : BitVec 32) (c : Dev nD) (w : Fin 6) (t : Fin (cfgM m hok).N) (X : ((cfgM m hok).win w).block.Idx → Elt F ((cfgM m hok).win w).elt) : Prop :=
  match w, X with
  | 5, X => k0_cond1 (grid0.coords t) nvw = 1#1 → X = outBlock (xs m hok c t) (wu m hok c t) (bu m hok c t) (wd m hok c t) (bd m hok c t)
  | _, _ => True

abbrev st0 (t : Fin (cfgM m hok).N) : Memref sig .tc .vmem S256x8x128 .f32 := spec0_0.stage ((cfgM m hok).slots t 0)
theorem st0_whole (t : Fin (cfgM m hok).N) : (st0 m hok t).IsWhole := hstage0_0 (((cfgM m hok).slots t 0).cast nbuf0_0)
abbrev st1 (t : Fin (cfgM m hok).N) : Memref sig .tc .vmem S1x1024x2048 .bf16 := spec0_1.stage ((cfgM m hok).slots t 1)
theorem st1_whole (t : Fin (cfgM m hok).N) : (st1 m hok t).IsWhole := hstage0_1 (((cfgM m hok).slots t 1).cast nbuf0_1)
abbrev st2 (t : Fin (cfgM m hok).N) : Memref sig .tc .vmem S1x1x2048 .f32 := spec0_2.stage ((cfgM m hok).slots t 2)
theorem st2_whole (t : Fin (cfgM m hok).N) : (st2 m hok t).IsWhole := hstage0_2 (((cfgM m hok).slots t 2).cast nbuf0_2)
abbrev st3 (t : Fin (cfgM m hok).N) : Memref sig .tc .vmem S1x1024x1024 .bf16 := spec0_3.stage ((cfgM m hok).slots t 3)
theorem st3_whole (t : Fin (cfgM m hok).N) : (st3 m hok t).IsWhole := hstage0_3 (((cfgM m hok).slots t 3).cast nbuf0_3)
abbrev st4 (t : Fin (cfgM m hok).N) : Memref sig .tc .vmem S1x1x1024 .f32 := spec0_4.stage ((cfgM m hok).slots t 4)
theorem st4_whole (t : Fin (cfgM m hok).N) : (st4 m hok t).IsWhole := hstage0_4 (((cfgM m hok).slots t 4).cast nbuf0_4)
abbrev st5 (t : Fin (cfgM m hok).N) : Memref sig .tc .vmem S256x8x128 .f32 := spec0_5.stage ((cfgM m hok).slots t 5)
theorem st5_whole (t : Fin (cfgM m hok).N) : (st5 m hok t).IsWhole := hstage0_5 (((cfgM m hok).slots t 5).cast nbuf0_5)

def bodyPre (nvw : BitVec 32) (c : Dev nD) (t : Fin (cfgM m hok).N) : sProp 𝕄 :=
  iprop((dats m hok c).Φ t.castSucc ∗ (dats m hok c).owesAt () t.castSucc
    ∗ (∃ d, owns (c : Thread nD τ) (st0 m hok t) fullShare ((dats m hok c).before 0 t d))
    ∗ (∃ d, owns (c : Thread nD τ) (st1 m hok t) fullShare ((dats m hok c).before 1 t d))
    ∗ (∃ d, owns (c : Thread nD τ) (st2 m hok t) fullShare ((dats m hok c).before 2 t d))
    ∗ (∃ d, owns (c : Thread nD τ) (st3 m hok t) fullShare ((dats m hok c).before 3 t d))
    ∗ (∃ d, owns (c : Thread nD τ) (st4 m hok t) fullShare ((dats m hok c).before 4 t d))
    ∗ (∃ Y, ⌜((dats m hok c).toRRel fgt (Rl m hok nvw c)).Finds 5 t Y⌝ ∗ owns (c : Thread nD τ) (st5 m hok t) fullShare Y))
def bodyPost (nvw : BitVec 32) (c : Dev nD) (t : Fin (cfgM m hok).N) : sProp 𝕄 :=
  iprop((dats m hok c).Φ t.succ ∗ (dats m hok c).owesAt () t.succ
    ∗ owns (c : Thread nD τ) (st0 m hok t) fullShare ((dats m hok c).after 0 t)
    ∗ owns (c : Thread nD τ) (st1 m hok t) fullShare ((dats m hok c).after 1 t)
    ∗ owns (c : Thread nD τ) (st2 m hok t) fullShare ((dats m hok c).after 2 t)
    ∗ owns (c : Thread nD τ) (st3 m hok t) fullShare ((dats m hok c).after 3 t)
    ∗ owns (c : Thread nD τ) (st4 m hok t) fullShare ((dats m hok c).after 4 t)
    ∗ (∃ X, ⌜Rl m hok nvw c 5 t X⌝ ∗ owns (c : Thread nD τ) (st5 m hok t) fullShare X))

theorem sound_body (nvw : BitVec 32) (hN : ∀ j, tabN m j = nvw) (c : Dev nD) (t : Fin (cfgM m hok).N) :
    bodyPre m hok nvw c t ⊢ wp frame (wpE (defs₀ (F := F)) Variants.none c none) Set.univ
      (bodyProg (F := F) (grid0.coords t) (st0 m hok t) (st0_whole m hok t) (st1 m hok t) (st1_whole m hok t) (st2 m hok t) (st2_whole m hok t)
        (st3 m hok t) (st3_whole m hok t) (st4 m hok t) (st4_whole m hok t) (st5 m hok t) (st5_whole m hok t)) (fun _ => bodyPost m hok nvw c t) := by
  unfold bodyPre bodyPost
  rw [show (dats m hok c).Φ t.succ = iprop(Pipeline.ΦA spec0 c ∗ Pipeline.ΦT pre0 (tbl m) c) from rfl,
    show (dats m hok c).Φ t.castSucc = iprop(Pipeline.ΦA spec0 c ∗ Pipeline.ΦT pre0 (tbl m) c) from rfl, tables_eq,
after_eq, after_eq, after_eq, after_eq, after_eq]
  rw [owes_eq]
  simp only [before_0, before_1, before_2, before_3, before_4]
  iintro ⟨⟨HA, HB, HN⟩, HW, ⟨%d0, H0⟩, ⟨%d1, H1⟩, ⟨%d2, H2⟩, ⟨%d3, H3⟩, ⟨%d4, H4⟩, ⟨%Y, -, H5⟩⟩
  iapply (body_run c (grid0.coords t) (st0 m hok t) (st0_whole m hok t) (st1 m hok t) (st1_whole m hok t) (st2 m hok t) (st2_whole m hok t)
        (st3 m hok t) (st3_whole m hok t) (st4 m hok t) (st4_whole m hok t) (st5 m hok t) (st5_whole m hok t)
        (xs m hok c t) (wu m hok c t) (bu m hok c t) (wd m hok c t) (bd m hok c t) Y (tabN m) nvw hN)
  isplitl [HN]; · iexact HN
  isplitl [H0]; · iexact H0
  isplitl [H1]; · iexact H1
  isplitl [H2]; · iexact H2
  isplitl [H3]; · iexact H3
  isplitl [H4]; · iexact H4
  isplitl [H5]; · iexact H5
  iintro ⟨HN, H0, H1, H2, H3, H4, H5⟩
  isplitl [HA HB HN]
  · isplitl [HA]; · iexact HA
    isplitl [HB]; · iexact HB
    iexact HN
  isplitl [HW]; · iexact HW
  isplitl [H0]; · iexact H0
  isplitl [H1]; · iexact H1
  isplitl [H2]; · iexact H2
  isplitl [H3]; · iexact H3
  isplitl [H4]; · iexact H4
  iexists _
  isplitr [H5]
  rotate_left
  · iexact H5
  ipureintro
  exact fun h => if_pos h

theorem defs₀_row (t : Fin (cfgM m hok).N) :
    defs₀ (F := F) .tc (cfgM m hok).body ((cfgM m hok).bodyArgs t ((cfgM m hok).slots t))
      = bodyProg (F := F) (grid0.coords t) (st0 m hok t) (st0_whole m hok t) (st1 m hok t) (st1_whole m hok t) (st2 m hok t) (st2_whole m hok t)
        (st3 m hok t) (st3_whole m hok t) (st4 m hok t) (st4_whole m hok t) (st5 m hok t) (st5_whole m hok t) := by
  unfold defs₀; rw [Defs.onTc_tc]

theorem body_obligation (nvw : BitVec 32) (hN : ∀ j, tabN m j = nvw) (c : Dev nD) :
    BodyObligationRel (dats (F := F) m hok c) (defs₀ (F := F)) Variants.none () Set.univ fgt (Rl m hok nvw c) := fun t => by
  rw [bigSep_W0, bigSep_W0, defs₀_row]
  exact triple_restated (sound_body m hok nvw hN c t) rfl .rfl fun _ => .rfl

/-! ## The run -/

abbrev rdats (nvw : BitVec 32) (c : Dev nD) : RDat τ (Elt F) Unit ℕ (UR sig nD τ) ℕ (cfgM m hok) c := (dats m hok c).toRRel fgt (Rl m hok nvw c)

set_option backward.isDefEq.respectTransparency.types false in
theorem run_main (nvw : BitVec 32) (hN : ∀ j, tabN m j = nvw) : θ_run defs (onTc (τ := τ) (main (F := F))) (s₀ m ρ)
    (fun r => RDat.FramePost (cfgM m hok) (rdats m hok nvw) (V m) r ∧ r.2.sem = fun _ => 0) :=
  RDat.θ_run_frameP (Q' := _) pcfgs (fun _ => adm m hok) (0 : Fin 1) launch0 defs₀ Variants.none (rdats m hok nvw) m ρ main
    (hbody := fun c => (body_obligation m hok nvw hN c).toRRel) (hshare := fun c => ((dats m hok c).toRRel fgt (Rl m hok nvw c)).share_full fun _ => rfl)
    (howed := fun _ _ => rfl) (V := V m) (hmain := hmain m Variants.none) (hA := fun _ _ => rfl) (hpf := V_pre m) (hΦ := fun _ _ => rfl) (hQ' := fun _ h => h)

end Data

end Cert.ExpertCall
-- ==== Proof.ExpertRows.lean ====
/-
  Hand-written, untrusted. What the experts leave in the rows of the blocks in use.
-/
module

public import proofs.«01_k».proof.Proof.ExpertLaunch

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat RDat)

variable (m : (ℓ : Loc nD τ sig) → Buf (Elt F) ℓ) (ρ : Dev nD → PrngReg) {nv : ℕ} {be : ℕ → ℕ}

/-- An index of a block of rows. -/
def rowIx (a : Fin 256) (b : Fin 8) (d : Fin 128) : S256x8x128.Idx := fun
  | ⟨0, _⟩ => (a : Fin 256)
  | ⟨1, _⟩ => (b : Fin 8)
  | ⟨2, _⟩ => (d : Fin 128)

/-- The grid point of a row of the result, and its place in the block. -/
def ptOf (i : S143360x8x128.Idx) : Fin 560 := ⟨(i 0).val / 256, by have h : (i 0).val < 143360 := (i 0).isLt; omega⟩
def inBlk (i : S143360x8x128.Idx) : S256x8x128.Idx :=
  rowIx ⟨(i 0).val % 256, Nat.mod_lt _ (by decide)⟩ (i 1) (i 2)

section Data
variable (hok : ok0 (tbl m))

/-- What a used row holds in the end. -/
def outAt (c : Dev nD) (i : S143360x8x128.Idx) : Elt F .f32 :=
  outBlock (xs m hok c (ptOf i)) (wu m hok c (ptOf i)) (bu m hok c (ptOf i)) (wd m hok c (ptOf i)) (bd m hok c (ptOf i)) (inBlk i)

theorem index_out (t : Fin 560) : cc0_transform_5 (grid0.coords t) = ![t.val, 0, 0] := by
  show ![(BitVec.ofNat 32 (grid0.coords t 0).val).toNat, (0#32).toNat, (0#32).toNat] = _
  rw [coord_val, small_toNat (by have := t.isLt; omega)]
  rfl

/-- The row of the result that a place of a block is. -/
abbrev outIx (t : Fin 560) (y : S256x8x128.Idx) : S143360x8x128.Idx := (((cfgM m hok).win 5).rect t).emb y

theorem emb_out (t : Fin (cfgM m hok).N) (y : S256x8x128.Idx) (a : Fin 3) :
    (outIx m hok t y a).val = (![t.val, 0, 0] : Fin 3 → ℕ) a * S256x8x128.size a + (y a).val := by
  refine (Pipeline.Window.rect_emb_val ((cfgM m hok).win 5) t y a).trans ?_
  exact congrArg (fun f : Fin 3 → ℕ => f a * S256x8x128.size a + (y a).val) (index_out t)

theorem flush_out (t : Fin (cfgM m hok).N) : ((cfgM m hok).win 5).flush t = true := by
  unfold Pipeline.Window.flush
  refine Bool.and_eq_true_iff.mpr ⟨rfl, ?_⟩
  by_cases h : t.val + 1 = 560
  · exact Bool.or_eq_true_iff.mpr (.inl (decide_eq_true h))
  · refine Bool.or_eq_true_iff.mpr (.inr (decide_eq_true ?_))
    have ht : t.val < 560 := t.isLt
    refine ⟨(by omega : t.val + 1 < 560), fun e => ?_⟩
    have e0 : cc0_transform_5 (grid0.coords (⟨t.val + 1, by omega⟩ : Fin 560)) 0 = cc0_transform_5 (grid0.coords t) 0 := congrFun e (0 : Fin 3)
    rw [index_out, index_out t] at e0
    exact absurd (show t.val + 1 = t.val from e0) (by omega)

theorem emb_in (i : S143360x8x128.Idx) : outIx m hok (ptOf i) (inBlk i) = i := by
  funext a
  apply Fin.ext
  refine (emb_out m hok (ptOf i) (inBlk i) a).trans ?_
  match a with
  | 0 => show (i 0).val / 256 * 256 + (i 0).val % 256 = (i 0).val; omega
  | 1 => show 0 * 8 + (i 1).val = (i 1).val; omega
  | 2 => show 0 * 128 + (i 2).val = (i 2).val; omega

theorem pt_emb (t : Fin 560) (y : S256x8x128.Idx) : ptOf (outIx m hok t y) = t := by
  apply Fin.ext
  have h := emb_out m hok t y 0
  have hy : (y 0).val < 256 := (y 0).isLt
  show (outIx m hok t y 0).val / 256 = t.val
  rw [h]
  show (t.val * 256 + (y 0).val) / 256 = t.val
  omega

theorem in_emb (t : Fin 560) (y : S256x8x128.Idx) : inBlk (outIx m hok t y) = y := by
  funext a
  apply Fin.ext
  match a with
  | 0 =>
    have h := emb_out m hok t y 0
    have hy : (y 0).val < 256 := (y 0).isLt
    show (outIx m hok t y 0).val % 256 = (y 0).val
    rw [h]
    show (t.val * 256 + (y 0).val) % 256 = (y 0).val
    omega
  | 1 =>
    refine (emb_out m hok t y 1).trans ?_
    show 0 * 8 + (y 1).val = (y 1).val
    omega
  | 2 =>
    refine (emb_out m hok t y 2).trans ?_
    show 0 * 128 + (y 2).val = (y 2).val
    omega

theorem rows_of (nvw : BitVec 32) {r : PUnit × MemSt nD τ sig (Elt F)} (h : RDat.FramePost (cfgM m hok) (rdats m hok nvw) (V m) r) (c : Dev nD)
    (i : S143360x8x128.Idx) (hi : k0_cond1 (grid0.coords (ptOf i)) nvw = 1#1) :
    r.2.mem ((c : Thread nD τ).loc main_v31) i = outAt m hok c i := by
  obtain ⟨after, hL, hA⟩ := RDat.FramePost.exists_exact h c
  refine (congrFun (hA 5) i).trans ?_
  refine Dat.arrAt_forall_of_cover ((rdats m hok nvw c).withAfter after) 5
    (fun i v => k0_cond1 (grid0.coords (ptOf i)) nvw = 1#1 → v = outAt m hok c i) (fun t hf y => ?_) (fun i => ⟨ptOf i, flush_out m hok _, ?_⟩) i hi
  · intro hc
    have hR : Rl m hok nvw c 5 t (after 5 t) := (dats m hok c).toRRel_leaves rfl (hL 5 t hf)
    have e1 := pt_emb m hok t y
    have e2 := in_emb m hok t y
    have hc' : k0_cond1 (grid0.coords t) nvw = 1#1 := e1 ▸ hc
    refine (congrFun (hR hc') y).trans ?_
    show _ = outBlock _ _ _ _ _ _
    rw [show ptOf ((((cfgM m hok).win 5).blk t).view.emb y) = t from e1, show inBlk ((((cfgM m hok).win 5).blk t).view.emb y) = y from e2]
  · exact Finset.mem_map.mpr ⟨inBlk i, Finset.mem_univ _, emb_in m hok i⟩

end Data

/-- A grid point below the number of blocks in use does the block. -/
theorem cond_of_lt (t : Fin 560) (hnv : nv ≤ 560) (h : t.val < nv) : k0_cond1 (grid0.coords t) (BitVec.ofNat 32 nv) = 1#1 := by
  have e : Scalar.cmpi .slt (BitVec.ofNat 32 (grid0.coords t 0).val) (BitVec.ofNat 32 nv) = 1#1 := by
    have ht := t.isLt
    rw [coord_val]
    show BitVec.ofBool ((BitVec.ofNat 32 t.val).slt (BitVec.ofNat 32 nv)) = 1#1
    rw [Routing.slt_ofNat32 (by omega) (by omega), decide_eq_true h]; rfl
  unfold k0_cond1
  dsimp only
  rw [e]; rfl

end Cert.ExpertCall
-- ==== Proof.ExpertTables.lean ====
/-
  Hand-written, untrusted. The tables of the experts call, entry by entry: the blocks of each expert, their running sums, the expert of each block.
-/
module

public import proofs.«01_k».proof.Proof.Starts
public import proofs.«01_k».proof.Proof.Decode
public import proofs.«01_k».proof.Proof.Entry
public import Idealize.ShloMosaic.Lib.PlanTiles.Rows
public import Idealize.ShloMosaic.Lib.Routing.OpsSearch
public import Idealize.ShloMosaic.Lib.Affine

@[expose] public section

set_option maxRecDepth 16384

noncomputable section

namespace Cert.ExpertCall

open Idealize.ShloMosaic
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Routing Idealize.ShloMosaic.ValueIdx Idealize.ShloMosaic.WordCmp Cert.Dispatch

/-! ## Numbers -/

/-- The blocks of expert `k`, and of the experts before `k`. -/
def nb (n : ℕ → ℕ) (k : ℕ) : ℕ := (n k + 255) / 256
def cum (n : ℕ → ℕ) (k : ℕ) : ℕ := ∑ i ∈ Finset.range k, nb n i

/-- The counts of 135168 assignments over 32 experts. -/
structure Counts (n : ℕ → ℕ) : Prop where
  le : ∀ k, n k ≤ 135168
  sum : ∑ i ∈ Finset.range 32, n i = 135168

variable {n : ℕ → ℕ}

theorem cum_hi (h : Counts n) : cum n 32 ≤ 559 := by
  have h1 : cum n 32 * 256 ≤ ∑ i ∈ Finset.range 32, (n i + 255) := by
    unfold cum; rw [Finset.sum_mul]
    exact Finset.sum_le_sum fun i _ => Nat.div_mul_le_self _ _
  rw [Finset.sum_add_distrib, h.sum, Finset.sum_const, Finset.card_range, smul_eq_mul] at h1
  omega

theorem cum_lo (h : Counts n) : 1 ≤ cum n 32 := by
  have h1 : ∑ i ∈ Finset.range 32, n i ≤ cum n 32 * 256 := by
    unfold cum; rw [Finset.sum_mul]
    exact Finset.sum_le_sum fun i _ => by unfold nb; omega
  rw [h.sum] at h1
  omega

theorem cum_mono {j k : ℕ} (h : j ≤ k) : cum n j ≤ cum n k := Finset.sum_le_sum_of_subset (Finset.range_subset_range.mpr h)
theorem cum_le (h : Counts n) (k : Fin 32) : cum n (k.val + 1) ≤ 559 := (cum_mono (by omega)).trans (cum_hi h)

/-- The expert of block `i`, the blocks past the last used one being of its expert. -/
def blockE (n : ℕ → ℕ) (i : ℕ) : ℕ := min (Nat.count (fun k => cum n (k + 1) ≤ min i (cum n 32 - 1)) 32) 31
theorem blockE_lt (i : ℕ) : blockE n i < 32 := by unfold blockE; omega

/-! ## Words -/

theorem sge_bit {a b : ℕ} (ha : a < 2 ^ 31) (hb : b < 2 ^ 31) :
    (IntOp.cmpi .sge (BitVec.ofNat 32 a) (BitVec.ofNat 32 b)).setWidth 32 = BitVec.ofNat 32 (if b ≤ a then 1 else 0) := by
  rw [cmpi_sge_ofNat ha hb]
  by_cases h : b ≤ a <;> simp [h]

theorem sle_bit {a b : ℕ} (ha : a < 2 ^ 31) (hb : b < 2 ^ 31) :
    (IntOp.cmpi .sle (BitVec.ofNat 32 a) (BitVec.ofNat 32 b)).setWidth 32 = BitVec.ofNat 32 (if a ≤ b then 1 else 0) := by
  rw [cmpi_sle_ofNat ha hb]
  by_cases h : a ≤ b <;> simp [h]

theorem lift_560 (h : (shape2 560 32).Reduces [1] (shape1 560)) (p : Fin 560) (k : Fin 32) : h.lift (ix1 p) k = ix2 p k := by
  funext c; apply Fin.ext
  fin_cases c <;> rfl

theorem reduce_560 : (shape2 560 32).Reduces [1] (shape1 560) := by decide

theorem count_ap (x : IVec (shape2 560 32) 32) (Q : ℕ → ℕ → Prop) [∀ i, DecidablePred (Q i)]
    (hx : ∀ (i : Fin 560) (k : Fin 32), x (ix2 i k) = BitVec.ofNat 32 (if Q i.val k.val then 1 else 0))
    (h : (shape2 560 32).ReducesTo [1] (shape1 560)) (hu : 0 < shape0.numel) (i : Fin 560) :
    Host.reduce IntOp.addi x (constantI shape0 32 0#32) h hu (ix1 i) = BitVec.ofNat 32 (Nat.count (Q i.val) 32) := by
  rw [host_sum x (constantI shape0 32 0#32) h reduce_560 hu (fun _ => rfl), ← sum_count (Q i.val) 32]
  exact Finset.sum_congr rfl fun k _ => (congrArg x (lift_560 reduce_560 i k)).trans (hx i k)

variable (hb : shape0.BroadcastsInDim (shape1 32) (![] : Fin 0 → Fin (shape1 32).rank))

theorem nb_ap (h : Counts n) (x : IVec (shape1 32) 32) (hx : ∀ k : Fin 32, x (ix1 k) = BitVec.ofNat 32 (n k.val)) (k : Fin 32) :
    pyDiv hb (subi (addi x (broadcastInDim (shape1 32) ![] hb (constantI shape0 32 256#32))) (broadcastInDim (shape1 32) ![] hb (constantI shape0 32 1#32)))
      (constantI shape0 32 256#32) (ix1 k) = BitVec.ofNat 32 (nb n k.val) := by
  have hc := h.le k.val
  refine pyDiv_ap hb _ _ _ (a := n k.val + 255) (b := 256) ?_ rfl (by omega) (by omega) (by omega)
  rw [subi_ap, addi_ap, bc0, bc0, constantI_at, constantI_at, hx]
  apply BitVec.eq_of_toNat_eq
  rw [BitVec.toNat_sub, BitVec.toNat_add]
  simp only [BitVec.toNat_ofNat]
  omega

theorem cum_ap (x : IVec (shape1 32) 32) (hx : ∀ k : Fin 32, x (ix1 k) = BitVec.ofNat 32 (nb n k.val)) (init : IVec shape0 32) (hinit : init ix0 = 0#32)
    (h : (shape1 32).ReduceWindows (![32] : Fin 1 → ℕ) ![1] ![31] ![0] (shape1 32)) (hu : 0 < shape0.numel) (k : Fin 32) :
    Host.reduceWindow IntOp.addi ![32] ![1] ![31] ![0] x init h hu (ix1 k) = BitVec.ofNat 32 (cum n (k.val + 1)) := by
  rw [cumsum1 (N := 32) (by norm_num) x (nb n) hx init hinit h hu, sum_range_map]; rfl

/-- The running sums with a multiple of 256 in each place. -/
theorem cum256_ap (x : IVec (shape1 32) 32) (hx : ∀ k : Fin 32, x (ix1 k) = BitVec.ofNat 32 (nb n k.val)) (init : IVec shape0 32) (hinit : init ix0 = 0#32)
    (h : (shape1 32).ReduceWindows (![32] : Fin 1 → ℕ) ![1] ![31] ![0] (shape1 32)) (hu : 0 < shape0.numel) (k : Fin 32) :
    Host.reduceWindow IntOp.addi ![32] ![1] ![31] ![0] (muli x (broadcastInDim (shape1 32) ![] hb (constantI shape0 32 256#32))) init h hu (ix1 k)
      = BitVec.ofNat 32 (cum n (k.val + 1) * 256) := by
  rw [cumsum1 (N := 32) (by norm_num) _ (fun i => nb n i * 256) (fun i => by rw [muli_ap, bc0, constantI_at, hx, ← BitVec.ofNat_mul]) init hinit h hu, sum_range_map,
    ← Finset.sum_mul]; rfl

/-! ## The precondition -/

variable {F : FTy → Type} [FloatOps F]

/-- The count of expert `k`, from the words. -/
def cntOf (x : IVec (shape1 32) 32) (k : ℕ) : ℕ := if h : k < 32 then (x (ix1 (⟨k, h⟩ : Fin 32))).toNat else 0

theorem cntOf_ap (x : IVec (shape1 32) 32) (k : Fin 32) : x (ix1 k) = BitVec.ofNat 32 (cntOf x k.val) := by
  unfold cntOf
  rw [dif_pos k.isLt]
  exact eq_word _

theorem range_le (w : BitVec 32) : IntOp.andi (IntOp.cmpi .sge w 0#32) (IntOp.cmpi .sle w 135168#32) = 1#1 → w.toNat ≤ 135168 := fun e => by
  obtain ⟨h1, h2⟩ := IntOp.andi_eq_one.mp e
  rw [cmpi_sge_zero, ofBool_decide_eq_one_iff] at h1
  rw [cmpi_sle_of_lt h1 (by decide), ofBool_decide_eq_one_iff] at h2
  exact h2

theorem counts_of (x : IVec (shape1 32) 32) (h0 : (shape1 32).ReducesTo [0] shape0) (hu : 0 < shape0.numel)
    (h1 : ∀ k : Fin 32, IntOp.andi (IntOp.cmpi .sge (x (ix1 k)) 0#32) (IntOp.cmpi .sle (x (ix1 k)) 135168#32) = 1#1)
    (h2 : IntOp.cmpi .eq (Host.reduce IntOp.addi x (constantI shape0 32 0#32) h0 hu ix0) 135168#32 = 1#1) : Counts (cntOf x) := by
  have hle : ∀ k, cntOf x k ≤ 135168 := fun k => by
    by_cases hk : k < 32
    · have hb := range_le _ (h1 ⟨k, hk⟩)
      unfold cntOf
      rw [dif_pos hk]
      exact hb
    · unfold cntOf
      rw [dif_neg hk]
      omega
  refine ⟨hle, ?_⟩
  rw [reduce_sum x (cntOf x) (cntOf_ap x), sum_range_map, StableHlo.Predicate.cmpi_eq_iff] at h2
  have h3 := congrArg BitVec.toNat h2
  have hs : ∑ i ∈ Finset.range 32, cntOf x i ≤ ∑ i ∈ Finset.range 32, 135168 := Finset.sum_le_sum fun i _ => hle i
  rw [Finset.sum_const, Finset.card_range, smul_eq_mul] at hs
  rw [BitVec.toNat_ofNat, BitVec.toNat_ofNat] at h3
  omega

end Cert.ExpertCall
-- ==== Proof.ExpertEntry.lean ====
/-
  Hand-written, untrusted. The buffers when the experts call is entered, read as terms over the arguments; its tables, entry by entry.
-/
module

public import proofs.«01_k».proof.Proof.ExpertRows
public import proofs.«01_k».proof.Proof.ExpertTables
public import Idealize.ShloMosaic.Lib.Routing.Model
public import Idealize.ShloMosaic.Lib.StableHlo.RunRead

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Routing Idealize.ShloMosaic.ValueIdx Idealize.ShloMosaic.WordCmp
variable (m : (ℓ : Loc nD τ sig) → Buf (Elt F) ℓ) (c : Dev nD)

/-- The counts as words. -/
abbrev cnt32 : IVec S32 32 := fptosi 32 (shapeCast S32 (m ((c : Thread nD τ).loc main_arg0) : FVec F S1x32 .f32) shapeCasts_S1x32_S32)
/-- The blocks of each expert, their running sums, their number. -/
abbrev nb32 : IVec S32 32 := pyDiv bcast_S_S32 (subi (addi (cnt32 m c) (broadcastInDim S32 ![] bcast_S_S32 (constantI S_ 32 256#32)))
    (broadcastInDim S32 ![] bcast_S_S32 (constantI S_ 32 1#32))) (constantI S_ 32 256#32)
abbrev cum32 : IVec S32 32 := Host.reduceWindow IntOp.addi ![32] ![1] ![31] ![0] (nb32 m c) (broadcastInDim S_ ![] bcast_S_S_ (constantI S_ 32 0#32))
    reduceWindows_S32_S32_w32s1p31_0 h_S_
abbrev nv32 : IVec S_ 32 := shapeCast S_ (extractStridedSlice S1 ![31] (cum32 m c) slices_S32_S1_31) shapeCasts_S1_S_
/-- The block that block `i` stands for, and the expert of each block. -/
abbrev cap32 : IVec S560 32 := minsi (iotaInDim S560 32 0) (broadcastInDim S560 ![] bcast_S_S560 (subi (nv32 m c) (constantI S_ 32 1#32)))
abbrev hot32 : IVec S560x32 32 := extui 32 (cmpi .sge (broadcastInDim S560x32 ![0, 1] bcast_S560x1_S560x32_0_1 (broadcastInDim S560x1 ![0] bcast_S560_S560x1_0 (cap32 m c)))
    (broadcastInDim S560x32 ![0, 1] bcast_S1x32_S560x32_0_1 (broadcastInDim S1x32 ![1] bcast_S32_S1x32_1 (cum32 m c)))) natLt_1_32
abbrev be32 : IVec S560 32 := minsi (Host.reduce IntOp.addi (hot32 m c) (constantI S_ 32 0#32) reducesTo_S560x32_S560_d1 h_S_)
    (broadcastInDim S560 ![] bcast_S_S560 (constantI S_ 32 31#32))

theorem V_be : V m c main_v27 = be32 m c := by
  unfold V
  simp only [List.flatten_cons, List.flatten_nil, List.append_nil, List.cons_append, List.nil_append]
  after_reads_simp
  simp -implicitDefEqProofs only [StableHlo.TRef.toBuf, StableHlo.TRef.ofBuf, cast_cast, cast_eq]
  rfl
theorem V_nv : V m c main_v28 = (shapeCast S1 (nv32 m c) shapeCasts_S_S1 : IVec S1 32) := by
  unfold V
  simp only [List.flatten_cons, List.flatten_nil, List.append_nil, List.cons_append, List.nil_append]
  after_reads_simp
  simp -implicitDefEqProofs only [StableHlo.TRef.toBuf, StableHlo.TRef.ofBuf, cast_cast, cast_eq]
  rfl
theorem V_wu : V m c main_v0 = (truncf .bf16 (m ((c : Thread nD τ).loc main_arg2) : FVec F S32x1024x2048 .f32) bitsLt_bf16_f32 : FVec F S32x1024x2048 .bf16) := by
  unfold V
  simp only [List.flatten_cons, List.flatten_nil, List.append_nil, List.cons_append, List.nil_append]
  after_reads_simp
  try rfl
theorem V_wd : V m c main_v1 = (truncf .bf16 (m ((c : Thread nD τ).loc main_arg4) : FVec F S32x1024x1024 .f32) bitsLt_bf16_f32 : FVec F S32x1024x1024 .bf16) := by
  unfold V
  simp only [List.flatten_cons, List.flatten_nil, List.append_nil, List.cons_append, List.nil_append]
  after_reads_simp
  try rfl
theorem V_bu : V m c main_v29 = (shapeCast S32x1x2048 (m ((c : Thread nD τ).loc main_arg3) : FVec F S32x2048 .f32) shapeCasts_S32x2048_S32x1x2048 : FVec F S32x1x2048 .f32) := by
  unfold V
  simp only [List.flatten_cons, List.flatten_nil, List.append_nil, List.cons_append, List.nil_append]
  after_reads_simp
  try rfl
theorem V_bd : V m c main_v30 = (shapeCast S32x1x1024 (m ((c : Thread nD τ).loc main_arg5) : FVec F S32x1024 .f32) shapeCasts_S32x1024_S32x1x1024 : FVec F S32x1x1024 .f32) := by
  unfold V
  simp only [List.flatten_cons, List.flatten_nil, List.append_nil, List.cons_append, List.nil_append]
  after_reads_simp
  try rfl
theorem V_arg0 : V m c main_arg0 = m ((c : Thread nD τ).loc main_arg0) := by
  unfold V
  simp only [List.flatten_cons, List.flatten_nil, List.append_nil, List.cons_append, List.nil_append]
  after_reads_simp

theorem V_arg1 : V m c main_arg1 = m ((c : Thread nD τ).loc main_arg1) := by
  unfold V
  simp only [List.flatten_cons, List.flatten_nil, List.append_nil, List.cons_append, List.nil_append]
  after_reads_simp

theorem V_arg2 : V m c main_arg2 = m ((c : Thread nD τ).loc main_arg2) := by
  unfold V
  simp only [List.flatten_cons, List.flatten_nil, List.append_nil, List.cons_append, List.nil_append]
  after_reads_simp

theorem V_arg3 : V m c main_arg3 = m ((c : Thread nD τ).loc main_arg3) := by
  unfold V
  simp only [List.flatten_cons, List.flatten_nil, List.append_nil, List.cons_append, List.nil_append]
  after_reads_simp

theorem V_arg4 : V m c main_arg4 = m ((c : Thread nD τ).loc main_arg4) := by
  unfold V
  simp only [List.flatten_cons, List.flatten_nil, List.append_nil, List.cons_append, List.nil_append]
  after_reads_simp

theorem V_arg5 : V m c main_arg5 = m ((c : Thread nD τ).loc main_arg5) := by
  unfold V
  simp only [List.flatten_cons, List.flatten_nil, List.append_nil, List.cons_append, List.nil_append]
  after_reads_simp

/-! ## The tables, entry by entry -/

/-- The counts as numbers. -/
abbrev cnts : ℕ → ℕ := cntOf (cnt32 m c)

variable {m c} (h : Counts (cnts m c))
include h

theorem nb32_ap (k : Fin 32) : nb32 m c (ix1 k) = BitVec.ofNat 32 (nb (cnts m c) k.val) := nb_ap _ h _ (cntOf_ap _) k
theorem cum32_ap (k : Fin 32) : cum32 m c (ix1 k) = BitVec.ofNat 32 (cum (cnts m c) (k.val + 1)) :=
  cum_ap _ (nb32_ap h) _ (bc0 _ _ _) _ _ k
theorem nv32_ap (j : S_.Idx) : nv32 m c j = BitVec.ofNat 32 (cum (cnts m c) 32) := by
  refine (shapeCast_apply _ _ j (ix1 (0 : Fin 1)) ?_).trans ?_
  · rw [eq_ix0 j]; rfl
  · exact (extractStridedSlice_apply _ _ _ _ (ix1 (⟨31, by decide⟩ : Fin 32)) (fun a => by match a with | ⟨0, _⟩ => rfl)).trans (cum32_ap h ⟨31, by decide⟩)
theorem cap32_ap (i : Fin 560) : cap32 m c (ix1 i) = BitVec.ofNat 32 (min i.val (cum (cnts m c) 32 - 1)) := by
  have h1 := cum_hi h
  have h2 := cum_lo h
  show IntOp.minsi (BitVec.ofNat 32 i.val) (broadcastInDim S560 ![] bcast_S_S560 (subi (nv32 m c) (constantI S_ 32 1#32)) (ix1 i)) = _
  rw [bc0, subi_ap, nv32_ap h, constantI_at, show (1#32 : BitVec 32) = BitVec.ofNat 32 1 from rfl, ofNat32_sub (by omega),
    PlanTiles.minsi_word (by omega) (by omega), Nat.min_comm]
theorem hot32_ap (i : Fin 560) (k : Fin 32) :
    hot32 m c (ix2 i k) = BitVec.ofNat 32 (if cum (cnts m c) (k.val + 1) ≤ min i.val (cum (cnts m c) 32 - 1) then 1 else 0) := by
  have h1 := cum_le h k
  show (IntOp.cmpi .sge (broadcastInDim S560x32 ![0, 1] bcast_S560x1_S560x32_0_1 (broadcastInDim S560x1 ![0] bcast_S560_S560x1_0 (cap32 m c)) (ix2 i k))
    (broadcastInDim S560x32 ![0, 1] bcast_S1x32_S560x32_0_1 (broadcastInDim S1x32 ![1] bcast_S32_S1x32_1 (cum32 m c)) (ix2 i k))).setWidth 32 = _
  rw [bcRows, bcCols, cap32_ap h, cum32_ap h, sge_bit (by omega) (by omega)]
theorem be32_ap (i : Fin 560) : be32 m c (ix1 i) = BitVec.ofNat 32 (blockE (cnts m c) i.val) := by
  have h1 : Nat.count (fun k => cum (cnts m c) (k + 1) ≤ min i.val (cum (cnts m c) 32 - 1)) 32 ≤ 32 := Nat.count_le _
  show IntOp.minsi (Host.reduce IntOp.addi (hot32 m c) (constantI S_ 32 0#32) reducesTo_S560x32_S560_d1 h_S_ (ix1 i))
    (broadcastInDim S560 ![] bcast_S_S560 (constantI S_ 32 31#32) (ix1 i)) = _
  rw [count_ap (hot32 m c) (fun i k => cum (cnts m c) (k + 1) ≤ min i (cum (cnts m c) 32 - 1)) (hot32_ap h), bc0, constantI_at,
    show (31#32 : BitVec 32) = BitVec.ofNat 32 31 from rfl, PlanTiles.minsi_word (by omega) (by omega), Nat.min_comm]
  rfl

omit h
theorem tabs (h : Counts (cnts m 0)) : Tabs m (cum (cnts m 0) 32) (blockE (cnts m 0)) where
  nvT j := by
    refine (congrFun (V_nv m 0) j).trans ?_
    exact nv32_ap h _
  beT j := by
    refine (congrFun (V_be m 0) j).trans ?_
    rw [eq_ix1 j]
    exact be32_ap h (j 0)
  nv_pos := cum_lo h
  nv_le := (cum_hi h).trans (by decide)
  be_lt := blockE_lt

end Cert.ExpertCall
-- ==== Proof.ExpertValue.lean ====
/-
  Hand-written, untrusted. The rows of one block of the experts call over the reals: two products with a gated activation between them.
-/
module

public import proofs.«01_k».proof.Proof.ExpertBody
public import Idealize.ShloMosaic.Lib.Pointwise
public import Idealize.ShloMosaic.Lib.MatmulPlain

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open scoped BigOperators

/-- The chunk and the lane of a column. -/
def hi8 (k : Fin 1024) : Fin 8 := ⟨k.val / 128, by omega⟩
def lo8 (k : Fin 1024) : Fin 128 := ⟨k.val % 128, by omega⟩

/-- The gate's bound, the linear half's lower bound, the gate's slope. -/
abbrev c7 : EReal := Ideal.ofBits .f32 0x40E00000#32
abbrev cn7 : EReal := Ideal.ofBits .f32 0xC0E00000#32
abbrev slope : EReal := Ideal.ofBits .f32 0x3FD9DB23#32

/-- The up product of one row. -/
def upRow (x : Fin 1024 → EReal) (w : Fin 1024 → Fin 2048 → EReal) (b : Fin 2048 → EReal) (f : Fin 2048) : EReal := (∑ k, x k * w k f) + b f

/-- The gated activation of one row. -/
def actRow (u : Fin 2048 → EReal) (f : Fin 1024) : EReal :=
  min (u ⟨f.val, by omega⟩) c7 * Ideal.div 1 (1 + Ideal.exp (-(slope * min (u ⟨f.val, by omega⟩) c7)))
    * (min c7 (max cn7 (u ⟨1024 + f.val, by omega⟩)) + 1)

/-- One row of the expert: the up product, the activation, the down product. -/
def ffnRow (x : Fin 1024 → EReal) (wu : Fin 1024 → Fin 2048 → EReal) (bu : Fin 2048 → EReal) (wd : Fin 1024 → Fin 1024 → EReal) (bd : Fin 1024 → EReal)
    (q : Fin 1024) : EReal := (∑ f, actRow (upRow x wu bu) f * wd f q) + bd q

theorem slope_neg : Ideal.ofBits .f32 0xBFD9DB23#32 = -slope := by
  simp [slope, Ideal.ofBits, Ideal.ieee, -EReal.coe_mul]

theorem cat_at {α : Type} (P : Fin 8 → S256x128.Idx → α)
    (h : Shape.Concatenates (([⟨S256x128, P 0⟩, ⟨S256x128, P 1⟩, ⟨S256x128, P 2⟩, ⟨S256x128, P 3⟩, ⟨S256x128, P 4⟩, ⟨S256x128, P 5⟩, ⟨S256x128, P 6⟩, ⟨S256x128, P 7⟩] : List ((s : Shape) × (s.Idx → α))).map (·.1)) S256x1024 1)
    (p : Fin 256) (k : Fin 1024) :
    concatenate S256x1024 1 [⟨S256x128, P 0⟩, ⟨S256x128, P 1⟩, ⟨S256x128, P 2⟩, ⟨S256x128, P 3⟩, ⟨S256x128, P 4⟩, ⟨S256x128, P 5⟩, ⟨S256x128, P 6⟩, ⟨S256x128, P 7⟩] h (ix2 p k)
      = P (hi8 k) (ix2 p (lo8 k)) :=
  concatenate_ofFn_apply (t := S256x1024) (s₁ := S256x128) 1 P h rfl 128 rfl (ix2 p k) (hi8 k) rfl (ix2 p (lo8 k)) rfl (fun b hb => by
    match b with
    | ⟨0, _⟩ => rfl
    | ⟨1, _⟩ => exact absurd rfl hb)

theorem up_dot (L : FVec Ideal S256x1024 .bf16) (R : FVec Ideal S1024x2048 .bf16) (p : Fin 256) (f : Fin 2048) :
    matmul dot_S256x1024_S1024x2048_S256x2048_1_0_0_1_n_n none L R (constant (F := Ideal) S256x2048 .f32 0x00000000#32) (ix2 p f)
      = ∑ k : Fin 1024, L (ix2 p k) * R (ix2 k f) := by
  pointwise [dot_S256x1024_S1024x2048_S256x2048_1_0_0_1_n_n]

theorem pay6_at (X : Vec Ideal S256x8x128 .f32) (WU : Vec Ideal S1x1024x2048 .bf16) (BU : Vec Ideal S1x1x2048 .f32) (p : Fin 256) (f : Fin 2048) :
    k0_pay6 (F := Ideal) (chunk X 0) (chunk X 1) (chunk X 2) (chunk X 3) (chunk X 4) (chunk X 5) (chunk X 6) (chunk X 7) WU BU (ix2 p f)
      = upRow (fun k => X (ix3 p (hi8 k) (lo8 k))) (fun k f => WU (ix3 (0 : Fin 1) k f)) (fun f => BU (ix3 (0 : Fin 1) (0 : Fin 1) f)) f := by
  unfold k0_pay6 upRow
  refine congrArg₂ (fun a b : EReal => a + b) ?_ ?_
  · refine (up_dot _ _ p f).trans ?_
    refine Finset.sum_congr rfl fun k _ => congrArg₂ (fun a b : EReal => a * b) ?_ ?_
    · refine (cat_at (fun s => shapeCast S256x128 (chunk X s) Facts₀.shapeCasts_S256x1x128_S256x128) Facts₀.concatenates_S256x128_S256x128_S256x128_S256x128_S256x128_S256x128_S256x128_S256x128_S256x1024_d1 p k).trans ?_
      pointwise [chunk]
      exact congrArg X (funext fun a => by match a with | ⟨0, _⟩ => rfl | ⟨1, _⟩ => rfl | ⟨2, _⟩ => rfl)
    · pointwise
  · pointwise

theorem pay7_at (X : Vec Ideal S256x8x128 .f32) (WU : Vec Ideal S1x1024x2048 .bf16) (BU : Vec Ideal S1x1x2048 .f32) (p : Fin 256) (f : Fin 1024) :
    k0_pay7 (F := Ideal) (chunk X 0) (chunk X 1) (chunk X 2) (chunk X 3) (chunk X 4) (chunk X 5) (chunk X 6) (chunk X 7) WU BU (ix2 p f)
      = min (upRow (fun k => X (ix3 p (hi8 k) (lo8 k))) (fun k f => WU (ix3 (0 : Fin 1) k f)) (fun f => BU (ix3 (0 : Fin 1) (0 : Fin 1) f)) ⟨f.val, by omega⟩) c7 := by
  rw [← pay6_at]
  unfold k0_pay7
  generalize k0_pay6 (F := Ideal) _ _ _ _ _ _ _ _ WU BU = v
  pointwise

theorem pay8_at (v28 : FVec Ideal S256x2048 .f32) (v31 : FVec Ideal S256x1024 .f32) (WD : Vec Ideal S1x1024x1024 .bf16) (BD : Vec Ideal S1x1x1024 .f32) (p : Fin 256) (q : Fin 1024) :
    k0_pay8 (F := Ideal) v28 v31 WD BD (ix2 p q)
      = (∑ f : Fin 1024, v31 (ix2 p f) * Ideal.div 1 (1 + Ideal.exp (Ideal.ofBits .f32 0xBFD9DB23#32 * v31 (ix2 p f)))
          * (min c7 (max cn7 (v28 (ix2 p (⟨1024 + f.val, by omega⟩ : Fin 2048)))) + 1) * WD (ix3 (0 : Fin 1) f q)) + BD (ix3 (0 : Fin 1) (0 : Fin 1) q) := by
  unfold k0_pay8
  pointwise

/-- The rows of a block are the expert's rows of its inputs. -/
theorem block_at (X : Vec Ideal S256x8x128 .f32) (WU : Vec Ideal S1x1024x2048 .bf16) (BU : Vec Ideal S1x1x2048 .f32) (WD : Vec Ideal S1x1024x1024 .bf16)
    (BD : Vec Ideal S1x1x1024 .f32) (p : Fin 256) (q : Fin 1024) :
    blockOut (F := Ideal) X WU BU WD BD (ix2 p q)
      = ffnRow (fun k => X (ix3 p (hi8 k) (lo8 k))) (fun k f => WU (ix3 (0 : Fin 1) k f)) (fun f => BU (ix3 (0 : Fin 1) (0 : Fin 1) f))
          (fun f q => WD (ix3 (0 : Fin 1) f q)) (fun q => BD (ix3 (0 : Fin 1) (0 : Fin 1) q)) q := by
  unfold blockOut ffnRow
  rw [pay8_at]
  refine congrArg₂ (fun a b : EReal => a + b) (Finset.sum_congr rfl fun f _ => ?_) rfl
  rw [pay7_at, pay6_at, slope_neg, EReal.neg_mul]
  rfl

end Cert.ExpertCall
-- ==== Proof.ExpertRun.lean ====
/-
  Hand-written, untrusted. The run of the experts call under its precondition: the arguments as they were, each row of a used block the row of its expert.
-/
module

public import proofs.«01_k».proof.Proof.ExpertEntry
public import proofs.«01_k».proof.Proof.ExpertValue

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat RDat)
open scoped BigOperators

section Run
variable (m : (ℓ : Loc nD τ sig) → Buf (Elt F) ℓ) (ρ : Dev nD → PrngReg)

theorem rest_0 : main_arg0 ∈ Pipeline.restRefs sig spec0 := Pipeline.mem_restRefs_of main_arg0 (by decide) (by decide)
theorem rest_2 : main_arg2 ∈ Pipeline.restRefs sig spec0 := Pipeline.mem_restRefs_of main_arg2 (by decide) (by decide)
theorem rest_3 : main_arg3 ∈ Pipeline.restRefs sig spec0 := Pipeline.mem_restRefs_of main_arg3 (by decide) (by decide)
theorem rest_4 : main_arg4 ∈ Pipeline.restRefs sig spec0 := Pipeline.mem_restRefs_of main_arg4 (by decide) (by decide)
theorem rest_5 : main_arg5 ∈ Pipeline.restRefs sig spec0 := Pipeline.mem_restRefs_of main_arg5 (by decide) (by decide)

theorem experts_run (hT : Counts (cnts m 0)) : θ_run defs (onTc (τ := τ) (main (F := F))) ⟨m, fun _ => 0, ρ⟩ (fun r =>
    (∀ c : Dev nD, (∀ i, (ptOf i).val < cum (cnts m 0) 32 → r.2.mem ((c : Thread nD τ).loc main_v31) i = outAt m (ok_tbl (tabs hT)) c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) := by
  have hok := ok_tbl (tabs hT)
  refine (θ_run defs _ _).mono (fun r hr => ⟨fun c => ?_, hr.2⟩) (run_main m ρ hok (BitVec.ofNat 32 (cum (cnts m 0) 32)) (tabs hT).nvT)
  obtain ⟨hF, -⟩ := hr
  refine ⟨fun i hi => rows_of m hok _ hF c i (cond_of_lt _ (tabs hT).nv_le hi), ?_, ?_, ?_, ?_, ?_, ?_⟩
  · exact ((hF c).2 main_arg0 rest_0).trans (V_arg0 m c)
  · obtain ⟨after, hL, hA⟩ := RDat.FramePost.exists_exact hF c
    exact (hA 0).trans ((Dat.arrAt_in _ 0 rfl _).trans (V_arg1 m c))
  · exact ((hF c).2 main_arg2 rest_2).trans (V_arg2 m c)
  · exact ((hF c).2 main_arg3 rest_3).trans (V_arg3 m c)
  · exact ((hF c).2 main_arg4 rest_4).trans (V_arg4 m c)
  · exact ((hF c).2 main_arg5 rest_5).trans (V_arg5 m c)
end Run

/-! ## The rows of a used block, over the reals -/

section Value
variable (m : (ℓ : Loc nD τ sig) → Buf (Elt Ideal) ℓ) {nv : ℕ} {be : ℕ → ℕ} (hT : Tabs m nv be) (c : Dev nD)
include hT

abbrev xIx (t : Fin 560) (y : S256x8x128.Idx) : S143360x8x128.Idx := (((cfgM m (ok_tbl hT)).win 0).rect t).emb y

theorem emb_x (t : Fin (cfgM m (ok_tbl hT)).N) (y : S256x8x128.Idx) (a : Fin 3) :
    (xIx m hT t y a).val = (![min (grid0.coords t 0).val (nv - 1), 0, 0] : Fin 3 → ℕ) a * S256x8x128.size a + (y a).val := by
  refine (Pipeline.Window.rect_emb_val ((cfgM m (ok_tbl hT)).win 0) t y a).trans ?_
  exact congrArg (fun f : Fin 3 → ℕ => f a * S256x8x128.size a + (y a).val) (index_x hT (grid0.coords t))

theorem x_ix (t : Fin 560) (ht : t.val < nv) (p : Fin 256) (a : Fin 8) (b : Fin 128) (r : Fin 143360) (hr : r.val = 256 * t.val + p.val) :
    xIx m hT t (ix3 p a b) = ix3 r a b := by
  funext ax
  apply Fin.ext
  refine (emb_x m hT t (ix3 p a b) ax).trans ?_
  rw [coord_val, Nat.min_eq_left (by omega)]
  match ax with
  | 0 => show t.val * 256 + p.val = r.val; omega
  | 1 => show 0 * 8 + a.val = a.val; omega
  | 2 => show 0 * 128 + b.val = b.val; omega

theorem x_at (t : Fin 560) (ht : t.val < nv) (p : Fin 256) (a : Fin 8) (b : Fin 128) (r : Fin 143360) (hr : r.val = 256 * t.val + p.val) :
    xs m (ok_tbl hT) c t (ix3 p a b) = (m ((c : Thread nD τ).loc main_arg1) : FVec Ideal S143360x8x128 .f32) (ix3 r a b) := by
  rw [← V_arg1 m c]
  exact congrArg (V m c main_arg1 : S143360x8x128.Idx → EReal) (x_ix m hT t ht p a b r hr)

section
attribute [local irreducible] cc0_transform_1
theorem map_wu (t : Fin (cfgM m (ok_tbl hT)).N) : ((cfgM m (ok_tbl hT)).win 1).index t = ix0 (tbl m) 1 (grid0.coords t) := rfl
omit hT in
theorem fun_wu (i : grid0.Coords) : ix0 (tbl m) 1 i = cc0_transform_1 Facts₀.k0_off1_inb Facts₀.numel1_S1 (tbl m) i := rfl
theorem block_wu (t : Fin (cfgM m (ok_tbl hT)).N) : ((cfgM m (ok_tbl hT)).win 1).index t = (![be (grid0.coords t 0).val, 0, 0] : Fin 3 → ℕ) :=
  (map_wu m hT t).trans ((fun_wu m _).trans (index_1 hT (grid0.coords t)))
end

abbrev wuIx (t : Fin 560) (y : S1x1024x2048.Idx) : S32x1024x2048.Idx := (((cfgM m (ok_tbl hT)).win 1).rect t).emb y

theorem emb_wu (t : Fin (cfgM m (ok_tbl hT)).N) (y : S1x1024x2048.Idx) (a : Fin 3) :
    (wuIx m hT t y a).val = (![be (grid0.coords t 0).val, 0, 0] : Fin 3 → ℕ) a * S1x1024x2048.size a + (y a).val := by
  refine (Pipeline.Window.rect_emb_val ((cfgM m (ok_tbl hT)).win 1) t y a).trans ?_
  rw [block_wu m hT t]
  rfl

theorem wu_ix (t : Fin 560) (e : Fin 32) (he : e.val = be t.val) (z : Fin 1) (k : Fin 1024) (f : Fin 2048) :
    wuIx m hT t (ix3 z k f) = ix3 e k f := by
  funext ax
  apply Fin.ext
  refine (emb_wu m hT t (ix3 z k f) ax).trans ?_
  rw [coord_val]
  have hz := z.isLt
  match ax with
  | ⟨0, _⟩ => show be t.val * 1 + z.val = e.val; omega
  | ⟨1, _⟩ => show 0 * 1024 + k.val = k.val; omega
  | ⟨2, _⟩ => show 0 * 2048 + f.val = f.val; omega

theorem wu_at (t : Fin 560) (e : Fin 32) (he : e.val = be t.val) (z : Fin 1) (k : Fin 1024) (f : Fin 2048) :
    wu m (ok_tbl hT) c t (ix3 z k f) = (V m c main_v0 : S32x1024x2048.Idx → EReal) (ix3 e k f) :=
  congrArg (V m c main_v0 : S32x1024x2048.Idx → EReal) (wu_ix m hT t e he z k f)

section
attribute [local irreducible] cc0_transform_2
theorem map_bu (t : Fin (cfgM m (ok_tbl hT)).N) : ((cfgM m (ok_tbl hT)).win 2).index t = ix0 (tbl m) 2 (grid0.coords t) := rfl
omit hT in
theorem fun_bu (i : grid0.Coords) : ix0 (tbl m) 2 i = cc0_transform_2 Facts₀.k0_off1_inb Facts₀.numel1_S1 (tbl m) i := rfl
theorem block_bu (t : Fin (cfgM m (ok_tbl hT)).N) : ((cfgM m (ok_tbl hT)).win 2).index t = (![be (grid0.coords t 0).val, 0, 0] : Fin 3 → ℕ) :=
  (map_bu m hT t).trans ((fun_bu m _).trans (index_2 hT (grid0.coords t)))
end

abbrev buIx (t : Fin 560) (y : S1x1x2048.Idx) : S32x1x2048.Idx := (((cfgM m (ok_tbl hT)).win 2).rect t).emb y

theorem emb_bu (t : Fin (cfgM m (ok_tbl hT)).N) (y : S1x1x2048.Idx) (a : Fin 3) :
    (buIx m hT t y a).val = (![be (grid0.coords t 0).val, 0, 0] : Fin 3 → ℕ) a * S1x1x2048.size a + (y a).val := by
  refine (Pipeline.Window.rect_emb_val ((cfgM m (ok_tbl hT)).win 2) t y a).trans ?_
  rw [block_bu m hT t]
  rfl

theorem bu_ix (t : Fin 560) (e : Fin 32) (he : e.val = be t.val) (z : Fin 1) (k : Fin 1) (f : Fin 2048) :
    buIx m hT t (ix3 z k f) = ix3 e k f := by
  funext ax
  apply Fin.ext
  refine (emb_bu m hT t (ix3 z k f) ax).trans ?_
  rw [coord_val]
  have hz := z.isLt
  match ax with
  | ⟨0, _⟩ => show be t.val * 1 + z.val = e.val; omega
  | ⟨1, _⟩ => show 0 * 1 + k.val = k.val; omega
  | ⟨2, _⟩ => show 0 * 2048 + f.val = f.val; omega

theorem bu_at (t : Fin 560) (e : Fin 32) (he : e.val = be t.val) (z : Fin 1) (k : Fin 1) (f : Fin 2048) :
    bu m (ok_tbl hT) c t (ix3 z k f) = (V m c main_v29 : S32x1x2048.Idx → EReal) (ix3 e k f) :=
  congrArg (V m c main_v29 : S32x1x2048.Idx → EReal) (bu_ix m hT t e he z k f)

section
attribute [local irreducible] cc0_transform_3
theorem map_wd (t : Fin (cfgM m (ok_tbl hT)).N) : ((cfgM m (ok_tbl hT)).win 3).index t = ix0 (tbl m) 3 (grid0.coords t) := rfl
omit hT in
theorem fun_wd (i : grid0.Coords) : ix0 (tbl m) 3 i = cc0_transform_3 Facts₀.k0_off1_inb Facts₀.numel1_S1 (tbl m) i := rfl
theorem block_wd (t : Fin (cfgM m (ok_tbl hT)).N) : ((cfgM m (ok_tbl hT)).win 3).index t = (![be (grid0.coords t 0).val, 0, 0] : Fin 3 → ℕ) :=
  (map_wd m hT t).trans ((fun_wd m _).trans (index_3 hT (grid0.coords t)))
end

abbrev wdIx (t : Fin 560) (y : S1x1024x1024.Idx) : S32x1024x1024.Idx := (((cfgM m (ok_tbl hT)).win 3).rect t).emb y

theorem emb_wd (t : Fin (cfgM m (ok_tbl hT)).N) (y : S1x1024x1024.Idx) (a : Fin 3) :
    (wdIx m hT t y a).val = (![be (grid0.coords t 0).val, 0, 0] : Fin 3 → ℕ) a * S1x1024x1024.size a + (y a).val := by
  refine (Pipeline.Window.rect_emb_val ((cfgM m (ok_tbl hT)).win 3) t y a).trans ?_
  rw [block_wd m hT t]
  rfl

theorem wd_ix (t : Fin 560) (e : Fin 32) (he : e.val = be t.val) (z : Fin 1) (k : Fin 1024) (f : Fin 1024) :
    wdIx m hT t (ix3 z k f) = ix3 e k f := by
  funext ax
  apply Fin.ext
  refine (emb_wd m hT t (ix3 z k f) ax).trans ?_
  rw [coord_val]
  have hz := z.isLt
  match ax with
  | ⟨0, _⟩ => show be t.val * 1 + z.val = e.val; omega
  | ⟨1, _⟩ => show 0 * 1024 + k.val = k.val; omega
  | ⟨2, _⟩ => show 0 * 1024 + f.val = f.val; omega

theorem wd_at (t : Fin 560) (e : Fin 32) (he : e.val = be t.val) (z : Fin 1) (k : Fin 1024) (f : Fin 1024) :
    wd m (ok_tbl hT) c t (ix3 z k f) = (V m c main_v1 : S32x1024x1024.Idx → EReal) (ix3 e k f) :=
  congrArg (V m c main_v1 : S32x1024x1024.Idx → EReal) (wd_ix m hT t e he z k f)

section
attribute [local irreducible] cc0_transform_4
theorem map_bd (t : Fin (cfgM m (ok_tbl hT)).N) : ((cfgM m (ok_tbl hT)).win 4).index t = ix0 (tbl m) 4 (grid0.coords t) := rfl
omit hT in
theorem fun_bd (i : grid0.Coords) : ix0 (tbl m) 4 i = cc0_transform_4 Facts₀.k0_off1_inb Facts₀.numel1_S1 (tbl m) i := rfl
theorem block_bd (t : Fin (cfgM m (ok_tbl hT)).N) : ((cfgM m (ok_tbl hT)).win 4).index t = (![be (grid0.coords t 0).val, 0, 0] : Fin 3 → ℕ) :=
  (map_bd m hT t).trans ((fun_bd m _).trans (index_4 hT (grid0.coords t)))
end

abbrev bdIx (t : Fin 560) (y : S1x1x1024.Idx) : S32x1x1024.Idx := (((cfgM m (ok_tbl hT)).win 4).rect t).emb y

theorem emb_bd (t : Fin (cfgM m (ok_tbl hT)).N) (y : S1x1x1024.Idx) (a : Fin 3) :
    (bdIx m hT t y a).val = (![be (grid0.coords t 0).val, 0, 0] : Fin 3 → ℕ) a * S1x1x1024.size a + (y a).val := by
  refine (Pipeline.Window.rect_emb_val ((cfgM m (ok_tbl hT)).win 4) t y a).trans ?_
  rw [block_bd m hT t]
  rfl

theorem bd_ix (t : Fin 560) (e : Fin 32) (he : e.val = be t.val) (z : Fin 1) (k : Fin 1) (f : Fin 1024) :
    bdIx m hT t (ix3 z k f) = ix3 e k f := by
  funext ax
  apply Fin.ext
  refine (emb_bd m hT t (ix3 z k f) ax).trans ?_
  rw [coord_val]
  have hz := z.isLt
  match ax with
  | ⟨0, _⟩ => show be t.val * 1 + z.val = e.val; omega
  | ⟨1, _⟩ => show 0 * 1 + k.val = k.val; omega
  | ⟨2, _⟩ => show 0 * 1024 + f.val = f.val; omega

theorem bd_at (t : Fin 560) (e : Fin 32) (he : e.val = be t.val) (z : Fin 1) (k : Fin 1) (f : Fin 1024) :
    bd m (ok_tbl hT) c t (ix3 z k f) = (V m c main_v30 : S32x1x1024.Idx → EReal) (ix3 e k f) :=
  congrArg (V m c main_v30 : S32x1x1024.Idx → EReal) (bd_ix m hT t e he z k f)

omit hT in
theorem cast_u (x : FVec Ideal S32x2048 .f32) (e : Fin 32) (z : Fin 1) (f : Fin 2048) :
    shapeCast S32x1x2048 x Facts₀.shapeCasts_S32x2048_S32x1x2048 (ix3 e z f) = x (ix2 e f) := by
  pointwise
omit hT in
theorem cast_d (x : FVec Ideal S32x1024 .f32) (e : Fin 32) (z : Fin 1) (f : Fin 1024) :
    shapeCast S32x1x1024 x Facts₀.shapeCasts_S32x1024_S32x1x1024 (ix3 e z f) = x (ix2 e f) := by
  pointwise

/-- Each row of a used block is the row of its expert. -/
theorem out_row (i : S143360x8x128.Idx) (hi : (ptOf i).val < nv) (e : Fin 32) (he : e.val = be (ptOf i).val) (q : Fin 1024) (hq : q.val = 128 * (i 1).val + (i 2).val) :
    outAt m (ok_tbl hT) c i
      = ffnRow (fun k => (m ((c : Thread nD τ).loc main_arg1) : FVec Ideal S143360x8x128 .f32) (ix3 (i 0) (hi8 k) (lo8 k)))
          (fun k f => (m ((c : Thread nD τ).loc main_arg2) : FVec Ideal S32x1024x2048 .f32) (ix3 e k f))
          (fun f => (m ((c : Thread nD τ).loc main_arg3) : FVec Ideal S32x2048 .f32) (ix2 e f))
          (fun f q => (m ((c : Thread nD τ).loc main_arg4) : FVec Ideal S32x1024x1024 .f32) (ix3 e f q))
          (fun q => (m ((c : Thread nD τ).loc main_arg5) : FVec Ideal S32x1024 .f32) (ix2 e q)) q := by
  unfold outAt outBlock
  have hc : colOf (inBlk i) = ix2 (⟨(i 0).val % 256, Nat.mod_lt _ (by decide)⟩ : Fin 256) q := by
    funext a
    match a with
    | ⟨0, _⟩ => rfl
    | ⟨1, _⟩ => exact Fin.ext hq.symm
  rw [hc, block_at]
  congr 1
  · funext k
    exact x_at m hT c (ptOf i) hi _ _ _ (i 0) (by show (i 0).val = 256 * ((i 0).val / 256) + (i 0).val % 256; omega)
  · funext k f
    rw [wu_at m hT c _ e he 0, V_wu]; rfl
  · funext f
    rw [bu_at m hT c _ e he 0, V_bu]; exact cast_u _ _ _ _
  · funext k f
    rw [wd_at m hT c _ e he 0, V_wd]; rfl
  · funext f
    rw [bd_at m hT c _ e he 0, V_bd]; exact cast_d _ _ _ _
end Value

end Cert.ExpertCall
-- ==== Proof.ExpertPre.lean ====
/-
  Hand-written, untrusted. What the precondition of the experts call says, and which rows its mask holds at.
-/
module

public import proofs.«01_k».proof.Proof.ExpertEntry
public import proofs.«01_k».proof.Proof.Gen.Pre_counted
public import proofs.«01_k».proof.Proof.Gen.On_in_expert_blocks

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Routing Idealize.ShloMosaic.ValueIdx Idealize.ShloMosaic.WordCmp Cert.Dispatch

section Pre
variable (a0 : FVec F S1x32 .f32) (a1 : FVec F S143360x8x128 .f32) (a2 : FVec F S32x1024x2048 .f32) (a3 : FVec F S32x2048 .f32)
  (a4 : FVec F S32x1024x1024 .f32) (a5 : FVec F S32x1024 .f32)

/-- The counts, as words. -/
abbrev cntA : IVec S32 32 := fptosi 32 (shapeCast S32 a0 shapeCasts_S1x32_S32)

theorem counted (h : (Cert.Pre_counted.fn (F := F) a0 a1 a2 a3 a4 a5).1 = (fun _ => 1#1) ∧ (Cert.Pre_counted.fn (F := F) a0 a1 a2 a3 a4 a5).2 = (fun _ => 1#1)) :
    Counts (cntOf (cntA a0)) := by
  obtain ⟨h1, h2⟩ := h
  simp only [Cert.Pre_counted.fn] at h1 h2
  refine counts_of (cntA a0) Cert.Pre_counted.Facts.reducesTo_S32_S_d0 Cert.Pre_counted.Facts.h_S_ (fun k => ?_) ?_
  · have e := congrFun h1 (ix1 k)
    rw [andi_at, cmpi_at, cmpi_at, bc0, bc0, constantI_at, constantI_at] at e
    exact e
  · exact congrFun h2 ix0

theorem used_of [Cert.On_in_expert_blocks.Facts] (hC : Counts (cntOf (cntA a0))) (i : S143360x8x128.Idx)
    (h : Cert.On_in_expert_blocks.fn (F := F) a0 a1 a2 a3 a4 a5 i = 1#1) : (i 0).val < cum (cntOf (cntA a0)) 32 * 256 := by
  have hi : (i 0).val < 143360 := (i 0).isLt
  have h559 := cum_hi hC
  have hs : Host.reduce IntOp.addi (muli (pyDiv bcast_S_S32 (subi (addi (cntA a0) (broadcastInDim S32 ![] bcast_S_S32 (constantI S_ 32 256#32))) (broadcastInDim S32 ![] bcast_S_S32 (constantI S_ 32 1#32))) (constantI S_ 32 256#32)) (broadcastInDim S32 ![] bcast_S_S32 (constantI S_ 32 256#32))) (constantI S_ 32 0#32)
      Cert.On_in_expert_blocks.Facts.reducesTo_S32_S_d0 Cert.On_in_expert_blocks.Facts.h_S_ ix0 = BitVec.ofNat 32 (cum (cntOf (cntA a0)) 32 * 256) := by
    rw [reduce_sum _ (fun k => nb (cntOf (cntA a0)) k * 256) (fun k => by rw [muli_ap, bc0, constantI_at, nb_ap bcast_S_S32 hC _ (cntOf_ap _) k, ← BitVec.ofNat_mul]),
      sum_range_map, ← Finset.sum_mul]
    rfl
  have e : IntOp.cmpi .slt (BitVec.ofNat 32 (i 0).val) (BitVec.ofNat 32 (cum (cntOf (cntA a0)) 32 * 256)) = 1#1 := by
    rw [← hs, ← h]
    exact (congrArg (IntOp.cmpi .slt (BitVec.ofNat 32 (i 0).val)) (bc0 _ _ _)).symm
  rw [cmpi_slt_ofNat (by omega) (by omega), ofBool_decide_eq_one_iff] at e
  exact e
end Pre

end Cert.ExpertCall
-- ==== Proof.ExpertGather.lean ====
/-
  Hand-written, untrusted. Reading a table of matrices by a column of numbers, entry by entry.
-/
module

public import proofs.«01_k».proof.Proof.ExpertTables

@[expose] public section

set_option maxRecDepth 16384

noncomputable section

namespace Cert.ExpertCall

open Cert.Dispatch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Routing Idealize.ShloMosaic.ValueIdx Idealize.ShloMosaic.WordCmp Cert.Dispatch

theorem only_mem (l : List (Fin 3)) (e : l = [0]) (i : ℕ) (h : i < l.length) : l[i] = 0 := by
  subst e
  exact List.mem_singleton.1 (List.getElem_mem h)
theorem pair_one (l l' : List (Fin 3)) (e : l = [1, 2]) (e' : l' = [1, 2]) (h : l'.idxOf 1 < l.length) : l[l'.idxOf 1] = 1 := by
  subst e; subst e'; rfl
theorem pair_two (l l' : List (Fin 3)) (e : l = [1, 2]) (e' : l' = [1, 2]) (h : l'.idxOf 2 < l.length) : l[l'.idxOf 2] = 2 := by
  subst e; subst e'; rfl

/-- Where the column holds `b` at `c`, matrix `c` of the result is matrix `b` of the table. -/
theorem gather_cube {α : Type} {nb A B n : ℕ} (d : GatherDims (shape3 nb A B) (shape2 n 1) (shape3 n A B)) (hoff : d.offsetDims = [1, 2])
    (hcoll : d.collapsedSliceDims = [0]) (hob : d.operandBatchingDims = []) (hsim : d.startIndexMap = [0]) (hivd : d.indexVectorDim = 1)
    (x : (shape3 nb A B).Idx → α) (idx : IVec (shape2 n 1) 32) (c : Fin n) (k : Fin A) (y : Fin B) (b : Fin nb)
    (hb : idx (ix2 c (0 : Fin 1)) = BitVec.ofNat 32 b.val) (hnb : nb < 2 ^ 31) :
    Host.gather d x idx (ix3 c k y) = x (ix3 b k y) := by
  unfold Host.gather
  refine congrArg x (funext fun a => Fin.ext ?_)
  have hbN : ∀ a', a' ∉ d.operandBatchingDims := fun a' => by rw [hob]; exact List.not_mem_nil
  have hs : (d.sKept : List (Fin 3)) = [1, 2] := by
    show (shape3 nb A B).kept (d.collapsedSliceDims ++ d.operandBatchingDims) = _
    rw [hcoll, hob]; rfl
  have hB : (d.batchDims : List (Fin 3)) = [0] := by
    show (shape3 n A B).kept d.offsetDims = _
    rw [hoff]; rfl
  have e0 : ∀ X : Fin 3, X = 0 → (ix3 c k y X).val = c.val := fun X h => by subst h; rfl
  have e1 : ∀ X : Fin 3, X = 1 → (ix3 c k y X).val = k.val := fun X h => by subst h; rfl
  have e2 : ∀ X : Fin 3, X = 2 → (ix3 c k y X).val = y.val := fun X h => by subst h; rfl
  match a with
  | ⟨0, _⟩ =>
    have hk : (0 : Fin 3) ∉ d.sKept := fun h => ((d.mem_sKept 0).1 h).1 (by rw [hcoll]; exact List.mem_singleton.2 rfl)
    have hm : (0 : Fin 3) ∈ d.startIndexMap := by rw [hsim]; exact List.mem_singleton.2 rfl
    have hsl : d.sliceSizes 0 = 1 := d.slice_collapsed 0 (by rw [hcoll]; exact List.mem_singleton.2 rfl)
    show d.start (ix3 c k y) idx 0 + d.batchCoord (ix3 c k y) 0 + d.offCoord (ix3 c k y) 0 = b.val
    rw [d.batchCoord_eq_zero _ _ (hbN 0), d.offCoord_eq_zero _ _ hk]
    simp only [Nat.add_zero]
    unfold GatherDims.start
    rw [dif_pos hm]
    have hsi : d.siIdx (ix3 c k y) ⟨d.startIndexMap.idxOf 0, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e0 _ (only_mem _ hB _ _)
      | ⟨1, _⟩ =>
        unfold GatherDims.siIdx
        rw [dif_pos (by rw [hivd])]
        show List.idxOf (0 : Fin 3) d.startIndexMap = 0
        rw [hsim]; rfl
    have hbl := b.isLt
    rw [hsi, hb, hsl, StableHlo.Predicate.toInt_ofNat_small _ (by omega)]
    show min ((b.val : Int)).toNat (nb - 1) = b.val
    omega
  | ⟨1, _⟩ =>
    have hk : (1 : Fin 3) ∈ d.sKept := by rw [hs]; exact (by decide : (1 : Fin 3) ∈ ([1, 2] : List (Fin 3)))
    have hm : (1 : Fin 3) ∉ d.startIndexMap := by rw [hsim]; exact (by decide : (1 : Fin 3) ∉ ([0] : List (Fin 3)))
    show d.start (ix3 c k y) idx 1 + d.batchCoord (ix3 c k y) 1 + d.offCoord (ix3 c k y) 1 = k.val
    rw [d.batchCoord_eq_zero _ _ (hbN 1), Nat.add_zero]
    unfold GatherDims.start GatherDims.offCoord
    rw [dif_neg hm, dif_pos hk, Nat.zero_add]
    exact e1 _ (pair_one _ _ hoff hs _)
  | ⟨2, _⟩ =>
    have hk : (2 : Fin 3) ∈ d.sKept := by rw [hs]; exact (by decide : (2 : Fin 3) ∈ ([1, 2] : List (Fin 3)))
    have hm : (2 : Fin 3) ∉ d.startIndexMap := by rw [hsim]; exact (by decide : (2 : Fin 3) ∉ ([0] : List (Fin 3)))
    show d.start (ix3 c k y) idx 2 + d.batchCoord (ix3 c k y) 2 + d.offCoord (ix3 c k y) 2 = y.val
    rw [d.batchCoord_eq_zero _ _ (hbN 2), Nat.add_zero]
    unfold GatherDims.start GatherDims.offCoord
    rw [dif_neg hm, dif_pos hk, Nat.zero_add]
    exact e2 _ (pair_two _ _ hoff hs _)

end Cert.ExpertCall
-- ==== Proof.RefExpertTables.lean ====
/-
  Hand-written, untrusted. The reference of the experts call: its result by parts, and the expert it takes for each block.
-/
module

public import proofs.«01_k».proof.Proof.ExpertGather
public import proofs.«01_k».proof.Proof.RefTables
public import proofs.«01_k».proof.Proof.Gen.RefExpertsIdeal.Run

@[expose] public section

set_option maxRecDepth 16384

noncomputable section

namespace Cert.ExpertCall

open Cert.RefExpertsIdeal Cert.RefExpertsIdeal.Gen Cert.RefExpertsIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Routing Idealize.ShloMosaic.ValueIdx Idealize.ShloMosaic.WordCmp Cert.Dispatch

/-! ## The result by parts -/

/-- The first product with its bias. -/
def upR (X : FVec F S560x256x1024 .f32) (GW : FVec F S560x1024x2048 .f32) (GB : FVec F S560x2048 .f32) : FVec F S560x256x2048 .f32 :=
  addf (Host.dotGeneral dot_S560x256x1024_S560x1024x2048_S560x256x2048_2_1_1_2_0_0 none X GW) (broadcastInDim S560x256x2048 ![0, 1, 2] bcast_S560x1x2048_S560x256x2048_0_1_2 (broadcastInDim S560x1x2048 ![0, 2] bcast_S560x2048_S560x1x2048_0_2 GB))

/-- The gated activation. -/
def actR (U : FVec F S560x256x2048 .f32) : FVec F S560x256x1024 .f32 :=
  mulf (mulf (minimumf (extractStridedSlice S560x256x1024 ![0, 0, 0] U slices_S560x256x2048_S560x256x1024_0_0_0) (broadcastInDim S560x256x1024 ![] bcast_S_S560x256x1024 (constant S_ .f32 0x40E00000#32))) (Host.divf (broadcastInDim S560x256x1024 ![] bcast_S_S560x256x1024 (constant S_ .f32 0x3F800000#32)) (addf (broadcastInDim S560x256x1024 ![] bcast_S_S560x256x1024 (constant S_ .f32 0x3F800000#32)) (Host.exp (Host.negf (mulf (broadcastInDim S560x256x1024 ![] bcast_S_S560x256x1024 (constant S_ .f32 0x3FD9DB23#32)) (minimumf (extractStridedSlice S560x256x1024 ![0, 0, 0] U slices_S560x256x2048_S560x256x1024_0_0_0) (broadcastInDim S560x256x1024 ![] bcast_S_S560x256x1024 (constant S_ .f32 0x40E00000#32))))))))) (addf (minimumf (broadcastInDim S560x256x1024 ![] bcast_S_S560x256x1024 (id (constant S_ .f32 0x40E00000#32))) (maximumf (broadcastInDim S560x256x1024 ![] bcast_S_S560x256x1024 (id (constant S_ .f32 0xC0E00000#32))) (extractStridedSlice S560x256x1024 ![0, 0, 1024] U slices_S560x256x2048_S560x256x1024_0_0_1024))) (broadcastInDim S560x256x1024 ![] bcast_S_S560x256x1024 (constant S_ .f32 0x3F800000#32)))

/-- The second product with its bias. -/
def downR (A : FVec F S560x256x1024 .f32) (GW : FVec F S560x1024x1024 .f32) (GB : FVec F S560x1024 .f32) : FVec F S560x256x1024 .f32 :=
  addf (Host.dotGeneral dot_S560x256x1024_S560x1024x1024_S560x256x1024_2_1_1_2_0_0 none A GW) (broadcastInDim S560x256x1024 ![0, 1, 2] bcast_S560x1x1024_S560x256x1024_0_1_2 (broadcastInDim S560x1x1024 ![0, 2] bcast_S560x1024_S560x1x1024_0_2 GB))

section Parts
variable (m : (ℓ : Loc nD τ sig) → Buf (Elt F) ℓ) (c : Dev nD)

abbrev cntR : IVec S32 32 := fptosi 32 (shapeCast S32 (m ((c.tc : Thread nD τ).loc main_arg0) : FVec F S1x32 .f32) shapeCasts_S1x32_S32)
abbrev nbR : IVec S32 32 := pyDiv bcast_S_S32 (subi (addi (cntR m c) (broadcastInDim S32 ![] bcast_S_S32 (constantI S_ 32 256#32)))
  (broadcastInDim S32 ![] bcast_S_S32 (constantI S_ 32 1#32))) (constantI S_ 32 256#32)
abbrev cumR : IVec S32 32 := Host.reduceWindow IntOp.addi ![32] ![1] ![31] ![0] (muli (nbR m c) (broadcastInDim S32 ![] bcast_S_S32 (constantI S_ 32 256#32)))
  (broadcastInDim S_ ![] bcast_S_S_ (constantI S_ 32 0#32)) reduceWindows_S32_S32_w32s1p31_0 h_S_
abbrev hotR : IVec S560x32 32 := extui 32 (cmpi .sle (broadcastInDim S560x32 ![0, 1] bcast_S1x32_S560x32_0_1 (broadcastInDim S1x32 ![1] bcast_S32_S1x32_1 (cumR m c)))
  (broadcastInDim S560x32 ![0, 1] bcast_S560x1_S560x32_0_1 (broadcastInDim S560x1 ![0] bcast_S560_S560x1_0 (muli (iotaInDim S560 32 0) (broadcastInDim S560 ![] bcast_S_S560 (constantI S_ 32 256#32)))))) natLt_1_32
abbrev beR : IVec S560 32 := minsi (broadcastInDim S560 ![] bcast_S_S560 (id (constantI S_ 32 31#32))) (maxsi (broadcastInDim S560 ![] bcast_S_S560 (id (constantI S_ 32 0#32)))
  (Host.reduce IntOp.addi (hotR m c) (constantI S_ 32 0#32) reducesTo_S560x32_S560_d1 h_S_))
abbrev idxR : IVec S560x1 32 := broadcastInDim S560x1 ![0] bcast_S560_S560x1_0 (select (cmpi .slt (beR m c) (broadcastInDim S560 ![] bcast_S_S560 (constantI S_ 32 0#32)))
  (addi (beR m c) (broadcastInDim S560 ![] bcast_S_S560 (constantI S_ 32 32#32))) (beR m c))

theorem res_parts : res_main_v75 m c = shapeCast S143360x8x128 (downR (actR (upR
      (shapeCast S560x256x1024 (m ((c.tc : Thread nD τ).loc main_arg1) : FVec F S143360x8x128 .f32) shapeCasts_S143360x8x128_S560x256x1024)
      (Host.gather gather_S32x1024x2048_S560x1_S560x1024x2048_12_0_n_n_0_1_110242048 (m ((c.tc : Thread nD τ).loc main_arg2) : FVec F S32x1024x2048 .f32) (idxR m c))
      (Host.gather gather_S32x2048_S560x1_S560x2048_1_0_n_n_0_1_12048 (m ((c.tc : Thread nD τ).loc main_arg3) : FVec F S32x2048 .f32) (idxR m c))))
      (Host.gather gather_S32x1024x1024_S560x1_S560x1024x1024_12_0_n_n_0_1_110241024 (m ((c.tc : Thread nD τ).loc main_arg4) : FVec F S32x1024x1024 .f32) (idxR m c))
      (Host.gather gather_S32x1024_S560x1_S560x1024_1_0_n_n_0_1_11024 (m ((c.tc : Thread nD τ).loc main_arg5) : FVec F S32x1024 .f32) (idxR m c)))
    shapeCasts_S560x256x1024_S143360x8x128 := by
  unfold res_main_v75 downR actR upR
  rfl

/-! ## The expert of each block -/

variable {m c} (h : Counts (cntOf (cntR m c)))
include h

theorem cumR_ap (k : Fin 32) : cumR m c (ix1 k) = BitVec.ofNat 32 (cum (cntOf (cntR m c)) (k.val + 1) * 256) :=
  cum256_ap bcast_S_S32 _ (fun k => nb_ap bcast_S_S32 h _ (cntOf_ap _) k) _ (bc0 _ _ _) _ _ k

theorem hotR_ap (i : Fin 560) (k : Fin 32) :
    hotR m c (ix2 i k) = BitVec.ofNat 32 (if cum (cntOf (cntR m c)) (k.val + 1) * 256 ≤ i.val * 256 then 1 else 0) := by
  have h1 := cum_le h k
  have hi := i.isLt
  show (IntOp.cmpi .sle (broadcastInDim S560x32 ![0, 1] bcast_S1x32_S560x32_0_1 (broadcastInDim S1x32 ![1] bcast_S32_S1x32_1 (cumR m c)) (ix2 i k))
    (broadcastInDim S560x32 ![0, 1] bcast_S560x1_S560x32_0_1 (broadcastInDim S560x1 ![0] bcast_S560_S560x1_0
      (muli (iotaInDim S560 32 0) (broadcastInDim S560 ![] bcast_S_S560 (constantI S_ 32 256#32)))) (ix2 i k))).setWidth 32 = _
  rw [bcCols, bcRows, cumR_ap h, muli_ap, iota1_ap, bc0, constantI_at, ← BitVec.ofNat_mul, sle_bit (by omega) (by omega)]

theorem beR_ap (i : Fin 560) (hi : i.val < cum (cntOf (cntR m c)) 32) : beR m c (ix1 i) = BitVec.ofNat 32 (blockE (cntOf (cntR m c)) i.val) := by
  have hc : Nat.count (fun k => cum (cntOf (cntR m c)) (k + 1) * 256 ≤ i.val * 256) 32
      = Nat.count (fun k => cum (cntOf (cntR m c)) (k + 1) ≤ min i.val (cum (cntOf (cntR m c)) 32 - 1)) 32 :=
    le_antisymm (Nat.count_mono_left fun k hk => by omega) (Nat.count_mono_left fun k hk => by omega)
  have h1 : Nat.count (fun k => cum (cntOf (cntR m c)) (k + 1) ≤ min i.val (cum (cntOf (cntR m c)) 32 - 1)) 32 ≤ 32 := Nat.count_le _
  show IntOp.minsi (broadcastInDim S560 ![] bcast_S_S560 (id (constantI S_ 32 31#32)) (ix1 i))
    (IntOp.maxsi (broadcastInDim S560 ![] bcast_S_S560 (id (constantI S_ 32 0#32)) (ix1 i))
      (Host.reduce IntOp.addi (hotR m c) (constantI S_ 32 0#32) reducesTo_S560x32_S560_d1 h_S_ (ix1 i))) = _
  rw [count_ap (hotR m c) (fun i k => cum (cntOf (cntR m c)) (k + 1) * 256 ≤ i * 256) (hotR_ap h), hc, bc0, bc0]
  show IntOp.minsi (BitVec.ofNat 32 31) (IntOp.maxsi 0#32 (BitVec.ofNat 32 _)) = _
  rw [maxsi_zero_left (by omega), PlanTiles.minsi_word (by omega) (by omega)]
  rfl

theorem idxR_ap (i : Fin 560) (hi : i.val < cum (cntOf (cntR m c)) 32) (e : Fin 32) (he : e.val = blockE (cntOf (cntR m c)) i.val) :
    idxR m c (ix2 i (0 : Fin 1)) = BitVec.ofNat 32 e.val := by
  rw [he]
  exact wrapped_ap _ _ _ _ i _ (beR_ap h i hi) (lt_trans (blockE_lt _) (by norm_num))
omit h

/-! ## The tables of each block -/

theorem wuR (x : FVec F S32x1024x2048 .f32) (idx : IVec S560x1 32) (i : Fin 560) (e : Fin 32) (he : idx (ix2 i (0 : Fin 1)) = BitVec.ofNat 32 e.val) (k : Fin 1024) (f : Fin 2048) :
    Host.gather gather_S32x1024x2048_S560x1_S560x1024x2048_12_0_n_n_0_1_110242048 x idx (ix3 i k f) = x (ix3 e k f) :=
  gather_cube _ rfl rfl rfl rfl rfl x idx i k f e he (by norm_num)
theorem buR (x : FVec F S32x2048 .f32) (idx : IVec S560x1 32) (i : Fin 560) (e : Fin 32) (he : idx (ix2 i (0 : Fin 1)) = BitVec.ofNat 32 e.val) (f : Fin 2048) :
    Host.gather gather_S32x2048_S560x1_S560x2048_1_0_n_n_0_1_12048 x idx (ix2 i f) = x (ix2 e f) :=
  gather_row _ rfl rfl rfl rfl rfl x idx i f e he (by norm_num)
theorem wdR (x : FVec F S32x1024x1024 .f32) (idx : IVec S560x1 32) (i : Fin 560) (e : Fin 32) (he : idx (ix2 i (0 : Fin 1)) = BitVec.ofNat 32 e.val) (k : Fin 1024) (f : Fin 1024) :
    Host.gather gather_S32x1024x1024_S560x1_S560x1024x1024_12_0_n_n_0_1_110241024 x idx (ix3 i k f) = x (ix3 e k f) :=
  gather_cube _ rfl rfl rfl rfl rfl x idx i k f e he (by norm_num)
theorem bdR (x : FVec F S32x1024 .f32) (idx : IVec S560x1 32) (i : Fin 560) (e : Fin 32) (he : idx (ix2 i (0 : Fin 1)) = BitVec.ofNat 32 e.val) (f : Fin 1024) :
    Host.gather gather_S32x1024_S560x1_S560x1024_1_0_n_n_0_1_11024 x idx (ix2 i f) = x (ix2 e f) :=
  gather_row _ rfl rfl rfl rfl rfl x idx i f e he (by norm_num)
end Parts

end Cert.ExpertCall
-- ==== Proof.RefExpertValue.lean ====
/-
  Hand-written, untrusted. The rows of the reference of the experts call, over the reals.
-/
module

public import proofs.«01_k».proof.Proof.RefExpertTables
public import proofs.«01_k».proof.Proof.ExpertValue
public import Idealize.ShloMosaic.Lib.Pointwise.IndexBridge

@[expose] public section

set_option maxRecDepth 16384

noncomputable section

namespace Cert.ExpertCall

open Cert.RefExpertsIdeal Cert.RefExpertsIdeal.Gen Cert.RefExpertsIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open scoped BigOperators

theorem upR_at (X : FVec Ideal S560x256x1024 .f32) (GW : FVec Ideal S560x1024x2048 .f32) (GB : FVec Ideal S560x2048 .f32) (t : Fin 560) (p : Fin 256) (f : Fin 2048) :
    upR X GW GB (ix3 t p f) = upRow (fun k => X (ix3 t p k)) (fun k f => GW (ix3 t k f)) (fun f => GB (ix2 t f)) f := by
  unfold upR upRow
  pointwise [dot_S560x256x1024_S560x1024x2048_S560x256x2048_2_1_1_2_0_0]

theorem actR_at (U : FVec Ideal S560x256x2048 .f32) (t : Fin 560) (p : Fin 256) (f : Fin 1024) :
    actR U (ix3 t p f) = actRow (fun f => U (ix3 t p f)) f := by
  unfold actR actRow
  pointwise
  rfl

theorem downR_at (A : FVec Ideal S560x256x1024 .f32) (GW : FVec Ideal S560x1024x1024 .f32) (GB : FVec Ideal S560x1024 .f32) (t : Fin 560) (p : Fin 256) (q : Fin 1024) :
    downR A GW GB (ix3 t p q) = (∑ f : Fin 1024, A (ix3 t p f) * GW (ix3 t f q)) + GB (ix2 t q) := by
  unfold downR
  pointwise [dot_S560x256x1024_S560x1024x1024_S560x256x1024_2_1_1_2_0_0]

theorem castR_x (x : FVec Ideal S143360x8x128 .f32) (t : Fin 560) (p : Fin 256) (k : Fin 1024) (r : Fin 143360) (hr : r.val = 256 * t.val + p.val) :
    shapeCast S560x256x1024 x shapeCasts_S143360x8x128_S560x256x1024 (ix3 t p k) = x (ix3 r (hi8 k) (lo8 k)) := by
  pointwise
  exact congrArg (fun z : Fin 143360 => x (ix3 z (hi8 k) (lo8 k))) (Fin.ext (by show t.val * 256 + p.val = r.val; omega))

theorem castR_out (x : FVec Ideal S560x256x1024 .f32) (i : S143360x8x128.Idx) (t : Fin 560) (p : Fin 256) (q : Fin 1024)
    (hr : (i 0).val = 256 * t.val + p.val) (hq : q.val = 128 * (i 1).val + (i 2).val) :
    shapeCast S143360x8x128 x shapeCasts_S560x256x1024_S143360x8x128 i = x (ix3 t p q) := by
  refine shapeCast_apply _ _ i (ix3 t p q) ?_
  rw [Shape.rowMajor_val_three, Shape.rowMajor_val_three]
  show (t.val * 256 + p.val) * 1024 + q.val = ((i 0).val * 8 + (i 1).val) * 128 + (i 2).val
  omega

theorem wuRow (x : FVec Ideal S32x1024x2048 .f32) (idx : IVec S560x1 32) (i : Fin 560) (e : Fin 32) (he : idx (ValueIdx.ix2 i (0 : Fin 1)) = BitVec.ofNat 32 e.val) (k : Fin 1024) (f : Fin 2048) :
    Host.gather gather_S32x1024x2048_S560x1_S560x1024x2048_12_0_n_n_0_1_110242048 x idx (ix3 i k f) = x (ix3 e k f) := by
  rw [ix3_eq_valueIdx, ix3_eq_valueIdx]; exact wuR x idx i e he k f
theorem wdRow (x : FVec Ideal S32x1024x1024 .f32) (idx : IVec S560x1 32) (i : Fin 560) (e : Fin 32) (he : idx (ValueIdx.ix2 i (0 : Fin 1)) = BitVec.ofNat 32 e.val) (k : Fin 1024) (f : Fin 1024) :
    Host.gather gather_S32x1024x1024_S560x1_S560x1024x1024_12_0_n_n_0_1_110241024 x idx (ix3 i k f) = x (ix3 e k f) := by
  rw [ix3_eq_valueIdx, ix3_eq_valueIdx]; exact wdR x idx i e he k f
theorem buRow (x : FVec Ideal S32x2048 .f32) (idx : IVec S560x1 32) (i : Fin 560) (e : Fin 32) (he : idx (ValueIdx.ix2 i (0 : Fin 1)) = BitVec.ofNat 32 e.val) (f : Fin 2048) :
    Host.gather gather_S32x2048_S560x1_S560x2048_1_0_n_n_0_1_12048 x idx (ix2 i f) = x (ix2 e f) := by
  rw [ix2_eq_valueIdx, ix2_eq_valueIdx]; exact buR x idx i e he f
theorem bdRow (x : FVec Ideal S32x1024 .f32) (idx : IVec S560x1 32) (i : Fin 560) (e : Fin 32) (he : idx (ValueIdx.ix2 i (0 : Fin 1)) = BitVec.ofNat 32 e.val) (f : Fin 1024) :
    Host.gather gather_S32x1024_S560x1_S560x1024_1_0_n_n_0_1_11024 x idx (ix2 i f) = x (ix2 e f) := by
  rw [ix2_eq_valueIdx, ix2_eq_valueIdx]; exact bdR x idx i e he f

section Row
variable (m : (ℓ : Loc nD τ sig) → Buf (Elt Ideal) ℓ) (c : Dev nD)

/-- Each row of a used block is the row of its expert. -/
theorem ref_row (h : Counts (cntOf (cntR m c))) (i : S143360x8x128.Idx) (hi : (i 0).val / 256 < cum (cntOf (cntR m c)) 32) (e : Fin 32)
    (he : e.val = blockE (cntOf (cntR m c)) ((i 0).val / 256)) (q : Fin 1024) (hq : q.val = 128 * (i 1).val + (i 2).val) :
    res_main_v75 m c i
      = ffnRow (fun k => (m ((c.tc : Thread nD τ).loc main_arg1) : FVec Ideal S143360x8x128 .f32) (ix3 (i 0) (hi8 k) (lo8 k)))
          (fun k f => (m ((c.tc : Thread nD τ).loc main_arg2) : FVec Ideal S32x1024x2048 .f32) (ix3 e k f))
          (fun f => (m ((c.tc : Thread nD τ).loc main_arg3) : FVec Ideal S32x2048 .f32) (ix2 e f))
          (fun f q => (m ((c.tc : Thread nD τ).loc main_arg4) : FVec Ideal S32x1024x1024 .f32) (ix3 e f q))
          (fun q => (m ((c.tc : Thread nD τ).loc main_arg5) : FVec Ideal S32x1024 .f32) (ix2 e q)) q := by
  have h0 : (i 0).val < 143360 := (i 0).isLt
  obtain ⟨t, ht⟩ : ∃ t : Fin 560, (i 0).val / 256 = t.val := Cert.Dispatch.fin_of_lt (by omega)
  obtain ⟨p, hp⟩ : ∃ p : Fin 256, (i 0).val % 256 = p.val := Cert.Dispatch.fin_of_lt (Nat.mod_lt _ (by decide))
  have hr : (i 0).val = 256 * t.val + p.val := by omega
  rw [ht] at hi he
  have hx := idxR_ap h t hi e he
  refine (congrFun (res_parts m c) i).trans ((castR_out _ i t p q hr hq).trans ((downR_at _ _ _ t p q).trans ?_))
  unfold ffnRow
  refine congrArg₂ (fun a b : EReal => a + b) (Finset.sum_congr rfl fun f _ => congrArg₂ (fun a b : EReal => a * b) ?_ ?_) ?_
  · refine (actR_at _ t p f).trans (congrArg (fun u => actRow u f) (funext fun g => (upR_at _ _ _ t p g).trans ?_))
    unfold upRow
    refine congrArg₂ (fun a b : EReal => a + b) (Finset.sum_congr rfl fun k _ => congrArg₂ (fun a b : EReal => a * b) ?_ ?_) ?_
    · exact castR_x _ t p k (i 0) hr
    · exact wuRow _ _ t e hx k g
    · exact buRow _ _ t e hx g
  · exact wdRow _ _ t e hx f q
  · exact bdRow _ _ t e hx q
end Row

end Cert.ExpertCall
-- ==== Proof.ExpertAgree.lean ====
/-
  Hand-written, untrusted. The run of the experts call and its reference leave the same rows, wherever the claim speaks of them.
-/
module

public import proofs.«01_k».proof.Proof.ExpertRun
public import proofs.«01_k».proof.Proof.ExpertPre
public import proofs.«01_k».proof.Proof.RefExpertValue

@[expose] public section

set_option maxRecDepth 16384

noncomputable section

namespace Cert.ExpertCall

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt Ideal) ℓ)
  (m' : (ℓ : Loc Cert.RefExpertsIdeal.nD Cert.RefExpertsIdeal.τ Cert.RefExpertsIdeal.sig) → Buf (Elt Ideal) ℓ)

theorem counts_eq (c : Dev nD)
    (h0 : m' ((c.tc : Thread Cert.RefExpertsIdeal.nD Cert.RefExpertsIdeal.τ).loc Cert.RefExpertsIdeal.main_arg0) = m ((c.tc : Thread nD τ).loc main_arg0)) :
    cntOf (cntR m' c) = cnts m 0 := by
  obtain rfl : c = 0 := Subsingleton.elim _ _
  exact congrArg (fun a : FVec Ideal S1x32 .f32 => cntOf (fptosi 32 (shapeCast S32 a Facts₀.shapeCasts_S1x32_S32))) h0

theorem agree [Cert.On_in_expert_blocks.Facts] (hT : Counts (cnts m 0)) (c : Dev nD)
    (h0 : m' ((c.tc : Thread Cert.RefExpertsIdeal.nD Cert.RefExpertsIdeal.τ).loc Cert.RefExpertsIdeal.main_arg0) = m ((c.tc : Thread nD τ).loc main_arg0))
    (h1 : m' ((c.tc : Thread Cert.RefExpertsIdeal.nD Cert.RefExpertsIdeal.τ).loc Cert.RefExpertsIdeal.main_arg1) = m ((c.tc : Thread nD τ).loc main_arg1))
    (h2 : m' ((c.tc : Thread Cert.RefExpertsIdeal.nD Cert.RefExpertsIdeal.τ).loc Cert.RefExpertsIdeal.main_arg2) = m ((c.tc : Thread nD τ).loc main_arg2))
    (h3 : m' ((c.tc : Thread Cert.RefExpertsIdeal.nD Cert.RefExpertsIdeal.τ).loc Cert.RefExpertsIdeal.main_arg3) = m ((c.tc : Thread nD τ).loc main_arg3))
    (h4 : m' ((c.tc : Thread Cert.RefExpertsIdeal.nD Cert.RefExpertsIdeal.τ).loc Cert.RefExpertsIdeal.main_arg4) = m ((c.tc : Thread nD τ).loc main_arg4))
    (h5 : m' ((c.tc : Thread Cert.RefExpertsIdeal.nD Cert.RefExpertsIdeal.τ).loc Cert.RefExpertsIdeal.main_arg5) = m ((c.tc : Thread nD τ).loc main_arg5))
    (i : S143360x8x128.Idx) (hi : (ptOf i).val < cum (cnts m 0) 32) :
    Cert.RefExpertsIdeal.Value.res_main_v75 m' c i = outAt m (ok_tbl (tabs hT)) c i := by
  have hc := counts_eq m m' c h0
  have b1 : (i 1).val < 8 := (i 1).isLt
  have b2 : (i 2).val < 128 := (i 2).isLt
  obtain ⟨q, hq⟩ : ∃ q : Fin 1024, 128 * (i 1).val + (i 2).val = q.val := Cert.Dispatch.fin_of_lt (by omega)
  obtain ⟨e, he⟩ : ∃ e : Fin 32, blockE (cnts m 0) (ptOf i).val = e.val := Cert.Dispatch.fin_of_lt (blockE_lt _)
  have hR := ref_row m' c (by rw [hc]; exact hT) i (by rw [hc]; exact hi) e (by rw [hc]; exact he.symm) q hq.symm
  have hK := out_row m (tabs hT) c i hi e he.symm q hq.symm
  rw [h1, h2, h3, h4, h5] at hR
  exact hR.trans hK.symm

theorem used [Cert.On_in_expert_blocks.Facts] (hT : Counts (cnts m 0)) (c : Dev nD) (i : S143360x8x128.Idx)
    (hi : Cert.On_in_expert_blocks.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) i = 1#1) :
    (ptOf i).val < cum (cnts m 0) 32 := by
  obtain rfl : c = 0 := Subsingleton.elim _ _
  have h : (i 0).val < cum (cnts m 0) 32 * 256 := used_of _ _ _ _ _ _ hT i hi
  show (i 0).val / 256 < _
  omega

end Cert.ExpertCall
-- ==== Proof.lean ====
/-
  Hand-written, untrusted. The certificate's claim, from the runs of the dispatch and of the experts call and the generated runs of their references.
-/
module

public import proofs.«01_k».proof.Defs
public import proofs.«01_k».proof.Proof.Run
public import proofs.«01_k».proof.Proof.Gen.Kernel
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_routed
public import proofs.«01_k».proof.Proof.Gen.On_in_used_blocks
public import proofs.«01_k».proof.Proof.Agree
public import proofs.«01_k».proof.Proof.ExpertAgree
public import proofs.«01_k».proof.Proof.Gen.Experts
public import proofs.«01_k».proof.Proof.Gen.ExpertsIdeal
public import proofs.«01_k».proof.Proof.Gen.RefExperts
public import proofs.«01_k».proof.Proof.Gen.RefExpertsIdeal
public import proofs.«01_k».proof.Proof.Gen.RefExpertsIdeal.Run
public import proofs.«01_k».proof.Proof.Gen.Pre_counted
public import proofs.«01_k».proof.Proof.Gen.On_in_expert_blocks
public import Idealize.ShloMosaic.Adequacy
public import Idealize.ShloMosaic.Init

@[expose] public section

namespace Cert.Proof

open Idealize.ShloMosaic Idealize.ShloMosaic.TcCoe Cert.Dispatch

/-! ## The frames -/

/-- The printed kernel and its idealisation are one program: a run of the one is a run of the other. -/
theorem same_run {F : FTy → Type} [FloatOps F] (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      = θ_run (Cert.KernelIdeal.defs (F := F)) (onTc (τ := Cert.KernelIdeal.τ) (Cert.KernelIdeal.main (F := F))) ⟨m, fun _ => 0, ρ⟩ := by
  chain_rfl

theorem frame_kernel : Cert.quiescent_Kernel := fun m ρ hp => by
  rewrite [same_run m ρ]
  exact (θ_run Cert.KernelIdeal.defs _ _).mono (fun _ h => ⟨fun c => (h.1 c).2, h.2⟩) (kernel_run (F := Bits) m ρ fun c => decoded _ _ _ _ (hp c))

theorem frame_kernelIdeal : Cert.quiescent_KernelIdeal := fun m ρ hp =>
  (θ_run Cert.KernelIdeal.defs _ _).mono (fun _ h => ⟨fun c => (h.1 c).2, h.2⟩) (kernel_run (F := Ideal) m ρ fun c => decoded _ _ _ _ (hp c))

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-! ## The values -/

/-- The reference and its idealisation are one program. -/
theorem same_ref_run {F : FTy → Type} [FloatOps F] (m : (ℓ : Loc Cert.Reference.nD Cert.Reference.τ Cert.Reference.sig) → Buf (Elt F) ℓ) (ρ : Dev Cert.Reference.nD → PrngReg) :
    θ_run (Cert.Reference.defs (F := F)) (onTc (τ := Cert.Reference.τ) (Cert.Reference.main (F := F))) ⟨m, fun _ => 0, ρ⟩
      = θ_run (Cert.ReferenceIdeal.defs (F := F)) (onTc (τ := Cert.ReferenceIdeal.τ) (Cert.ReferenceIdeal.main (F := F))) ⟨m, fun _ => 0, ρ⟩ := by
  chain_rfl

theorem values_bits : Cert.bitexact_Kernel_Reference_on_in_used_blocks := fun m ρ m' ρ' hp hargs => by
  have hA : ∀ c, Args m c := fun c => decoded _ _ _ _ (hp c)
  refine ⟨fun c => res m (experts m 0) c 66, ?_, ?_⟩
  · rewrite [same_run m ρ]
    exact (θ_run Cert.KernelIdeal.defs _ _).mono (fun r h c => ⟨fun i _ => congrFun (h.1 c).1 i, (h.1 c).2⟩) (kernel_run (F := Bits) m ρ hA)
  · rewrite [same_ref_run m' ρ']
    exact (θ_run Cert.ReferenceIdeal.defs _ _).mono (fun r h c => ⟨fun i hi => (congrFun (h c).1 i).trans (agree m m' hA c (hargs c).2.1 (hargs c).2.2.2 i hi), (h c).2⟩)
      (Cert.ReferenceIdeal.Value.run (F := Bits) m' ρ')

theorem values_ideal : Cert.algebraic_KernelIdeal_ReferenceIdeal_on_in_used_blocks := fun m ρ m' ρ' hp hargs => by
  have hA : ∀ c, Args m c := fun c => decoded _ _ _ _ (hp c)
  refine ⟨fun c => res m (experts m 0) c 66, ?_, ?_⟩
  · exact (θ_run Cert.KernelIdeal.defs _ _).mono (fun r h c => ⟨fun i _ => congrFun (h.1 c).1 i, (h.1 c).2⟩) (kernel_run (F := Ideal) m ρ hA)
  · exact (θ_run Cert.ReferenceIdeal.defs _ _).mono (fun r h c => ⟨fun i hi => (congrFun (h c).1 i).trans (agree m m' hA c (hargs c).2.1 (hargs c).2.2.2 i hi), (h c).2⟩)
      (Cert.ReferenceIdeal.Value.run (F := Ideal) m' ρ')

/-! ## The experts call -/

/-- The printed experts call and its idealisation are one program. -/
theorem same_experts_run {F : FTy → Type} [FloatOps F] (m : (ℓ : Loc Cert.Experts.nD Cert.Experts.τ Cert.Experts.sig) → Buf (Elt F) ℓ) (ρ : Dev Cert.Experts.nD → PrngReg) :
    θ_run (Cert.Experts.defs (F := F)) (onTc (τ := Cert.Experts.τ) (Cert.Experts.main (F := F))) ⟨m, fun _ => 0, ρ⟩
      = θ_run (Cert.ExpertsIdeal.defs (F := F)) (onTc (τ := Cert.ExpertsIdeal.τ) (Cert.ExpertsIdeal.main (F := F))) ⟨m, fun _ => 0, ρ⟩ := by
  chain_rfl

/-- So are its reference and that one's idealisation. -/
theorem same_refExperts_run {F : FTy → Type} [FloatOps F] (m : (ℓ : Loc Cert.RefExperts.nD Cert.RefExperts.τ Cert.RefExperts.sig) → Buf (Elt F) ℓ) (ρ : Dev Cert.RefExperts.nD → PrngReg) :
    θ_run (Cert.RefExperts.defs (F := F)) (onTc (τ := Cert.RefExperts.τ) (Cert.RefExperts.main (F := F))) ⟨m, fun _ => 0, ρ⟩
      = θ_run (Cert.RefExpertsIdeal.defs (F := F)) (onTc (τ := Cert.RefExpertsIdeal.τ) (Cert.RefExpertsIdeal.main (F := F))) ⟨m, fun _ => 0, ρ⟩ := by
  chain_rfl

theorem frame_experts : Cert.quiescent_Experts := fun m ρ hp => by
  rewrite [same_experts_run m ρ]
  exact (θ_run Cert.ExpertsIdeal.defs _ _).mono (fun _ h => ⟨fun c => (h.1 c).2, h.2⟩) (Cert.ExpertCall.experts_run (F := Bits) m ρ (Cert.ExpertCall.counted _ _ _ _ _ _ (hp 0)))

theorem frame_expertsIdeal : Cert.quiescent_ExpertsIdeal := fun m ρ hp =>
  (θ_run Cert.ExpertsIdeal.defs _ _).mono (fun _ h => ⟨fun c => (h.1 c).2, h.2⟩) (Cert.ExpertCall.experts_run (F := Ideal) m ρ (Cert.ExpertCall.counted _ _ _ _ _ _ (hp 0)))

theorem frame_refExperts : Cert.quiescent_RefExperts := fun m ρ _ => by
  rewrite [same_refExperts_run m ρ]
  exact (θ_run Cert.RefExpertsIdeal.defs _ _).mono (fun r h => ⟨fun c => (h c).2, sem_eq_zero_of_no_sems (by decide) r.2⟩) (Cert.RefExpertsIdeal.Value.run (F := Bits) m ρ)

theorem frame_refExpertsIdeal : Cert.quiescent_RefExpertsIdeal := fun m ρ _ =>
  (θ_run Cert.RefExpertsIdeal.defs _ _).mono (fun r h => ⟨fun c => (h c).2, sem_eq_zero_of_no_sems (by decide) r.2⟩) (Cert.RefExpertsIdeal.Value.run (F := Ideal) m ρ)

theorem values_experts : Cert.algebraic_ExpertsIdeal_RefExpertsIdeal_on_in_expert_blocks := fun m ρ m' ρ' hp hargs => by
  have hT := Cert.ExpertCall.counted _ _ _ _ _ _ (hp 0)
  refine ⟨fun c => Cert.ExpertCall.outAt m (Cert.ExpertCall.ok_tbl (Cert.ExpertCall.tabs hT)) c, ?_, ?_⟩
  · exact (θ_run Cert.ExpertsIdeal.defs _ _).mono (fun r h c => ⟨fun i hi => (h.1 c).1 i (Cert.ExpertCall.used m hT c i hi), (h.1 c).2⟩)
      (Cert.ExpertCall.experts_run (F := Ideal) m ρ hT)
  · exact (θ_run Cert.RefExpertsIdeal.defs _ _).mono (fun r h c => ⟨fun i hi => (congrFun (h c).1 i).trans
      (Cert.ExpertCall.agree m m' hT c (hargs c).1 (hargs c).2.1 (hargs c).2.2.1 (hargs c).2.2.2.1 (hargs c).2.2.2.2.1 (hargs c).2.2.2.2.2 i (Cert.ExpertCall.used m hT c i hi)), (h c).2⟩)
      (Cert.RefExpertsIdeal.Value.run (F := Ideal) m' ρ')

/-! ## The claim -/

theorem claim : Cert.Claim := ⟨Cert.Kernel.Gen.facts, Cert.KernelIdeal.Gen.facts, Cert.Reference.Gen.facts, Cert.ReferenceIdeal.Gen.facts,
  Cert.Experts.Gen.facts, Cert.ExpertsIdeal.Gen.facts, Cert.RefExperts.Gen.facts, Cert.RefExpertsIdeal.Gen.facts,
  Cert.Pre_routed.Gen.facts, Cert.Pre_counted.Gen.facts, Cert.On_in_used_blocks.Gen.facts, Cert.On_in_expert_blocks.Gen.facts,
  frame_kernel, frame_kernelIdeal, frame_reference, fun m ρ _ => frame_reference m ρ trivial, frame_referenceIdeal, fun m ρ _ => frame_referenceIdeal m ρ trivial,
  frame_experts, frame_expertsIdeal, frame_refExperts, frame_refExpertsIdeal, fun m ρ _ => frame_refExpertsIdeal m ρ trivial,
  trivial, values_bits, values_ideal, trivial, values_experts⟩

end Cert.Proof
